-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_input_gates_below_inf [hPre_input_gates_below_inf : Cert.Pre_input_gates_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_input_gates_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_input_gates_below_inf [hPre_input_gates_below_inf : Cert.Pre_input_gates_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_gates_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_input_gates_below_inf [hKernelIdeal : Cert.KernelIdeal.Facts] [hPre_input_gates_below_inf : Cert.Pre_input_gates_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_input_gates_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_input_gates_below_inf [hReferenceIdeal : Cert.ReferenceIdeal.Facts] [hPre_input_gates_below_inf : Cert.Pre_input_gates_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_input_gates_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_input_gates_below_inf [hKernelIdeal : Cert.KernelIdeal.Facts] [hReferenceIdeal : Cert.ReferenceIdeal.Facts] [hPre_input_gates_below_inf : Cert.Pre_input_gates_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_input_gates_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v102) = v0 c
          ∧ r.2.mem ((c.tc : Thread Cert.Reference3Ideal.nD Cert.Reference3Ideal.τ).loc Cert.Reference3Ideal.main_v104) = v1 c
          ∧ r.2.mem ((c.tc : Thread Cert.Reference3Ideal.nD Cert.Reference3Ideal.τ).loc Cert.Reference3Ideal.main_v105) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_input_gates_below_inf : Cert.Pre_input_gates_below_inf.Facts),
    quiescent_Kernel (hKernel := hKernel)
    ∧ quiescent_KernelIdeal (hKernelIdeal := hKernelIdeal)
    ∧ quiescent_KernelIdeal_pre_input_gates_below_inf (hKernelIdeal := hKernelIdeal) (hPre_input_gates_below_inf := hPre_input_gates_below_inf)
    ∧ quiescent_ReferenceIdeal (hReferenceIdeal := hReferenceIdeal)
    ∧ quiescent_ReferenceIdeal_pre_input_gates_below_inf (hReferenceIdeal := hReferenceIdeal) (hPre_input_gates_below_inf := hPre_input_gates_below_inf)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_input_gates_below_inf (hKernelIdeal := hKernelIdeal) (hReferenceIdeal := hReferenceIdeal) (hPre_input_gates_below_inf := hPre_input_gates_below_inf)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_input_gates_below_inf.lean ====
abbrev S32768x2048 : Shape := ⟨2, ![32768, 2048]⟩
abbrev S32768x12288 : Shape := ⟨2, ![32768, 12288]⟩
abbrev S32768x128 : Shape := ⟨2, ![32768, 128]⟩
abbrev S8 : Shape := ⟨1, ![8]⟩
abbrev S32768x4 : Shape := ⟨2, ![32768, 4]⟩
abbrev S4 : Shape := ⟨1, ![4]⟩
abbrev S1x4 : Shape := ⟨2, ![1, 4]⟩
abbrev S_ : Shape := ⟨0, ![]⟩

class Facts : Prop where
  slices_S32768x128_S32768x4_0_0 : S32768x128.Slices ![0, 0] S32768x4
  slices_S8_S4_0 : S8.Slices ![0] S4
  bcast_S4_S1x4_1 : S4.BroadcastsInDim S1x4 (![1] : Fin 1 → Fin S1x4.rank)
  bcast_S1x4_S32768x4_0_1 : S1x4.BroadcastsInDim S32768x4 (![0, 1] : Fin 2 → Fin S32768x4.rank)
  bcast_S_S32768x4 : S_.BroadcastsInDim S32768x4 (![] : Fin 0 → Fin S32768x4.rank)
  reducesTo_S32768x4_S_d0_1 : S32768x4.ReducesTo [0, 1] S_
  h_S_ : 0 < S_.numel

variable [Facts]

def fn {F : FTy → Type} [FloatOps F] (main_arg0 : FVec F S32768x2048 .bf16) (main_arg1 : FVec F S32768x12288 .bf16) (main_arg2 : FVec F S32768x128 .f32) (main_arg3 : FVec F S8 .f32) : IVec S_ 1 :=
  let main_v0 : FVec F S32768x4 .f32 := (extractStridedSlice S32768x4 ![0, 0] · slices_S32768x128_S32768x4_0_0) main_arg2
  let main_v1 : FVec F S4 .f32 := (extractStridedSlice S4 ![0] · slices_S8_S4_0) main_arg3
  let main_v2 : FVec F S1x4 .f32 := broadcastInDim S1x4 ![1] bcast_S4_S1x4_1 main_v1
  let main_v3 : FVec F S32768x4 .f32 := broadcastInDim S32768x4 ![0, 1] bcast_S1x4_S32768x4_0_1 main_v2
  let main_v4 : FVec F S32768x4 .f32 := addf main_v0 main_v3
  let main_cst : FVec F S_ .f32 := constant S_ .f32 0x7F800000#32
  let main_v5 : FVec F S32768x4 .f32 := broadcastInDim S32768x4 ![] bcast_S_S32768x4 main_cst
  let main_v6 : IVec S32768x4 1 := cmpf .olt main_v4 main_v5
  let main_c : IVec S_ 1 := constantI S_ 1 1#1
  let main_v7 : IVec S_ 1 := (fun x v => Host.reduce IntOp.andi x v reducesTo_S32768x4_S_d0_1 h_S_) main_v6 main_c
  main_v7
-- ==== Kernel.lean ====
abbrev S32768x2048 : Shape := ⟨2, ![32768, 2048]⟩
abbrev S32768x12288 : Shape := ⟨2, ![32768, 12288]⟩
abbrev S32768x128 : Shape := ⟨2, ![32768, 128]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S512x2048 : Shape := ⟨2, ![512, 2048]⟩
abbrev S512x128 : Shape := ⟨2, ![512, 128]⟩
abbrev S4x256x512 : Shape := ⟨3, ![4, 256, 512]⟩
abbrev S4x1x256 : Shape := ⟨3, ![4, 1, 256]⟩
abbrev S4x1x128 : Shape := ⟨3, ![4, 1, 128]⟩
abbrev S128x128 : Shape := ⟨2, ![128, 128]⟩
abbrev S128x1 : Shape := ⟨2, ![128, 1]⟩
abbrev S128 : Shape := ⟨1, ![128]⟩
abbrev S128x256 : Shape := ⟨2, ![128, 256]⟩
abbrev S1x1x128 : Shape := ⟨3, ![1, 1, 128]⟩
abbrev S1x1x256 : Shape := ⟨3, ![1, 1, 256]⟩
abbrev S1x256 : Shape := ⟨2, ![1, 256]⟩
abbrev S128x512 : Shape := ⟨2, ![128, 512]⟩
abbrev S1x256x512 : Shape := ⟨3, ![1, 256, 512]⟩
abbrev S256x512 : Shape := ⟨2, ![256, 512]⟩
abbrev S256 : Shape := ⟨1, ![256]⟩
abbrev S1x256x128 : Shape := ⟨3, ![1, 256, 128]⟩
abbrev S256x128 : Shape := ⟨2, ![256, 128]⟩

abbrev nBuf : Space → Nat
  | .hbm => 13
  | .vmem => 12
  | .smem => 0
  | _ => 0

abbrev bufTy : (tb : Table) → Fin (tcTables nBuf tb) → BufTy
  | .hbm, ⟨0, _⟩ => ⟨S32768x2048, .bf16⟩
  | .hbm, ⟨1, _⟩ => ⟨S32768x12288, .bf16⟩
  | .hbm, ⟨2, _⟩ => ⟨S32768x128, .f32⟩
  | .hbm, ⟨3, _⟩ => ⟨S8, .f32⟩
  | .hbm, ⟨4, _⟩ => ⟨S_, .f32⟩
  | .hbm, ⟨5, _⟩ => ⟨S1x128, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S1x128, .f32⟩
  | .hbm, ⟨12, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S512x2048, .bf16⟩
  | .local _ .vmem, ⟨8, _⟩ => ⟨S512x2048, .bf16⟩
  | .local _ .vmem, ⟨9, _⟩ => ⟨S4x256x512, .f32⟩
  | .local _ .vmem, ⟨10, _⟩ => ⟨S4x1x256, .f32⟩
  | .local _ .vmem, ⟨11, _⟩ => ⟨S4x1x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S32768x2048 : Shape := ⟨2, ![32768, 2048]⟩
abbrev S32768x12288 : Shape := ⟨2, ![32768, 12288]⟩
abbrev S32768x128 : Shape := ⟨2, ![32768, 128]⟩
abbrev S8 : Shape := ⟨1, ![8]⟩
abbrev S32768x1024 : Shape := ⟨2, ![32768, 1024]⟩
abbrev S32768x4 : Shape := ⟨2, ![32768, 4]⟩
abbrev S4 : Shape := ⟨1, ![4]⟩
abbrev S1x4 : Shape := ⟨2, ![1, 4]⟩
abbrev S8x4096x4x256 : Shape := ⟨4, ![8, 4096, 4, 256]⟩
abbrev S8x4096x4x512 : Shape := ⟨4, ![8, 4096, 4, 512]⟩
abbrev S8x4096x4 : Shape := ⟨3, ![8, 4096, 4]⟩
abbrev S8x32x128x4x256 : Shape := ⟨5, ![8, 32, 128, 4, 256]⟩
abbrev S32x8x4x128x256 : Shape := ⟨5, ![32, 8, 4, 128, 256]⟩
abbrev S_ : Shape := ⟨0, ![]⟩
abbrev S8x32x128x4x512 : Shape := ⟨5, ![8, 32, 128, 4, 512]⟩
abbrev S32x8x4x128x512 : Shape := ⟨5, ![32, 8, 4, 128, 512]⟩
abbrev S8x32x128x4 : Shape := ⟨4, ![8, 32, 128, 4]⟩
abbrev S32x8x4x128 : Shape := ⟨4, ![32, 8, 4, 128]⟩
abbrev S128x128 : Shape := ⟨2, ![128, 128]⟩
abbrev S8x4x512x256 : Shape := ⟨4, ![8, 4, 512, 256]⟩
abbrev S8x4x256 : Shape := ⟨3, ![8, 4, 256]⟩
abbrev S8x4 : Shape := ⟨2, ![8, 4]⟩
abbrev S1x8x4x128x256 : Shape := ⟨5, ![1, 8, 4, 128, 256]⟩
abbrev S8x4x128x256 : Shape := ⟨4, ![8, 4, 128, 256]⟩
abbrev S1x8x4x128x512 : Shape := ⟨5, ![1, 8, 4, 128, 512]⟩
abbrev S8x4x128x512 : Shape := ⟨4, ![8, 4, 128, 512]⟩
abbrev S1x8x4x128 : Shape := ⟨4, ![1, 8, 4, 128]⟩
abbrev S8x4x128 : Shape := ⟨3, ![8, 4, 128]⟩
abbrev S8x4x128x1 : Shape := ⟨4, ![8, 4, 128, 1]⟩
abbrev S8x4x1x128 : Shape := ⟨4, ![8, 4, 1, 128]⟩
abbrev S8x4x128x128 : Shape := ⟨4, ![8, 4, 128, 128]⟩
abbrev S8x4x1 : Shape := ⟨3, ![8, 4, 1]⟩
abbrev S8x4x1x1 : Shape := ⟨4, ![8, 4, 1, 1]⟩

abbrev nBuf : Space → Nat
  | .hbm => 205
  | .vmem => 0
  | .smem => 0
  | _ => 0

abbrev hbmTy0_0 (i : Nat) : BufTy := match i % 128 with
  | 0 => ⟨S32768x2048, .bf16⟩
  | 1 => ⟨S32768x12288, .bf16⟩
  | 2 => ⟨S32768x128, .f32⟩
  | 3 => ⟨S8, .f32⟩
  | 4 => ⟨S32768x1024, .bf16⟩
  | 5 => ⟨S32768x1024, .bf16⟩
  | 6 => ⟨S32768x2048, .bf16⟩
  | 7 => ⟨S32768x4, .f32⟩
  | 8 => ⟨S4, .f32⟩
  | 9 => ⟨S1x4, .f32⟩
  | 10 => ⟨S32768x4, .f32⟩
  | 11 => ⟨S32768x4, .f32⟩
  | 12 => ⟨S32768x4, .f32⟩
  | 13 => ⟨S4, .f32⟩
  | 14 => ⟨S1x4, .f32⟩
  | 15 => ⟨S32768x4, .f32⟩
  | 16 => ⟨S32768x4, .f32⟩
  | 17 => ⟨S8x4096x4x256, .bf16⟩
  | 18 => ⟨S8x4096x4x256, .bf16⟩
  | 19 => ⟨S8x4096x4x512, .bf16⟩
  | 20 => ⟨S8x4096x4, .f32⟩
  | 21 => ⟨S8x4096x4, .f32⟩
  | 22 => ⟨S8x4096x4x256, .f32⟩
  | 23 => ⟨S8x32x128x4x256, .f32⟩
  | 24 => ⟨S32x8x4x128x256, .f32⟩
  | 25 => ⟨S8x4096x4x256, .f32⟩
  | 26 => ⟨S8x32x128x4x256, .f32⟩
  | 27 => ⟨S32x8x4x128x256, .f32⟩
  | 28 => ⟨S_, .f32⟩
  | 29 => ⟨S32x8x4x128x256, .f32⟩
  | 30 => ⟨S32x8x4x128x256, .f32⟩
  | 31 => ⟨S8x4096x4x512, .f32⟩
  | 32 => ⟨S8x32x128x4x512, .f32⟩
  | 33 => ⟨S32x8x4x128x512, .f32⟩
  | 34 => ⟨S8x32x128x4, .f32⟩
  | 35 => ⟨S32x8x4x128, .f32⟩
  | 36 => ⟨S8x32x128x4, .f32⟩
  | 37 => ⟨S32x8x4x128, .f32⟩
  | 38 => ⟨S32x8x4x128, .f32⟩
  | 39 => ⟨S_, .f32⟩
  | 40 => ⟨S32x8x4x128, .f32⟩
  | 41 => ⟨S32x8x4x128, .f32⟩
  | 42 => ⟨S32x8x4x128, .f32⟩
  | 43 => ⟨S32x8x4x128, .f32⟩
  | 44 => ⟨S32x8x4x128, .i1⟩
  | 45 => ⟨S32x8x4x128, .f32⟩
  | 46 => ⟨S32x8x4x128, .f32⟩
  | 47 => ⟨S32x8x4x128, .f32⟩
  | 48 => ⟨S32x8x4x128, .f32⟩
  | 49 => ⟨S32x8x4x128, .f32⟩
  | 50 => ⟨S32x8x4x128, .f32⟩
  | 51 => ⟨S32x8x4x128, .f32⟩
  | 52 => ⟨S32x8x4x128, .f32⟩
  | 53 => ⟨S32x8x4x128, .f32⟩
  | 54 => ⟨S_, .i1⟩
  | 55 => ⟨S128x128, .i1⟩
  | 56 => ⟨S128x128, .i32⟩
  | 57 => ⟨S_, .i32⟩
  | 58 => ⟨S128x128, .i32⟩
  | 59 => ⟨S128x128, .i32⟩
  | 60 => ⟨S128x128, .i32⟩
  | 61 => ⟨S128x128, .i1⟩
  | 62 => ⟨S_, .i1⟩
  | 63 => ⟨S128x128, .i1⟩
  | 64 => ⟨S128x128, .i1⟩
  | 65 => ⟨S_, .f32⟩
  | 66 => ⟨S8x4x512x256, .f32⟩
  | 67 => ⟨S_, .f32⟩
  | 68 => ⟨S8x4x256, .f32⟩
  | 69 => ⟨S_, .f32⟩
  | 70 => ⟨S8x4, .f32⟩
  | 71 => ⟨S_, .f32⟩
  | 72 => ⟨S32x8x4x128x512, .f32⟩
  | 73 => ⟨S_, .i32⟩
  | 74 => ⟨S32x8x4x128x256, .f32⟩
  | 75 => ⟨S32x8x4x128x256, .f32⟩
  | 76 => ⟨S32x8x4x128x512, .f32⟩
  | 77 => ⟨S32x8x4x128, .f32⟩
  | 78 => ⟨S32x8x4x128, .f32⟩
  | 79 => ⟨S128x128, .i1⟩
  | 80 => ⟨S_, .i32⟩
  | 81 => ⟨S8x4x512x256, .f32⟩
  | 82 => ⟨S8x4x256, .f32⟩
  | 83 => ⟨S8x4, .f32⟩
  | 84 => ⟨S32x8x4x128x512, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1x8x4x128x256, .f32⟩
  | 92 => ⟨S8x4x128x256, .f32⟩
  | 93 => ⟨S_, .i32⟩
  | 94 => ⟨S_, .i32⟩
  | 95 => ⟨S_, .i32⟩
  | 96 => ⟨S_, .i32⟩
  | 97 => ⟨S1x8x4x128x256, .f32⟩
  | 98 => ⟨S8x4x128x256, .f32⟩
  | 99 => ⟨S_, .i32⟩
  | 100 => ⟨S_, .i32⟩
  | 101 => ⟨S_, .i32⟩
  | 102 => ⟨S_, .i32⟩
  | 103 => ⟨S1x8x4x128x512, .f32⟩
  | 104 => ⟨S8x4x128x512, .f32⟩
  | 105 => ⟨S_, .i32⟩
  | 106 => ⟨S_, .i32⟩
  | 107 => ⟨S_, .i32⟩
  | 108 => ⟨S1x8x4x128, .f32⟩
  | 109 => ⟨S8x4x128, .f32⟩
  | 110 => ⟨S_, .i32⟩
  | 111 => ⟨S_, .i32⟩
  | 112 => ⟨S_, .i32⟩
  | 113 => ⟨S1x8x4x128, .f32⟩
  | 114 => ⟨S8x4x128, .f32⟩
  | 115 => ⟨S_, .f32⟩
  | 116 => ⟨S_, .f32⟩
  | 117 => ⟨S8x4x128, .f32⟩
  | 118 => ⟨S8x4x128x1, .f32⟩
  | 119 => ⟨S8x4x1x128, .f32⟩
  | 120 => ⟨S8x4x128x128, .f32⟩
  | 121 => ⟨S8x4x128x128, .f32⟩
  | 122 => ⟨S8x4x128x128, .f32⟩
  | 123 => ⟨S8x4x1x128, .f32⟩
  | 124 => ⟨S8x4x128x128, .f32⟩
  | 125 => ⟨S8x4x128x128, .f32⟩
  | 126 => ⟨S_, .f32⟩
  | 127 => ⟨S_, .f32⟩
  | _ => ⟨S32768x2048, .bf16⟩

abbrev hbmTy0_1 (i : Nat) : BufTy := match i % 128 with
  | 0 => ⟨S8x4x128x128, .i1⟩
  | 1 => ⟨S8x4x128x128, .f32⟩
  | 2 => ⟨S8x4x128x128, .f32⟩
  | 3 => ⟨S8x4x1, .f32⟩
  | 4 => ⟨S8x4x128, .f32⟩
  | 5 => ⟨S8x4x128, .f32⟩
  | 6 => ⟨S_, .f32⟩
  | 7 => ⟨S8x4x128, .f32⟩
  | 8 => ⟨S8x4x128, .f32⟩
  | 9 => ⟨S8x4x128, .f32⟩
  | 10 => ⟨S8x4x128, .f32⟩
  | 11 => ⟨S8x4x128x128, .f32⟩
  | 12 => ⟨S8x4x128x1, .f32⟩
  | 13 => ⟨S8x4x128x128, .f32⟩
  | 14 => ⟨S8x4x128x128, .f32⟩
  | 15 => ⟨S8x4x128x128, .f32⟩
  | 16 => ⟨S8x4x128x128, .f32⟩
  | 17 => ⟨S8x4x128x1, .f32⟩
  | 18 => ⟨S8x4x128x512, .f32⟩
  | 19 => ⟨S8x4x128x512, .f32⟩
  | 20 => ⟨S8x4x128x512, .f32⟩
  | 21 => ⟨S8x4x128x512, .f32⟩
  | 22 => ⟨S8x4x128x512, .f32⟩
  | 23 => ⟨S8x4x128, .f32⟩
  | 24 => ⟨S8x4x128, .f32⟩
  | 25 => ⟨S_, .f32⟩
  | 26 => ⟨S8x4x128, .f32⟩
  | 27 => ⟨S8x4x128, .f32⟩
  | 28 => ⟨S8x4x128, .f32⟩
  | 29 => ⟨S8x4x128, .f32⟩
  | 30 => ⟨S8x4x128, .f32⟩
  | 31 => ⟨S8x4x128, .f32⟩
  | 32 => ⟨S8x4x128x1, .f32⟩
  | 33 => ⟨S8x4x128x512, .f32⟩
  | 34 => ⟨S8x4x128x512, .f32⟩
  | 35 => ⟨S8x4x1, .f32⟩
  | 36 => ⟨S8x4, .f32⟩
  | 37 => ⟨S8x4x1, .f32⟩
  | 38 => ⟨S8x4x128, .f32⟩
  | 39 => ⟨S8x4x128, .f32⟩
  | 40 => ⟨S8x4x128, .f32⟩
  | 41 => ⟨S8x4, .f32⟩
  | 42 => ⟨S_, .f32⟩
  | 43 => ⟨S8x4, .f32⟩
  | 44 => ⟨S8x4, .f32⟩
  | 45 => ⟨S8x4, .f32⟩
  | 46 => ⟨S8x4, .f32⟩
  | 47 => ⟨S8x4, .f32⟩
  | 48 => ⟨S8x4x1, .f32⟩
  | 49 => ⟨S8x4x128, .f32⟩
  | 50 => ⟨S8x4x128, .f32⟩
  | 51 => ⟨S8x4x128, .f32⟩
  | 52 => ⟨S8x4x1x1, .f32⟩
  | 53 => ⟨S8x4x512x256, .f32⟩
  | 54 => ⟨S8x4x512x256, .f32⟩
  | 55 => ⟨S8x4x128x1, .f32⟩
  | 56 => ⟨S8x4x128x512, .f32⟩
  | 57 => ⟨S8x4x128x512, .f32⟩
  | 58 => ⟨S8x4x512x256, .f32⟩
  | 59 => ⟨S8x4x512x256, .f32⟩
  | 60 => ⟨S8x4x1, .f32⟩
  | 61 => ⟨S8x4x256, .f32⟩
  | 62 => ⟨S8x4x256, .f32⟩
  | 63 => ⟨S8x4x256, .f32⟩
  | 64 => ⟨S8x4x256, .f32⟩
  | 65 => ⟨S1x8x4x128x512, .f32⟩
  | 66 => ⟨S_, .i32⟩
  | 67 => ⟨S_, .i32⟩
  | 68 => ⟨S_, .i32⟩
  | 69 => ⟨S_, .i32⟩
  | 70 => ⟨S32x8x4x128x512, .f32⟩
  | 71 => ⟨S_, .i32⟩
  | 72 => ⟨S_, .i32⟩
  | 73 => ⟨S8x32x128x4x512, .f32⟩
  | 74 => ⟨S8x4096x4x512, .f32⟩
  | 75 => ⟨S32768x2048, .f32⟩
  | 76 => ⟨S32768x2048, .bf16⟩
  | _ => ⟨S32768x2048, .bf16⟩

abbrev hbmTy (i : Nat) : BufTy := match i / 128 with
  | 0 => hbmTy0_0 i
  | 1 => hbmTy0_1 i
  | _ => ⟨S32768x2048, .bf16⟩

abbrev bufTy : (tb : Table) → Fin (tcTables nBuf tb) → BufTy
  | .hbm, ⟨i, _⟩ => hbmTy i
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_v34 : Ref sig .tc := ⟨.hbm, 52, rfl⟩
abbrev main_v35 : Ref sig .tc := ⟨.hbm, 53, rfl⟩
abbrev main_c : Ref sig .tc := ⟨.hbm, 54, rfl⟩
abbrev main_v36 : Ref sig .tc := ⟨.hbm, 55, rfl⟩
abbrev main_call1_v0 : Ref sig .tc := ⟨.hbm, 56, rfl⟩
abbrev main_call1_c : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_0 : Ref sig .tc := ⟨.hbm, 62, rfl⟩
abbrev main_call1_v5 : Ref sig .tc := ⟨.hbm, 63, rfl⟩
abbrev main_v37 : Ref sig .tc := ⟨.hbm, 64, rfl⟩
abbrev main_cst_0 : Ref sig .tc := ⟨.hbm, 65, rfl⟩
abbrev main_v38 : Ref sig .tc := ⟨.hbm, 66, rfl⟩
abbrev main_cst_1 : Ref sig .tc := ⟨.hbm, 67, rfl⟩
abbrev main_v39 : Ref sig .tc := ⟨.hbm, 68, rfl⟩
abbrev main_cst_2 : Ref sig .tc := ⟨.hbm, 69, rfl⟩
abbrev main_v40 : Ref sig .tc := ⟨.hbm, 70, rfl⟩
abbrev main_cst_3 : Ref sig .tc := ⟨.hbm, 71, rfl⟩
abbrev main_v41 : Ref sig .tc := ⟨.hbm, 72, rfl⟩
abbrev main_c_4 : Ref sig .tc := ⟨.hbm, 73, rfl⟩
abbrev main_v42_0 : Ref sig .tc := ⟨.hbm, 74, rfl⟩
abbrev main_v42_1 : Ref sig .tc := ⟨.hbm, 75, rfl⟩
abbrev main_v42_2 : Ref sig .tc := ⟨.hbm, 76, rfl⟩
abbrev main_v42_3 : Ref sig .tc := ⟨.hbm, 77, rfl⟩
abbrev main_v42_4 : Ref sig .tc := ⟨.hbm, 78, rfl⟩
abbrev main_v42_5 : Ref sig .tc := ⟨.hbm, 79, rfl⟩
abbrev main_v42_6 : Ref sig .tc := ⟨.hbm, 80, rfl⟩
abbrev main_v42_7 : Ref sig .tc := ⟨.hbm, 81, rfl⟩
abbrev main_v42_8 : Ref sig .tc := ⟨.hbm, 82, rfl⟩
abbrev main_v42_9 : Ref sig .tc := ⟨.hbm, 83, rfl⟩
abbrev main_v42_10 : Ref sig .tc := ⟨.hbm, 84, rfl⟩
abbrev main_while0c_c_15 : Ref sig .tc := ⟨.hbm, 85, rfl⟩
abbrev main_while0c_v47 : Ref sig .tc := ⟨.hbm, 86, rfl⟩
abbrev main_while0b_call2_c : Ref sig .tc := ⟨.hbm, 87, rfl⟩
abbrev main_while0b_call2_c_0 : Ref sig .tc := ⟨.hbm, 88, rfl⟩
abbrev main_while0b_call2_c_1 : Ref sig .tc := ⟨.hbm, 89, rfl⟩
abbrev main_while0b_call2_c_2 : Ref sig .tc := ⟨.hbm, 90, rfl⟩
abbrev main_while0b_call2_v0 : Ref sig .tc := ⟨.hbm, 91, rfl⟩
abbrev main_while0b_v47 : Ref sig .tc := ⟨.hbm, 92, rfl⟩
abbrev main_while0b_call3_c : Ref sig .tc := ⟨.hbm, 93, rfl⟩
abbrev main_while0b_call3_c_0 : Ref sig .tc := ⟨.hbm, 94, rfl⟩
abbrev main_while0b_call3_c_1 : Ref sig .tc := ⟨.hbm, 95, rfl⟩
abbrev main_while0b_call3_c_2 : Ref sig .tc := ⟨.hbm, 96, rfl⟩
abbrev main_while0b_call3_v0 : Ref sig .tc := ⟨.hbm, 97, rfl⟩
abbrev main_while0b_v48 : Ref sig .tc := ⟨.hbm, 98, rfl⟩
abbrev main_while0b_call4_c : Ref sig .tc := ⟨.hbm, 99, rfl⟩
abbrev main_while0b_call4_c_0 : Ref sig .tc := ⟨.hbm, 100, rfl⟩
abbrev main_while0b_call4_c_1 : Ref sig .tc := ⟨.hbm, 101, rfl⟩
abbrev main_while0b_call4_c_2 : Ref sig .tc := ⟨.hbm, 102, rfl⟩
abbrev main_while0b_call4_v0 : Ref sig .tc := ⟨.hbm, 103, rfl⟩
abbrev main_while0b_v49 : Ref sig .tc := ⟨.hbm, 104, rfl⟩
abbrev main_while0b_call5_c : Ref sig .tc := ⟨.hbm, 105, rfl⟩
abbrev main_while0b_call5_c_0 : Ref sig .tc := ⟨.hbm, 106, rfl⟩
abbrev main_while0b_call5_c_1 : Ref sig .tc := ⟨.hbm, 107, rfl⟩
abbrev main_while0b_call5_v0 : Ref sig .tc := ⟨.hbm, 108, rfl⟩
abbrev main_while0b_v50 : Ref sig .tc := ⟨.hbm, 109, rfl⟩
abbrev main_while0b_call6_c : Ref sig .tc := ⟨.hbm, 110, rfl⟩
abbrev main_while0b_call6_c_0 : Ref sig .tc := ⟨.hbm, 111, rfl⟩
abbrev main_while0b_call6_c_1 : Ref sig .tc := ⟨.hbm, 112, rfl⟩
abbrev main_while0b_call6_v0 : Ref sig .tc := ⟨.hbm, 113, rfl⟩
abbrev main_while0b_v51 : Ref sig .tc := ⟨.hbm, 114, rfl⟩
abbrev main_while0b_call7_call0_cst : Ref sig .tc := ⟨.hbm, 115, rfl⟩
abbrev main_while0b_call7_call0_v0 : Ref sig .tc := ⟨.hbm, 116, rfl⟩
abbrev main_while0b_v52 : Ref sig .tc := ⟨.hbm, 117, rfl⟩
abbrev main_while0b_v53 : Ref sig .tc := ⟨.hbm, 118, rfl⟩
abbrev main_while0b_v54 : Ref sig .tc := ⟨.hbm, 119, rfl⟩
abbrev main_while0b_v55 : Ref sig .tc := ⟨.hbm, 120, rfl⟩
abbrev main_while0b_v56 : Ref sig .tc := ⟨.hbm, 121, rfl⟩
abbrev main_while0b_v57 : Ref sig .tc := ⟨.hbm, 122, rfl⟩
abbrev main_while0b_v58 : Ref sig .tc := ⟨.hbm, 123, rfl⟩
abbrev main_while0b_v59 : Ref sig .tc := ⟨.hbm, 124, rfl⟩
abbrev main_while0b_v60 : Ref sig .tc := ⟨.hbm, 125, rfl⟩
abbrev main_while0b_cst_15 : Ref sig .tc := ⟨.hbm, 126, rfl⟩
abbrev main_while0b_call8_v0 : Ref sig .tc := ⟨.hbm, 127, rfl⟩
abbrev main_while0b_call8_v1 : Ref sig .tc := ⟨.hbm, 128, rfl⟩
abbrev main_while0b_call8_v2 : Ref sig .tc := ⟨.hbm, 129, rfl⟩
abbrev main_while0b_v61 : Ref sig .tc := ⟨.hbm, 130, rfl⟩
abbrev main_while0b_v62 : Ref sig .tc := ⟨.hbm, 131, rfl⟩
abbrev main_while0b_v63 : Ref sig .tc := ⟨.hbm, 132, rfl⟩
abbrev main_while0b_v64 : Ref sig .tc := ⟨.hbm, 133, rfl⟩
abbrev main_while0b_cst_16 : Ref sig .tc := ⟨.hbm, 134, rfl⟩
abbrev main_while0b_v65 : Ref sig .tc := ⟨.hbm, 135, rfl⟩
abbrev main_while0b_v66 : Ref sig .tc := ⟨.hbm, 136, rfl⟩
abbrev main_while0b_v67 : Ref sig .tc := ⟨.hbm, 137, rfl⟩
abbrev main_while0b_v68 : Ref sig .tc := ⟨.hbm, 138, rfl⟩
abbrev main_while0b_v69 : Ref sig .tc := ⟨.hbm, 139, rfl⟩
abbrev main_while0b_v70 : Ref sig .tc := ⟨.hbm, 140, rfl⟩
abbrev main_while0b_v71 : Ref sig .tc := ⟨.hbm, 141, rfl⟩
abbrev main_while0b_v72 : Ref sig .tc := ⟨.hbm, 142, rfl⟩
abbrev main_while0b_v73 : Ref sig .tc := ⟨.hbm, 143, rfl⟩
abbrev main_while0b_v74 : Ref sig .tc := ⟨.hbm, 144, rfl⟩
abbrev main_while0b_v75 : Ref sig .tc := ⟨.hbm, 145, rfl⟩
abbrev main_while0b_v76 : Ref sig .tc := ⟨.hbm, 146, rfl⟩
abbrev main_while0b_v77 : Ref sig .tc := ⟨.hbm, 147, rfl⟩
abbrev main_while0b_v78 : Ref sig .tc := ⟨.hbm, 148, rfl⟩
abbrev main_while0b_v79 : Ref sig .tc := ⟨.hbm, 149, rfl⟩
abbrev main_while0b_v80 : Ref sig .tc := ⟨.hbm, 150, rfl⟩
abbrev main_while0b_v81 : Ref sig .tc := ⟨.hbm, 151, rfl⟩
abbrev main_while0b_v82 : Ref sig .tc := ⟨.hbm, 152, rfl⟩
abbrev main_while0b_cst_17 : Ref sig .tc := ⟨.hbm, 153, rfl⟩
abbrev main_while0b_v83 : Ref sig .tc := ⟨.hbm, 154, rfl⟩
abbrev main_while0b_v84 : Ref sig .tc := ⟨.hbm, 155, rfl⟩
abbrev main_while0b_v85 : Ref sig .tc := ⟨.hbm, 156, rfl⟩
abbrev main_while0b_v86 : Ref sig .tc := ⟨.hbm, 157, rfl⟩
abbrev main_while0b_v87 : Ref sig .tc := ⟨.hbm, 158, rfl⟩
abbrev main_while0b_v88 : Ref sig .tc := ⟨.hbm, 159, rfl⟩
abbrev main_while0b_v89 : Ref sig .tc := ⟨.hbm, 160, rfl⟩
abbrev main_while0b_v90 : Ref sig .tc := ⟨.hbm, 161, rfl⟩
abbrev main_while0b_v91 : Ref sig .tc := ⟨.hbm, 162, rfl⟩
abbrev main_while0b_v92 : Ref sig .tc := ⟨.hbm, 163, rfl⟩
abbrev main_while0b_v93 : Ref sig .tc := ⟨.hbm, 164, rfl⟩
abbrev main_while0b_v94 : Ref sig .tc := ⟨.hbm, 165, rfl⟩
abbrev main_while0b_v95 : Ref sig .tc := ⟨.hbm, 166, rfl⟩
abbrev main_while0b_v96 : Ref sig .tc := ⟨.hbm, 167, rfl⟩
abbrev main_while0b_v97 : Ref sig .tc := ⟨.hbm, 168, rfl⟩
abbrev main_while0b_v98 : Ref sig .tc := ⟨.hbm, 169, rfl⟩
abbrev main_while0b_cst_18 : Ref sig .tc := ⟨.hbm, 170, rfl⟩
abbrev main_while0b_v99 : Ref sig .tc := ⟨.hbm, 171, rfl⟩
abbrev main_while0b_v100 : Ref sig .tc := ⟨.hbm, 172, rfl⟩
abbrev main_while0b_v101 : Ref sig .tc := ⟨.hbm, 173, rfl⟩
abbrev main_while0b_v102 : Ref sig .tc := ⟨.hbm, 174, rfl⟩
abbrev main_while0b_v103 : Ref sig .tc := ⟨.hbm, 175, rfl⟩
abbrev main_while0b_v104 : Ref sig .tc := ⟨.hbm, 176, rfl⟩
abbrev main_while0b_v105 : Ref sig .tc := ⟨.hbm, 177, rfl⟩
abbrev main_while0b_v106 : Ref sig .tc := ⟨.hbm, 178, rfl⟩
abbrev main_while0b_v107 : Ref sig .tc := ⟨.hbm, 179, rfl⟩
abbrev main_while0b_v108 : Ref sig .tc := ⟨.hbm, 180, rfl⟩
abbrev main_while0b_v109 : Ref sig .tc := ⟨.hbm, 181, rfl⟩
abbrev main_while0b_v110 : Ref sig .tc := ⟨.hbm, 182, rfl⟩
abbrev main_while0b_v111 : Ref sig .tc := ⟨.hbm, 183, rfl⟩
abbrev main_while0b_v112 : Ref sig .tc := ⟨.hbm, 184, rfl⟩
abbrev main_while0b_v113 : Ref sig .tc := ⟨.hbm, 185, rfl⟩
abbrev main_while0b_v114 : Ref sig .tc := ⟨.hbm, 186, rfl⟩
abbrev main_while0b_v115 : Ref sig .tc := ⟨.hbm, 187, rfl⟩
abbrev main_while0b_v116 : Ref sig .tc := ⟨.hbm, 188, rfl⟩
abbrev main_while0b_v117 : Ref sig .tc := ⟨.hbm, 189, rfl⟩
abbrev main_while0b_v118 : Ref sig .tc := ⟨.hbm, 190, rfl⟩
abbrev main_while0b_v119 : Ref sig .tc := ⟨.hbm, 191, rfl⟩
abbrev main_while0b_v120 : Ref sig .tc := ⟨.hbm, 192, rfl⟩
abbrev main_while0b_call9_v0 : Ref sig .tc := ⟨.hbm, 193, rfl⟩
abbrev main_while0b_call9_c : Ref sig .tc := ⟨.hbm, 194, rfl⟩
abbrev main_while0b_call9_c_0 : Ref sig .tc := ⟨.hbm, 195, rfl⟩
abbrev main_while0b_call9_c_1 : Ref sig .tc := ⟨.hbm, 196, rfl⟩
abbrev main_while0b_call9_c_2 : Ref sig .tc := ⟨.hbm, 197, rfl⟩
abbrev main_while0b_v121 : Ref sig .tc := ⟨.hbm, 198, rfl⟩
abbrev main_while0b_c_19 : Ref sig .tc := ⟨.hbm, 199, rfl⟩
abbrev main_while0b_v122 : Ref sig .tc := ⟨.hbm, 200, rfl⟩
abbrev main_v43 : Ref sig .tc := ⟨.hbm, 201, rfl⟩
abbrev main_v44 : Ref sig .tc := ⟨.hbm, 202, rfl⟩
abbrev main_v45 : Ref sig .tc := ⟨.hbm, 203, rfl⟩
abbrev main_v46 : Ref sig .tc := ⟨.hbm, 204, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S32768x2048 : Shape := ⟨2, ![32768, 2048]⟩
abbrev S32768x1024 : Shape := ⟨2, ![32768, 1024]⟩
abbrev S32768x12288 : Shape := ⟨2, ![32768, 12288]⟩
abbrev S8x1x3072 : Shape := ⟨3, ![8, 1, 3072]⟩
abbrev S2048 : Shape := ⟨1, ![2048]⟩
abbrev S2x2048x1024 : Shape := ⟨3, ![2, 2048, 1024]⟩
abbrev S2x1024x1024 : Shape := ⟨3, ![2, 1024, 1024]⟩
abbrev S1024 : Shape := ⟨1, ![1024]⟩
abbrev S1x2048 : Shape := ⟨2, ![1, 2048]⟩
abbrev S1x1024 : Shape := ⟨2, ![1, 1024]⟩
abbrev S512x2048 : Shape := ⟨2, ![512, 2048]⟩
abbrev S512x1024 : Shape := ⟨2, ![512, 1024]⟩
abbrev S1x1x1024 : Shape := ⟨3, ![1, 1, 1024]⟩
abbrev S1x2048x1024 : Shape := ⟨3, ![1, 2048, 1024]⟩
abbrev S1x1024x1024 : Shape := ⟨3, ![1, 1024, 1024]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S2048x1024 : Shape := ⟨2, ![2048, 1024]⟩
abbrev S1024x1024 : Shape := ⟨2, ![1024, 1024]⟩

abbrev nBuf : Space → Nat
  | .hbm => 13
  | .vmem => 24
  | .smem => 0
  | _ => 0

abbrev bufTy : (tb : Table) → Fin (tcTables nBuf tb) → BufTy
  | .hbm, ⟨0, _⟩ => ⟨S32768x2048, .bf16⟩
  | .hbm, ⟨1, _⟩ => ⟨S32768x1024, .bf16⟩
  | .hbm, ⟨2, _⟩ => ⟨S32768x12288, .bf16⟩
  | .hbm, ⟨3, _⟩ => ⟨S32768x1024, .f32⟩
  | .hbm, ⟨4, _⟩ => ⟨S8x1x3072, .f32⟩
  | .hbm, ⟨5, _⟩ => ⟨S2048, .f32⟩
  | .hbm, ⟨6, _⟩ => ⟨S2x2048x1024, .bf16⟩
  | .hbm, ⟨7, _⟩ => ⟨S2x1024x1024, .bf16⟩
  | .hbm, ⟨8, _⟩ => ⟨S2x1024x1024, .bf16⟩
  | .hbm, ⟨9, _⟩ => ⟨S1024, .f32⟩
  | .hbm, ⟨10, _⟩ => ⟨S1x2048, .f32⟩
  | .hbm, ⟨11, _⟩ => ⟨S1x1024, .f32⟩
  | .hbm, ⟨12, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x2048x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S512x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S32768x2048 : Shape := ⟨2, ![32768, 2048]⟩
abbrev S32768x1024 : Shape := ⟨2, ![32768, 1024]⟩
abbrev S32768x12288 : Shape := ⟨2, ![32768, 12288]⟩
abbrev S8x1x3072 : Shape := ⟨3, ![8, 1, 3072]⟩
abbrev S2048 : Shape := ⟨1, ![2048]⟩
abbrev S2x2048x1024 : Shape := ⟨3, ![2, 2048, 1024]⟩
abbrev S2x1024x1024 : Shape := ⟨3, ![2, 1024, 1024]⟩
abbrev S1024 : Shape := ⟨1, ![1024]⟩
abbrev S8x3072 : Shape := ⟨2, ![8, 3072]⟩
abbrev S8x1024 : Shape := ⟨2, ![8, 1024]⟩
abbrev S8x4096x12288 : Shape := ⟨3, ![8, 4096, 12288]⟩
abbrev S8x4096x2048 : Shape := ⟨3, ![8, 4096, 2048]⟩
abbrev S8x4096x1024 : Shape := ⟨3, ![8, 4096, 1024]⟩
abbrev S8x4096x4x512 : Shape := ⟨4, ![8, 4096, 4, 512]⟩
abbrev S_ : Shape := ⟨0, ![]⟩
abbrev S8x4096x4 : Shape := ⟨3, ![8, 4096, 4]⟩
abbrev S8x4096x4x1 : Shape := ⟨4, ![8, 4096, 4, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S1x1024x1024 : Shape := ⟨3, ![1, 1024, 1024]⟩
abbrev S1024x1024 : Shape := ⟨2, ![1024, 1024]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x1024, .bf16⟩
  | .hbm, ⟨2, _⟩ => ⟨S32768x12288, .bf16⟩
  | .hbm, ⟨3, _⟩ => ⟨S32768x1024, .f32⟩
  | .hbm, ⟨4, _⟩ => ⟨S8x1x3072, .f32⟩
  | .hbm, ⟨5, _⟩ => ⟨S2048, .f32⟩
  | .hbm, ⟨6, _⟩ => ⟨S2x2048x1024, .bf16⟩
  | .hbm, ⟨7, _⟩ => ⟨S2x1024x1024, .bf16⟩
  | .hbm, ⟨8, _⟩ => ⟨S2x1024x1024, .bf16⟩
  | .hbm, ⟨9, _⟩ => ⟨S1024, .f32⟩
  | .hbm, ⟨10, _⟩ => ⟨S8x3072, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S32768x12288, .f32⟩
  | .hbm, ⟨15, _⟩ => ⟨S8x4096x12288, .f32⟩
  | .hbm, ⟨16, _⟩ => ⟨S8x4096x2048, .f32⟩
  | .hbm, ⟨17, _⟩ => ⟨S8x4096x2048, .f32⟩
  | .hbm, ⟨18, _⟩ => ⟨S8x4096x1024, .f32⟩
  | .hbm, ⟨19, _⟩ => ⟨S8x4096x1024, .f32⟩
  | .hbm, ⟨20, _⟩ => ⟨S32768x2048, .f32⟩
  | .hbm, ⟨21, _⟩ => ⟨S8x4096x2048, .f32⟩
  | .hbm, ⟨22, _⟩ => ⟨S8x4096x2048, .f32⟩
  | .hbm, ⟨23, _⟩ => ⟨S8x4096x4x512, .f32⟩
  | .hbm, ⟨24, _⟩ => ⟨S8x4096x4x512, .f32⟩
  | .hbm, ⟨25, _⟩ => ⟨S_, .f32⟩
  | .hbm, ⟨26, _⟩ => ⟨S8x4096x4, .f32⟩
  | .hbm, ⟨27, _⟩ => ⟨S8x4096x4x1, .f32⟩
  | .hbm, ⟨28, _⟩ => ⟨S_, .f32⟩
  | .hbm, ⟨29, _⟩ => ⟨S8x4096x4x1, .f32⟩
  | .hbm, ⟨30, _⟩ => ⟨S8x4096x4x1, .f32⟩
  | .hbm, ⟨31, _⟩ => ⟨S_, .f32⟩
  | .hbm, ⟨32, _⟩ => ⟨S8x4096x4x1, .f32⟩
  | .hbm, ⟨33, _⟩ => ⟨S8x4096x4x1, .f32⟩
  | .hbm, ⟨34, _⟩ => ⟨S8x4096x4x1, .f32⟩
  | .hbm, ⟨35, _⟩ => ⟨S8x4096x4x512, .f32⟩
  | .hbm, ⟨36, _⟩ => ⟨S8x4096x4x512, .f32⟩
  | .hbm, ⟨37, _⟩ => ⟨S8x4096x2048, .f32⟩
  | .hbm, ⟨38, _⟩ => ⟨S1x1x2048, .f32⟩
  | .hbm, ⟨39, _⟩ => ⟨S8x4096x2048, .f32⟩
  | .hbm, ⟨40, _⟩ => ⟨S8x4096x2048, .f32⟩
  | .hbm, ⟨41, _⟩ => ⟨S8x4096x2048, .f32⟩
  | .hbm, ⟨42, _⟩ => ⟨S1x2048x1024, .bf16⟩
  | .hbm, ⟨43, _⟩ => ⟨S2048x1024, .bf16⟩
  | .hbm, ⟨44, _⟩ => ⟨S2048x1024, .f32⟩
  | .hbm, ⟨45, _⟩ => ⟨S8x4096x1024, .f32⟩
  | .hbm, ⟨46, _⟩ => ⟨S32768x1024, .f32⟩
  | .hbm, ⟨47, _⟩ => ⟨S8x4096x1024, .f32⟩
  | .hbm, ⟨48, _⟩ => ⟨S1x1024x1024, .bf16⟩
  | .hbm, ⟨49, _⟩ => ⟨S1024x1024, .bf16⟩
  | .hbm, ⟨50, _⟩ => ⟨S1024x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x1x1024, .f32⟩
  | .hbm, ⟨57, _⟩ => ⟨S1x1024x1024, .bf16⟩
  | .hbm, ⟨58, _⟩ => ⟨S1024x1024, .bf16⟩
  | .hbm, ⟨59, _⟩ => ⟨S1024x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S8x4096x1, .f32⟩
  | .hbm, ⟨75, _⟩ => ⟨S8x4096x1024, .f32⟩
  | .hbm, ⟨76, _⟩ => ⟨S8x4096x1024, .f32⟩
  | .hbm, ⟨77, _⟩ => ⟨S1x1x1024, .f32⟩
  | .hbm, ⟨78, _⟩ => ⟨S8x4096x1024, .f32⟩
  | .hbm, ⟨79, _⟩ => ⟨S8x4096x1024, .f32⟩
  | .hbm, ⟨80, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_2 : Ref sig .tc := ⟨.hbm, 65, rfl⟩
abbrev main_v52 : Ref sig .tc := ⟨.hbm, 66, rfl⟩
abbrev main_v53 : Ref sig .tc := ⟨.hbm, 67, rfl⟩
abbrev main_cst_3 : Ref sig .tc := ⟨.hbm, 68, rfl⟩
abbrev main_v54 : Ref sig .tc := ⟨.hbm, 69, rfl⟩
abbrev main_v55 : Ref sig .tc := ⟨.hbm, 70, rfl⟩
abbrev main_cst_4 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S8x1x3072 : Shape := ⟨3, ![8, 1, 3072]⟩
abbrev S2x1024x8192 : Shape := ⟨3, ![2, 1024, 8192]⟩
abbrev S2x1024x6144 : Shape := ⟨3, ![2, 1024, 6144]⟩
abbrev S2x1024x128 : Shape := ⟨3, ![2, 1024, 128]⟩
abbrev S4x2048 : Shape := ⟨2, ![4, 2048]⟩
abbrev S2048 : Shape := ⟨1, ![2048]⟩
abbrev S1x1024 : Shape := ⟨2, ![1, 1024]⟩
abbrev S1x2048 : Shape := ⟨2, ![1, 2048]⟩
abbrev S32768x12288 : Shape := ⟨2, ![32768, 12288]⟩
abbrev S32768x2048 : Shape := ⟨2, ![32768, 2048]⟩
abbrev S32768x128 : Shape := ⟨2, ![32768, 128]⟩
abbrev S1024x1024 : Shape := ⟨2, ![1024, 1024]⟩
abbrev S1x1x1024 : Shape := ⟨3, ![1, 1, 1024]⟩
abbrev S1x1024x2048 : Shape := ⟨3, ![1, 1024, 2048]⟩
abbrev S1x1024x128 : Shape := ⟨3, ![1, 1024, 128]⟩
abbrev S1024x2048 : Shape := ⟨2, ![1024, 2048]⟩
abbrev S1024x128 : Shape := ⟨2, ![1024, 128]⟩
abbrev S8x2048 : Shape := ⟨2, ![8, 2048]⟩
abbrev S1024x1 : Shape := ⟨2, ![1024, 1]⟩
abbrev S256x1024 : Shape := ⟨2, ![256, 1024]⟩
abbrev S1x1024x256 : Shape := ⟨3, ![1, 1024, 256]⟩
abbrev S1024x256 : Shape := ⟨2, ![1024, 256]⟩
abbrev S256x256 : Shape := ⟨2, ![256, 256]⟩
abbrev S8x256 : Shape := ⟨2, ![8, 256]⟩
abbrev S264x256 : Shape := ⟨2, ![264, 256]⟩
abbrev S1x256 : Shape := ⟨2, ![1, 256]⟩

abbrev nBuf : Space → Nat
  | .hbm => 13
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S8x1x3072, .f32⟩
  | .hbm, ⟨3, _⟩ => ⟨S2x1024x8192, .bf16⟩
  | .hbm, ⟨4, _⟩ => ⟨S2x1024x6144, .bf16⟩
  | .hbm, ⟨5, _⟩ => ⟨S2x1024x128, .bf16⟩
  | .hbm, ⟨6, _⟩ => ⟨S4x2048, .f32⟩
  | .hbm, ⟨7, _⟩ => ⟨S2048, .f32⟩
  | .hbm, ⟨8, _⟩ => ⟨S1x1024, .f32⟩
  | .hbm, ⟨9, _⟩ => ⟨S1x2048, .f32⟩
  | .hbm, ⟨10, _⟩ => ⟨S32768x12288, .bf16⟩
  | .hbm, ⟨11, _⟩ => ⟨S32768x2048, .bf16⟩
  | .hbm, ⟨12, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x2048, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x1024x2048, .bf16⟩
  | .local _ .vmem, ⟨11, _⟩ => ⟨S1x1024x128, .bf16⟩
  | .local _ .vmem, ⟨12, _⟩ => ⟨S4x2048, .f32⟩
  | .local _ .vmem, ⟨13, _⟩ => ⟨S1x2048, .f32⟩
  | .local _ .vmem, ⟨14, _⟩ => ⟨S1024x2048, .bf16⟩
  | .local _ .vmem, ⟨15, _⟩ => ⟨S1024x2048, .bf16⟩
  | .local _ .vmem, ⟨16, _⟩ => ⟨S1024x2048, .bf16⟩
  | .local _ .vmem, ⟨17, _⟩ => ⟨S1024x2048, .bf16⟩
  | .local _ .vmem, ⟨18, _⟩ => ⟨S1024x128, .f32⟩
  | .local _ .vmem, ⟨19, _⟩ => ⟨S1024x128, .f32⟩
  | .local _ .vmem, ⟨20, _⟩ => ⟨S1024x1024, .bf16⟩
  | .local _ .vmem, ⟨21, _⟩ => ⟨S8x2048, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![32, 7], ![false, false]⟩

def k0_cond4 (i : grid0.Coords) : BitVec 1 :=
  let arg1 : BitVec 32 := BitVec.ofNat 32 (i 1).val
  let c1_i32_10 : BitVec 32 := 1#32
  let v21 : BitVec 1 := Scalar.cmpi .eq arg1 c1_i32_10
  let v22 : BitVec 32 := Scalar.extui v21
  let c0_i32_11 : BitVec 32 := 0#32
  let v23 : BitVec 1 := Scalar.cmpi .ne v22 c0_i32_11
  v23

def k0_cond5 (i : grid0.Coords) : BitVec 1 :=
  let arg1 : BitVec 32 := BitVec.ofNat 32 (i 1).val
  let c2_i32 : BitVec 32 := 2#32
  let v24 : BitVec 1 := Scalar.cmpi .eq arg1 c2_i32
  let v25 : BitVec 32 := Scalar.extui v24
  let c0_i32_12 : BitVec 32 := 0#32
  let v26 : BitVec 1 := Scalar.cmpi .ne v25 c0_i32_12
  v26

def k0_cond6 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_13 : BitVec 32 := 0#32
  let v29 : BitVec 1 := Scalar.cmpi .ne v28 c0_i32_13
  v29

def k0_cond7 (i : grid0.Coords) : BitVec 1 :=
  let arg1 : BitVec 32 := BitVec.ofNat 32 (i 1).val
  let c4_i32_14 : BitVec 32 := 4#32
  let v30 : BitVec 1 := Scalar.cmpi .eq arg1 c4_i32_14
  let v31 : BitVec 32 := Scalar.extui v30
  let c0_i32_15 : BitVec 32 := 0#32
  let v32 : BitVec 1 := Scalar.cmpi .ne v31 c0_i32_15
  v32

def k0_cond8 (i : grid0.Coords) : BitVec 1 :=
  let arg1 : BitVec 32 := BitVec.ofNat 32 (i 1).val
  let c5_i32 : BitVec 32 := 5#32
  let v33 : BitVec 1 := Scalar.cmpi .eq arg1 c5_i32
  let v34 : BitVec 32 := Scalar.extui v33
  let c0_i32_16 : BitVec 32 := 0#32
  let v35 : BitVec 1 := Scalar.cmpi .ne v34 c0_i32_16
  v35

def k0_cond9 (i : grid0.Coords) : BitVec 1 :=
  let arg1 : BitVec 32 := BitVec.ofNat 32 (i 1).val
  let c6_i32 : BitVec 32 := 6#32
  let v36 : BitVec 1 := Scalar.cmpi .eq arg1 c6_i32
  let v37 : BitVec 32 := Scalar.extui v36
  let c0_i32_17 : BitVec 32 := 0#32
  let v38 : BitVec 1 := Scalar.cmpi .ne v37 c0_i32_17
  v38

def k0_cond3 (i : grid0.Coords) : BitVec 1 :=
  let arg1 : BitVec 32 := BitVec.ofNat 32 (i 1).val
  let c0_i32_8 : BitVec 32 := 0#32
  let v18 : BitVec 1 := Scalar.cmpi .eq arg1 c0_i32_8
  let v19 : BitVec 32 := Scalar.extui v18
  let c0_i32_9 : BitVec 32 := 0#32
  let v20 : BitVec 1 := Scalar.cmpi .ne v19 c0_i32_9
  v20

def k0_cond1 (i : grid0.Coords) : BitVec 1 :=
  let arg1 : BitVec 32 := BitVec.ofNat 32 (i 1).val
  let c0_i32_4 : BitVec 32 := 0#32
  let v11 : BitVec 1 := Scalar.cmpi .eq arg1 c0_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference3Ideal.lean ====
abbrev S32768x1024 : Shape := ⟨2, ![32768, 1024]⟩
abbrev S1024 : Shape := ⟨1, ![1024]⟩
abbrev S8x1x3072 : Shape := ⟨3, ![8, 1, 3072]⟩
abbrev S2x1024x8192 : Shape := ⟨3, ![2, 1024, 8192]⟩
abbrev S2x1024x6144 : Shape := ⟨3, ![2, 1024, 6144]⟩
abbrev S2x1024x128 : Shape := ⟨3, ![2, 1024, 128]⟩
abbrev S4x2048 : Shape := ⟨2, ![4, 2048]⟩
abbrev S2048 : Shape := ⟨1, ![2048]⟩
abbrev S8x3072 : Shape := ⟨2, ![8, 3072]⟩
abbrev S8x1024 : Shape := ⟨2, ![8, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S1x1024x8192 : Shape := ⟨3, ![1, 1024, 8192]⟩
abbrev S1024x8192 : Shape := ⟨2, ![1024, 8192]⟩
abbrev S8x4096x8192 : Shape := ⟨3, ![8, 4096, 8192]⟩
abbrev S1x1024x6144 : Shape := ⟨3, ![1, 1024, 6144]⟩
abbrev S1024x6144 : Shape := ⟨2, ![1024, 6144]⟩
abbrev S8x4096x6144 : Shape := ⟨3, ![8, 4096, 6144]⟩
abbrev S1x1024x128 : Shape := ⟨3, ![1, 1024, 128]⟩
abbrev S1024x128 : Shape := ⟨2, ![1024, 128]⟩
abbrev S8x4096x128 : Shape := ⟨3, ![8, 4096, 128]⟩
abbrev S8x4096x2048 : Shape := ⟨3, ![8, 4096, 2048]⟩
abbrev S8x4099x2048 : Shape := ⟨3, ![8, 4099, 2048]⟩
abbrev S1x2048 : Shape := ⟨2, ![1, 2048]⟩
abbrev S1x1x2048 : Shape := ⟨3, ![1, 1, 2048]⟩
abbrev S8x4096x12288 : Shape := ⟨3, ![8, 4096, 12288]⟩
abbrev S32768x12288 : Shape := ⟨2, ![32768, 12288]⟩
abbrev S32768x2048 : Shape := ⟨2, ![32768, 2048]⟩
abbrev S32768x128 : Shape := ⟨2, ![32768, 128]⟩

abbrev nBuf : Space → Nat
  | .hbm => 150
  | .vmem => 0
  | .smem => 0
  | _ => 0

abbrev hbmTy0_0 (i : Nat) : BufTy := match i % 128 with
  | 0 => ⟨S32768x1024, .f32⟩
  | 1 => ⟨S1024, .f32⟩
  | 2 => ⟨S8x1x3072, .f32⟩
  | 3 => ⟨S2x1024x8192, .bf16⟩
  | 4 => ⟨S2x1024x6144, .bf16⟩
  | 5 => ⟨S2x1024x128, .bf16⟩
  | 6 => ⟨S4x2048, .f32⟩
  | 7 => ⟨S2048, .f32⟩
  | 8 => ⟨S8x3072, .f32⟩
  | 9 => ⟨S8x1024, .f32⟩
  | 10 => ⟨S8x1024, .f32⟩
  | 11 => ⟨S8x1024, .f32⟩
  | 12 => ⟨S8x4096x1024, .f32⟩
  | 13 => ⟨S8x4096x1024, .f32⟩
  | 14 => ⟨S_, .f32⟩
  | 15 => ⟨S8x4096, .f32⟩
  | 16 => ⟨S8x4096x1, .f32⟩
  | 17 => ⟨S_, .f32⟩
  | 18 => ⟨S8x4096x1, .f32⟩
  | 19 => ⟨S8x4096x1, .f32⟩
  | 20 => ⟨S_, .f32⟩
  | 21 => ⟨S8x4096x1, .f32⟩
  | 22 => ⟨S8x4096x1, .f32⟩
  | 23 => ⟨S8x4096x1, .f32⟩
  | 24 => ⟨S8x4096x1024, .f32⟩
  | 25 => ⟨S8x4096x1024, .f32⟩
  | 26 => ⟨S1x1x1024, .f32⟩
  | 27 => ⟨S8x4096x1024, .f32⟩
  | 28 => ⟨S8x4096x1024, .f32⟩
  | 29 => ⟨S8x1x1024, .f32⟩
  | 30 => ⟨S_, .f32⟩
  | 31 => ⟨S8x1x1024, .f32⟩
  | 32 => ⟨S8x1x1024, .f32⟩
  | 33 => ⟨S8x4096x1024, .f32⟩
  | 34 => ⟨S8x4096x1024, .f32⟩
  | 35 => ⟨S8x1x1024, .f32⟩
  | 36 => ⟨S8x4096x1024, .f32⟩
  | 37 => ⟨S8x4096x1024, .f32⟩
  | 38 => ⟨S1x1024x8192, .bf16⟩
  | 39 => ⟨S1024x8192, .bf16⟩
  | 40 => ⟨S1024x8192, .f32⟩
  | 41 => ⟨S8x4096x8192, .f32⟩
  | 42 => ⟨S1x1024x6144, .bf16⟩
  | 43 => ⟨S1024x6144, .bf16⟩
  | 44 => ⟨S1024x6144, .f32⟩
  | 45 => ⟨S8x4096x6144, .f32⟩
  | 46 => ⟨S1x1024x128, .bf16⟩
  | 47 => ⟨S1024x128, .bf16⟩
  | 48 => ⟨S1024x128, .f32⟩
  | 49 => ⟨S8x4096x128, .f32⟩
  | 50 => ⟨S8x4096x2048, .f32⟩
  | 51 => ⟨S8x4096x2048, .f32⟩
  | 52 => ⟨S8x4096x2048, .f32⟩
  | 53 => ⟨S8x4096x2048, .f32⟩
  | 54 => ⟨S8x4096x1024, .f32⟩
  | 55 => ⟨S8x4096x1024, .f32⟩
  | 56 => ⟨S8x4096x1024, .f32⟩
  | 57 => ⟨S8x4096x1024, .f32⟩
  | 58 => ⟨S8x4096x1024, .f32⟩
  | 59 => ⟨S8x4096x1024, .f32⟩
  | 60 => ⟨S_, .i32⟩
  | 61 => ⟨S_, .f32⟩
  | 62 => ⟨S8x4099x2048, .f32⟩
  | 63 => ⟨S8x4096x2048, .f32⟩
  | 64 => ⟨S1x2048, .f32⟩
  | 65 => ⟨S2048, .f32⟩
  | 66 => ⟨S1x1x2048, .f32⟩
  | 67 => ⟨S8x4096x2048, .f32⟩
  | 68 => ⟨S8x4096x2048, .f32⟩
  | 69 => ⟨S1x1x2048, .f32⟩
  | 70 => ⟨S8x4096x2048, .f32⟩
  | 71 => ⟨S8x4096x2048, .f32⟩
  | 72 => ⟨S8x4096x2048, .f32⟩
  | 73 => ⟨S1x2048, .f32⟩
  | 74 => ⟨S2048, .f32⟩
  | 75 => ⟨S1x1x2048, .f32⟩
  | 76 => ⟨S8x4096x2048, .f32⟩
  | 77 => ⟨S8x4096x2048, .f32⟩
  | 78 => ⟨S8x4096x2048, .f32⟩
  | 79 => ⟨S8x4096x2048, .f32⟩
  | 80 => ⟨S1x2048, .f32⟩
  | 81 => ⟨S2048, .f32⟩
  | 82 => ⟨S1x1x2048, .f32⟩
  | 83 => ⟨S8x4096x2048, .f32⟩
  | 84 => ⟨S8x4096x2048, .f32⟩
  | 85 => ⟨S8x4096x2048, .f32⟩
  | 86 => ⟨S8x4096x2048, .f32⟩
  | 87 => ⟨S1x2048, .f32⟩
  | 88 => ⟨S2048, .f32⟩
  | 89 => ⟨S1x1x2048, .f32⟩
  | 90 => ⟨S8x4096x2048, .f32⟩
  | 91 => ⟨S8x4096x2048, .f32⟩
  | 92 => ⟨S8x4096x2048, .f32⟩
  | 93 => ⟨S8x4096x2048, .f32⟩
  | 94 => ⟨S8x4096x2048, .f32⟩
  | 95 => ⟨S_, .f32⟩
  | 96 => ⟨S8x4096x2048, .f32⟩
  | 97 => ⟨S8x4096x2048, .f32⟩
  | 98 => ⟨S_, .f32⟩
  | 99 => ⟨S8x4096x2048, .f32⟩
  | 100 => ⟨S8x4096x2048, .f32⟩
  | 101 => ⟨S8x4096x2048, .f32⟩
  | 102 => ⟨S8x4096x2048, .f32⟩
  | 103 => ⟨S8x4096x2048, .f32⟩
  | 104 => ⟨S_, .f32⟩
  | 105 => ⟨S8x4096x2048, .f32⟩
  | 106 => ⟨S8x4096x2048, .f32⟩
  | 107 => ⟨S_, .f32⟩
  | 108 => ⟨S8x4096x2048, .f32⟩
  | 109 => ⟨S8x4096x2048, .f32⟩
  | 110 => ⟨S8x4096x2048, .f32⟩
  | 111 => ⟨S8x4096x2048, .f32⟩
  | 112 => ⟨S_, .f32⟩
  | 113 => ⟨S8x4096x2048, .f32⟩
  | 114 => ⟨S8x4096x2048, .f32⟩
  | 115 => ⟨S_, .f32⟩
  | 116 => ⟨S8x4096x2048, .f32⟩
  | 117 => ⟨S8x4096x2048, .f32⟩
  | 118 => ⟨S8x4096x2048, .f32⟩
  | 119 => ⟨S8x4096x1024, .f32⟩
  | 120 => ⟨S8x4096x1024, .f32⟩
  | 121 => ⟨S_, .f32⟩
  | 122 => ⟨S8x4096x1024, .f32⟩
  | 123 => ⟨S8x4096x1024, .f32⟩
  | 124 => ⟨S_, .f32⟩
  | 125 => ⟨S8x4096x1024, .f32⟩
  | 126 => ⟨S8x4096x1024, .f32⟩
  | 127 => ⟨S8x4096x1024, .f32⟩
  | _ => ⟨S32768x1024, .f32⟩

abbrev hbmTy0_1 (i : Nat) : BufTy := match i % 128 with
  | 0 => ⟨S8x4096x1024, .f32⟩
  | 1 => ⟨S8x4096x1024, .f32⟩
  | 2 => ⟨S_, .f32⟩
  | 3 => ⟨S8x4096x1024, .f32⟩
  | 4 => ⟨S8x4096x1024, .f32⟩
  | 5 => ⟨S_, .f32⟩
  | 6 => ⟨S8x4096x1024, .f32⟩
  | 7 => ⟨S8x4096x1024, .f32⟩
  | 8 => ⟨S8x4096x1024, .f32⟩
  | 9 => ⟨S8x4096x1024, .f32⟩
  | 10 => ⟨S_, .f32⟩
  | 11 => ⟨S8x4096x1024, .f32⟩
  | 12 => ⟨S8x4096x1024, .f32⟩
  | 13 => ⟨S_, .f32⟩
  | 14 => ⟨S8x4096x1024, .f32⟩
  | 15 => ⟨S8x4096x1024, .f32⟩
  | 16 => ⟨S8x4096x12288, .f32⟩
  | 17 => ⟨S8x4096x12288, .bf16⟩
  | 18 => ⟨S32768x12288, .bf16⟩
  | 19 => ⟨S8x4096x2048, .bf16⟩
  | 20 => ⟨S32768x2048, .bf16⟩
  | 21 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c : Ref sig .tc := ⟨.hbm, 60, rfl⟩
abbrev main_call0_v0 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_3 : Ref sig .tc := ⟨.hbm, 104, rfl⟩
abbrev main_v82 : Ref sig .tc := ⟨.hbm, 105, rfl⟩
abbrev main_v83 : Ref sig .tc := ⟨.hbm, 106, rfl⟩
abbrev main_cst_4 : Ref sig .tc := ⟨.hbm, 107, rfl⟩
abbrev main_v84 : Ref sig .tc := ⟨.hbm, 108, rfl⟩
abbrev main_v85 : Ref sig .tc := ⟨.hbm, 109, rfl⟩
abbrev main_call2_v0 : Ref sig .tc := ⟨.hbm, 110, rfl⟩
abbrev main_call2_v1 : Ref sig .tc := ⟨.hbm, 111, rfl⟩
abbrev main_call2_cst : Ref sig .tc := ⟨.hbm, 112, rfl⟩
abbrev main_call2_v2 : Ref sig .tc := ⟨.hbm, 113, rfl⟩
abbrev main_call2_v3 : Ref sig .tc := ⟨.hbm, 114, rfl⟩
abbrev main_call2_cst_0 : Ref sig .tc := ⟨.hbm, 115, rfl⟩
abbrev main_call2_v4 : Ref sig .tc := ⟨.hbm, 116, rfl⟩
abbrev main_call2_v5 : Ref sig .tc := ⟨.hbm, 117, rfl⟩
abbrev main_v86 : Ref sig .tc := ⟨.hbm, 118, rfl⟩
abbrev main_call3_v0 : Ref sig .tc := ⟨.hbm, 119, rfl⟩
abbrev main_call3_v1 : Ref sig .tc := ⟨.hbm, 120, rfl⟩
abbrev main_call3_cst : Ref sig .tc := ⟨.hbm, 121, rfl⟩
abbrev main_call3_v2 : Ref sig .tc := ⟨.hbm, 122, rfl⟩
abbrev main_call3_v3 : Ref sig .tc := ⟨.hbm, 123, rfl⟩
abbrev main_call3_cst_0 : Ref sig .tc := ⟨.hbm, 124, rfl⟩
abbrev main_call3_v4 : Ref sig .tc := ⟨.hbm, 125, rfl⟩
abbrev main_call3_v5 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_5 : Ref sig .tc := ⟨.hbm, 130, rfl⟩
abbrev main_v90 : Ref sig .tc := ⟨.hbm, 131, rfl⟩
abbrev main_v91 : Ref sig .tc := ⟨.hbm, 132, rfl⟩
abbrev main_cst_6 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_7 : Ref sig .tc := ⟨.hbm, 138, rfl⟩
abbrev main_v96 : Ref sig .tc := ⟨.hbm, 139, rfl⟩
abbrev main_v97 : Ref sig .tc := ⟨.hbm, 140, rfl⟩
abbrev main_cst_8 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩

abbrev nD : Nat := 1
abbrev τ : Topo := Topo.v7x

variable {F : FTy → Type} [FloatOps F]
-- ==== Proof.Gates.lean ====
module

public import proofs.«01_k».proof.Defs
public import Idealize.ShloMosaic.Lib.Pointwise
public import Idealize.ShloMosaic.Lib.ValueIdx
public import Idealize.ShloMosaic.Lib.ReduceAll

/-! What the precondition says of the input gates: none of them, its bias added, is plus infinity. -/

@[expose] public section

noncomputable section

namespace Cert.Pre_input_gates_below_inf

open Idealize.ShloMosaic

/-- The side conditions of the precondition's operations. -/
instance facts : Facts where
  slices_S32768x128_S32768x4_0_0 := by decide
  slices_S8_S4_0 := by decide
  bcast_S4_S1x4_1 := by decide
  bcast_S1x4_S32768x4_0_1 := by decide
  bcast_S_S32768x4 := by decide
  reducesTo_S32768x4_S_d0_1 := by decide
  h_S_ := by decide

/-- Under the precondition, no input gate's logit with its bias added is plus infinity. -/
theorem gate_lt_top (a0 : FVec Ideal S32768x2048 .bf16) (a1 : FVec Ideal S32768x12288 .bf16) (a2 : FVec Ideal S32768x128 .f32)
    (a3 : FVec Ideal S8 .f32) (h : fn a0 a1 a2 a3 = fun _ => 1#1) (r : Fin 32768) (c : Fin 4) :
    a2 (ix2 r ⟨c, by omega⟩) + a3 (ix1 ⟨c, by omega⟩) < (⊤ : EReal) := by
  have h0 := congrFun h ix0
  unfold fn at h0
  haveI : Subsingleton S_.Idx := ⟨fun _ _ => funext fun k => k.elim0⟩
  have h1 := Host.reduce_andi_all _ _ _ _ _ h0 (ix2 r c)
  revert h1
  pointwise
  intro h1
  have hf : Ideal.ofBits FTy.f32 0x7F800000#32 = ⊤ := by simp [Ideal.ofBits, Ideal.ieee]
  rw [hf] at h1
  by_contra hn
  simp [hn] at h1

end Cert.Pre_input_gates_below_inf
-- ==== Proof.Vocab.lean ====
module

public import proofs.«01_k».proof.Proof.Gen.KernelIdeal.Value

/-! The values one run of the kernel's body computes, written once for a symbolic chunk `c` (of the
    four of a grid point), head `h` and group `t` of 128 value columns: the gates and their running
    sum, the stabilised decay matrix, the running maximum, the scores, and the pieces stored into the
    output block and into the three carried states. -/

@[expose] public section

set_option maxRecDepth 16384

noncomputable section

namespace Cert.KernelIdeal.Body

open Idealize.ShloMosaic Idealize.SL.Sem Cert.KernelIdeal Cert.KernelIdeal.Gen

variable {F : FTy → Type} [FloatOps F]

/-- What a run of the body loads: per chunk the gates, per chunk and head the queries, keys and
    values, the gate biases, and per head the two small states it starts from. -/
structure Ld (F : FTy → Type) [FloatOps F] where
  /-- the gates of a chunk -/
  g : ℕ → Vec F S128x128 .f32
  /-- the gate biases -/
  b : Vec F S1x128 .f32
  /-- the queries of a chunk and a head -/
  q : ℕ → ℕ → Vec F S128x256 .bf16
  /-- the keys of a chunk and a head -/
  k : ℕ → ℕ → Vec F S128x256 .bf16
  /-- the values of a chunk and a head -/
  v : ℕ → ℕ → Vec F S128x512 .bf16
  /-- the running maximum of a head at the start -/
  m0 : ℕ → Vec F S1x1x128 .f32
  /-- the normaliser of a head at the start -/
  n0 : ℕ → Vec F S1x1x256 .f32

theorem slices_col (h : ℕ) (hh : h < 128) : S128x128.Slices ![0, h] S128x1 := by
  refine ⟨rfl, fun a => ?_⟩
  match a with
  | ⟨0, _⟩ => exact Nat.le_refl _
  | ⟨1, _⟩ => exact hh

theorem slices_row (h : ℕ) (hh : h < 128) : S128x128.Slices ![h, 0] S1x128 := by
  refine ⟨rfl, fun a => ?_⟩
  match a with
  | ⟨0, _⟩ => show h + 1 ≤ 128; omega
  | ⟨1, _⟩ => exact Nat.le_refl _

theorem slices_tile (p t : ℕ) : (⟨2, ![p, 512]⟩ : Shape).Slices ![0, 128 * (t % 4)] ⟨2, ![p, 128]⟩ := by
  refine ⟨rfl, fun a => ?_⟩
  match a with
  | ⟨0, _⟩ => show 0 + p ≤ p; omega
  | ⟨1, _⟩ => show 128 * (t % 4) + 128 ≤ 512; omega

variable (L : Ld F)

/-- The gates of a chunk: a column below 4 holds an input gate, any other the running sum of the
    logarithm of a forget gate. -/
def xg (c : ℕ) : FVec F S128x128 .f32 :=
  k0_pay39 (iota .tc S128x128 32 [1] iota_S128x128_d1_w32) k0_pay10 (L.g c) L.b

/-- The running sum of head `h` along the rows. -/
def br (c h : ℕ) : FVec F S128x128 .f32 :=
  broadcastTo S128x128 (shapeCast S128x1 (extractStridedSlice S128x1 ![0, 4 + h % 4] (xg L c) (slices_col _ (by omega))) shapeCasts_S128x1_S128x1) broadcasts_S128x1_S128x128

/-- The input gates of head `h` along the rows. -/
def ir (c h : ℕ) : FVec F S128x128 .f32 :=
  broadcastTo S128x128 (shapeCast S128x1 (extractStridedSlice S128x1 ![0, h % 4] (xg L c) (slices_col _ (by omega))) shapeCasts_S128x1_S128x1) broadcasts_S128x1_S128x128

/-- The gates with rows and columns exchanged. -/
def xt (c : ℕ) : FVec F S128x128 .f32 := transpose S128x128 [1, 0] (xg L c) transposes_S128x128_p1_0_S128x128

/-- The logarithm of the decay between two rows, minus infinity above the diagonal. -/
def dm (c h : ℕ) : FVec F S128x128 .f32 :=
  select k0_pay9
    (addf (subf (br L c h) (broadcastTo S128x128 (extractStridedSlice S1x128 ![4 + h % 4, 0] (xt L c) (slices_row _ (by omega))) broadcasts_S1x128_S128x128))
      (broadcastTo S128x128 (extractStridedSlice S1x128 ![h % 4, 0] (xt L c) (slices_row _ (by omega))) broadcasts_S1x128_S128x128))
    (broadcast S128x128 (Scalar.ofBits .f32 0xFF800000#32))

/-- The running sum at the chunk's last row. -/
def bl (c h : ℕ) : FVec F S1x128 .f32 := extractStridedSlice S1x128 ![127, 0] (br L c h) slices_S128x128_o127_0_S1x128

/-- The logarithm of what of each row reaches the chunk's end. -/
def gr (c h : ℕ) : FVec F S128x128 .f32 :=
  addf (subf (broadcastTo S128x128 (bl L c h) broadcasts_S1x128_S128x128) (br L c h)) (ir L c h)

/-- The largest decay of each row. -/
def dmx (c h : ℕ) : FVec F S128x1 .f32 :=
  shapeCast S128x1 (multiReduction .maximumf [1] S128 (dm L c h) 0xFF800000#32 reduces_S128x128_S128 (.inl rfl) rfl) shapeCasts_S128_S128x1

/-- The largest of what reaches the chunk's end. -/
def gmx (c h : ℕ) : FVec F S1x128 .f32 :=
  shapeCast S1x128 (multiReduction .maximumf [0] S128 (gr L c h) 0xFF800000#32 reduces_S128x128_S128_2 (.inl rfl) rfl) shapeCasts_S128_S1x128

/-- The products of queries and keys. -/
def sr (c h : ℕ) : FVec F S128x128 .f32 :=
  matmul dot_S128x256_S128x256_S128x128_1_1_0_0_n_n none (L.q c h) (L.k c h) (constant S128x128 .f32 0x00000000#32)

/-- The running maximum of head `h` at the start of chunk `c`. -/
def mi (h : ℕ) : ℕ → FVec F S1x128 .f32
  | 0 => shapeCast S1x128 (L.m0 h) shapeCasts_S1x1x128_S1x128
  | c + 1 => maximumf (addf (bl L c h) (mi h c)) (gmx L c h)

/-- How much the states decay over a chunk. -/
def dec (c h : ℕ) : FVec F S1x128 .f32 := exp (subf (addf (bl L c h) (mi L h c)) (mi L h (c + 1)))

/-- The logarithm of how much of the state reaches each row. -/
def int (c h : ℕ) : FVec F S128x128 .f32 := addf (br L c h) (broadcastTo S128x128 (mi L h c) broadcasts_S1x128_S128x128)

/-- The stabiliser of each row. -/
def mt (c h : ℕ) : FVec F S128x128 .f32 := maximumf (int L c h) (broadcastTo S128x128 (dmx L c h) broadcasts_S128x1_S128x128)

/-- The weight of the state in each row. -/
def wi (c h : ℕ) : FVec F S128x128 .f32 :=
  mulf (exp (subf (int L c h) (mt L c h))) (broadcast S128x128 (Scalar.ofBits .f32 0x3D800000#32))

/-- The weights of the chunk's own rows. -/
def sw (c h : ℕ) : FVec F S128x128 .f32 :=
  mulf (sr L c h) (mulf (exp (subf (dm L c h) (mt L c h))) (broadcast S128x128 (Scalar.ofBits .f32 0x3D800000#32)))

/-- The keys weighted by what of each row reaches the chunk's end. -/
def kw (c h : ℕ) : FVec F S128x256 .f32 := k0_pay289 (gr L c h) (mi L h (c + 1)) (L.k c h)

/-- The queries times the state. -/
def qc (c h : ℕ) (C : Vec F S1x256x512 .f32) : FVec F S128x512 .f32 :=
  matmul dot_S128x256_S256x512_S128x512_1_0_0_1_n_n none (L.q c h) (truncf .bf16 (shapeCast S256x512 C shapeCasts_S1x256x512_S256x512) bitsLt_bf16_f32) (constant S128x512 .f32 0x00000000#32)

/-- The weighted values. -/
def sv (c h : ℕ) : FVec F S128x512 .f32 :=
  matmul dot_S128x128_S128x512_S128x512_1_0_0_1_n_n none (truncf .bf16 (sw L c h) bitsLt_bf16_f32) (L.v c h) (constant S128x512 .f32 0x00000000#32)

/-- What a chunk adds to the state. -/
def up (c h : ℕ) : FVec F S256x512 .f32 :=
  matmul dot_S128x256_S128x512_S256x512_0_0_1_1_n_n none (truncf .bf16 (kw L c h) bitsLt_bf16_f32) (L.v c h) (constant S256x512 .f32 0x00000000#32)

/-- The normaliser of head `h` at the start of chunk `c`. -/
def nr (h : ℕ) : ℕ → FVec F S1x256 .f32
  | 0 => shapeCast S1x256 (L.n0 h) shapeCasts_S1x1x256_S1x256
  | c + 1 => k0_pay333 (k0_pay331 (dec L c h) (nr h c)) (k0_pay332 (kw L c h))

/-- The queries times the normaliser. -/
def qn (c h : ℕ) : FVec F S128x128 .f32 := k0_pay325 (nr L h c) (L.q c h)

/-- One over the denominator of each row. -/
def inv (c h : ℕ) : FVec F S128x128 .f32 := k0_pay326 (mt L c h) (wi L c h) (sw L c h) (qn L c h)

/-- The tile of 128 output columns stored for chunk `c`, head `h`, from the state `C` of the head. -/
def otile (c h t : ℕ) (C : Vec F S1x256x512 .f32) : FVec F S128x128 .bf16 :=
  truncf .bf16 (mulf (addf (mulf (wi L c h) (extractStridedSlice S128x128 ![0, 128 * (t % 4)] (qc L c h C) (slices_tile 128 t)))
    (extractStridedSlice S128x128 ![0, 128 * (t % 4)] (sv L c h) (slices_tile 128 t))) (inv L c h)) bitsLt_bf16_f32

/-- The tile of 128 state columns stored for chunk `c`, head `h`, from what the tile held. -/
def ctile (c h t : ℕ) (x : Vec F S1x256x128 .f32) : FVec F S1x256x128 .f32 :=
  shapeCast S1x256x128 (addf (mulf (broadcastTo S256x128 (dec L c h) broadcasts_S1x128_S256x128) (shapeCast S256x128 x shapeCasts_S1x256x128_S256x128))
    (extractStridedSlice S256x128 ![0, 128 * (t % 4)] (up L c h) (slices_tile 256 t))) shapeCasts_S256x128_S1x256x128

/-! ## The rectangles -/

theorem inb_tile (n : ℕ) : ∀ a, (![n / 4 % 4, 0, 128 * (n % 4)] : Fin 3 → ℕ) a + S1x256x128.size a ≤ S4x256x512.size a := by
  intro a
  match a with
  | ⟨0, _⟩ => show n / 4 % 4 + 1 ≤ 4; omega
  | ⟨1, _⟩ => exact Nat.le_refl _
  | ⟨2, _⟩ => show 128 * (n % 4) + 128 ≤ 512; omega

theorem inb_head (h : ℕ) : ∀ a, (![h % 4, 0, 0] : Fin 3 → ℕ) a + S1x256x512.size a ≤ S4x256x512.size a := by
  intro a
  match a with
  | ⟨0, _⟩ => show h % 4 + 1 ≤ 4; omega
  | ⟨1, _⟩ => exact Nat.le_refl _
  | ⟨2, _⟩ => exact Nat.le_refl _

theorem inb_n (h : ℕ) : ∀ a, (![h % 4, 0, 0] : Fin 3 → ℕ) a + S1x1x256.size a ≤ S4x1x256.size a := by
  intro a
  match a with
  | ⟨0, _⟩ => show h % 4 + 1 ≤ 4; omega
  | ⟨1, _⟩ => exact Nat.le_refl _
  | ⟨2, _⟩ => exact Nat.le_refl _

theorem inb_m (h : ℕ) : ∀ a, (![h % 4, 0, 0] : Fin 3 → ℕ) a + S1x1x128.size a ≤ S4x1x128.size a := by
  intro a
  match a with
  | ⟨0, _⟩ => show h % 4 + 1 ≤ 4; omega
  | ⟨1, _⟩ => exact Nat.le_refl _
  | ⟨2, _⟩ => exact Nat.le_refl _

theorem inb_out (n : ℕ) : ∀ a, (![128 * (n / 16 % 4), 512 * (n / 4 % 4) + 128 * (n % 4)] : Fin 2 → ℕ) a + S128x128.size a ≤ S512x2048.size a := by
  intro a
  match a with
  | ⟨0, _⟩ => show 128 * (n / 16 % 4) + 128 ≤ 512; omega
  | ⟨1, _⟩ => show 512 * (n / 4 % 4) + 128 * (n % 4) + 128 ≤ 2048; omega

theorem inb_g (c : ℕ) : ∀ a, (![128 * (c % 4), 0] : Fin 2 → ℕ) a + S128x128.size a ≤ S512x128.size a := by
  intro a
  match a with
  | ⟨0, _⟩ => show 128 * (c % 4) + 128 ≤ 512; omega
  | ⟨1, _⟩ => exact Nat.le_refl _

theorem inb_q (c h : ℕ) : ∀ a, (![128 * (c % 4), 256 * (h % 4)] : Fin 2 → ℕ) a + S128x256.size a ≤ S512x2048.size a := by
  intro a
  match a with
  | ⟨0, _⟩ => show 128 * (c % 4) + 128 ≤ 512; omega
  | ⟨1, _⟩ => show 256 * (h % 4) + 256 ≤ 2048; omega

theorem inb_k (c h : ℕ) : ∀ a, (![128 * (c % 4), 1024 + 256 * (h % 4)] : Fin 2 → ℕ) a + S128x256.size a ≤ S512x2048.size a := by
  intro a
  match a with
  | ⟨0, _⟩ => show 128 * (c % 4) + 128 ≤ 512; omega
  | ⟨1, _⟩ => show 1024 + 256 * (h % 4) + 256 ≤ 2048; omega

theorem inb_v (c h : ℕ) : ∀ a, (![128 * (c % 4), 512 * (h % 4)] : Fin 2 → ℕ) a + S128x512.size a ≤ S512x2048.size a := by
  intro a
  match a with
  | ⟨0, _⟩ => show 128 * (c % 4) + 128 ≤ 512; omega
  | ⟨1, _⟩ => show 512 * (h % 4) + 512 ≤ 2048; omega

/-- The tile of the state that the `n`-th of the 64 stores writes. -/
def tileR (n : ℕ) : Rect S4x256x512 := Rect.unit ![n / 4 % 4, 0, 128 * (n % 4)] S1x256x128.size (inb_tile n)
/-- A head's state. -/
def headR (h : ℕ) : Rect S4x256x512 := Rect.unit ![h % 4, 0, 0] S1x256x512.size (inb_head h)
/-- A head's normaliser. -/
def nR (h : ℕ) : Rect S4x1x256 := Rect.unit ![h % 4, 0, 0] S1x1x256.size (inb_n h)
/-- A head's running maximum. -/
def mR (h : ℕ) : Rect S4x1x128 := Rect.unit ![h % 4, 0, 0] S1x1x128.size (inb_m h)
/-- The tile of the output that the `n`-th of the 64 stores writes. -/
def outR (n : ℕ) : Rect S512x2048 := Rect.unit ![128 * (n / 16 % 4), 512 * (n / 4 % 4) + 128 * (n % 4)] S128x128.size (inb_out n)

/-- The gates of a chunk. -/
def gR (c : ℕ) : Rect S512x128 := Rect.unit ![128 * (c % 4), 0] S128x128.size (inb_g c)
/-- The gate biases. -/
def bR : Rect S1x128 := Rect.unit ![0, 0] S1x128.size inb_S1x128_S1x128_0_0
/-- The queries of a chunk and a head. -/
def qR (c h : ℕ) : Rect S512x2048 := Rect.unit ![128 * (c % 4), 256 * (h % 4)] S128x256.size (inb_q c h)
/-- The keys of a chunk and a head. -/
def kR (c h : ℕ) : Rect S512x2048 := Rect.unit ![128 * (c % 4), 1024 + 256 * (h % 4)] S128x256.size (inb_k c h)
/-- The values of a chunk and a head. -/
def vR (c h : ℕ) : Rect S512x2048 := Rect.unit ![128 * (c % 4), 512 * (h % 4)] S128x512.size (inb_v c h)

/-! ## The pieces stored -/

/-- The first `n` pieces stored into the state, over what was stored before (`base`); the tile a
    piece starts from is read by `ld`. -/
def cpieces (ld : ℕ → List (View.Piece (Elt F) S4x256x512 .f32) → Vec F S1x256x128 .f32)
    (base : List (View.Piece (Elt F) S4x256x512 .f32)) : ℕ → List (View.Piece (Elt F) S4x256x512 .f32)
  | 0 => base
  | n + 1 => ⟨tileR n, ctile L (n / 16) (n / 4 % 4) (n % 4) (ld n (cpieces ld base n))⟩ :: cpieces ld base n

/-- The first `n` pieces stored into the output; the state a piece starts from is `C`. -/
def opieces (C : ℕ → ℕ → Vec F S1x256x512 .f32) : ℕ → List (View.Piece (Elt F) S512x2048 .bf16)
  | 0 => []
  | n + 1 => ⟨outR n, otile L (n / 16) (n / 4 % 4) (n % 4) (C (n / 16) (n / 4 % 4))⟩ :: opieces C n

/-- The first `h` pieces stored into the normaliser. -/
def npieces (base : List (View.Piece (Elt F) S4x1x256 .f32)) : ℕ → List (View.Piece (Elt F) S4x1x256 .f32)
  | 0 => base
  | h + 1 => ⟨nR h, shapeCast S1x1x256 (nr L h 4) shapeCasts_S1x256_S1x1x256⟩ :: npieces base h

/-- The first `h` pieces stored into the running maximum. -/
def mpieces (base : List (View.Piece (Elt F) S4x1x128 .f32)) : ℕ → List (View.Piece (Elt F) S4x1x128 .f32)
  | 0 => base
  | h + 1 => ⟨mR h, shapeCast S1x1x128 (mi L h 4) shapeCasts_S1x128_S1x1x128⟩ :: mpieces base h

end Cert.KernelIdeal.Body
-- ==== Proof.Spec.lean ====
module

public import Idealize.ShloMosaic.Lib.Pointwise
public import Idealize.ShloMosaic.Lib.ValueIdx

/-! The stabilised mLSTM of one head over the extended reals, chunk by chunk: what a chunk of 128 rows
    gives out from the state it meets, and the state it leaves. -/

@[expose] public section

noncomputable section

namespace Cert.Mlstm

open Idealize.ShloMosaic

theorem select_ofBool {α : Type} (b : Bool) (x y : α) : Scalar.select (BitVec.ofBool b) x y = if b then x else y := by
  cases b <;> rfl

theorem ofBits_neg_inf : Ideal.ofBits FTy.f32 0xFF800000#32 = ⊥ := by
  simp [Ideal.ofBits, Ideal.ieee]

/-- The queries, keys and values of a chunk of one head, its input gates and the logarithms of its
    forget gates. -/
@[ext] structure Chunk where
  /-- queries -/
  q : Fin 128 → Fin 256 → EReal
  /-- keys -/
  k : Fin 128 → Fin 256 → EReal
  /-- values -/
  v : Fin 128 → Fin 512 → EReal
  /-- input gates -/
  i : Fin 128 → EReal
  /-- logarithms of the forget gates -/
  l : Fin 128 → EReal

/-- The state of one head: the matrix, the normaliser and the running maximum. -/
@[ext] structure St where
  /-- the matrix -/
  C : Fin 256 → Fin 512 → EReal
  /-- the normaliser -/
  n : Fin 256 → EReal
  /-- the running maximum -/
  m : EReal

/-- The scale of the scores, one sixteenth. -/
def κ : EReal := Ideal.ofBits .f32 0x3D800000#32

/-- The largest of 128 values. -/
def fmax (f : Fin 128 → EReal) : EReal := Finset.univ.fold max ⊥ f

/-- The logarithm of the logistic function. -/
def lsig (x : EReal) : EReal := min x 0 - Ideal.log (1 + Ideal.exp (0 - max x (-x)))

namespace Chunk

variable (X : Chunk) (S : St)

/-- The running sum of the logarithms of the forget gates. -/
def cum (t : Fin 128) : EReal := ∑ s : Fin 128, if s ≤ t then X.l s else 0
/-- The logarithm of what of row `s` reaches row `t`. -/
def dmat (t s : Fin 128) : EReal := if s ≤ t then X.cum t - X.cum s + X.i s else ⊥
/-- The sum of the logarithms of the forget gates over the chunk. -/
def last : EReal := X.cum 127
/-- The logarithm of what of row `t` reaches the chunk's end. -/
def g (t : Fin 128) : EReal := X.last - X.cum t + X.i t
/-- The running maximum the chunk leaves. -/
def mnext : EReal := max (X.last + S.m) (fmax X.g)
/-- How much the state decays over the chunk. -/
def dec : EReal := Ideal.exp (X.last + S.m - X.mnext S)
/-- The stabiliser of row `t`. -/
def mt (t : Fin 128) : EReal := max (X.cum t + S.m) (fmax (X.dmat t))
/-- The weight of the state in row `t`. -/
def wi (t : Fin 128) : EReal := Ideal.exp (X.cum t + S.m - X.mt S t)
/-- The weight of row `s` in row `t`, without the scores. -/
def ws (t s : Fin 128) : EReal := Ideal.exp (X.dmat t s - X.mt S t)
/-- The weight of row `t` in the state the chunk leaves. -/
def wk (t : Fin 128) : EReal := Ideal.exp (X.g t - X.mnext S)

/-- What the chunk gives out. -/
def out (t : Fin 128) (e : Fin 512) : EReal :=
  (X.wi S t * κ * ∑ d, X.q t d * S.C d e + ∑ s, (∑ d, X.q t d * X.k s d) * (X.ws S t s * κ) * X.v s e)
    * Ideal.div 1 (max (max (X.wi S t * κ * ∑ d, X.q t d * S.n d + ∑ s, (∑ d, X.q t d * X.k s d) * (X.ws S t s * κ))
          (-(X.wi S t * κ * ∑ d, X.q t d * S.n d + ∑ s, (∑ d, X.q t d * X.k s d) * (X.ws S t s * κ))))
        (Ideal.exp (0 - X.mt S t)))

/-- The state the chunk leaves. -/
def next : St where
  C d e := X.dec S * S.C d e + ∑ s, X.k s d * X.wk S s * X.v s e
  n d := X.dec S * S.n d + ∑ s, X.k s d * X.wk S s
  m := X.mnext S

end Chunk

/-- The state after the first `c` chunks. -/
def sts (X : ℕ → Chunk) (S : St) : ℕ → St
  | 0 => S
  | c + 1 => (X c).next (sts X S c)

end Cert.Mlstm
-- ==== Proof.Read.lean ====
module

public import proofs.«01_k».proof.Proof.Vocab
public import proofs.«01_k».proof.Proof.Spec

/-! The values of a run of the body over the extended reals, element by element: they are those of
    the stabilised mLSTM on the chunks the run loads. -/

@[expose] public section

set_option maxRecDepth 16384

noncomputable section

namespace Cert.KernelIdeal.Body

open Idealize.ShloMosaic Idealize.SL.Sem Cert.KernelIdeal Cert.KernelIdeal.Gen Cert.Mlstm

variable (L : Ld Ideal)

/-- The chunk a run loads. -/
def chunkL (h c : ℕ) : Chunk where
  q t d := L.q c h (ix2 t d)
  k t d := L.k c h (ix2 t d)
  v t e := L.v c h (ix2 t e)
  i t := L.g c (ix2 t ⟨h % 4, by omega⟩) + L.b (ix2 0 ⟨h % 4, by omega⟩)
  l t := lsig (L.g c (ix2 t ⟨4 + h % 4, by omega⟩) + L.b (ix2 0 ⟨4 + h % 4, by omega⟩))

theorem cmpi_slt_four (j : Fin 128) : IntOp.cmpi .slt (BitVec.ofNat 32 j) 4#32 = BitVec.ofBool (decide (j.val < 4)) := by
  revert j; decide +kernel

theorem cmpi_sge_fin (i j : Fin 128) : IntOp.cmpi .sge (BitVec.ofNat 32 i) (BitVec.ofNat 32 j) = BitVec.ofBool (decide (j ≤ i)) := by
  revert i j; decide +kernel

theorem sitofp_ofBool (b : Bool) : (FloatOps.sitofp (F := Ideal) FTy.f32 (BitVec.setWidth 32 (BitVec.ofBool b)) : EReal) = if b then 1 else 0 := by
  cases b
  · show (((BitVec.setWidth 32 (BitVec.ofBool false)).toInt : ℝ) : EReal) = 0
    simp
  · show (((BitVec.setWidth 32 (BitVec.ofBool true)).toInt : ℝ) : EReal) = 1
    simp

theorem absf_eq (x : EReal) : (FloatOps.absf (F := Ideal) (φ := .f32) x : EReal) = max x (-x) := rfl

theorem xg_i (c h : ℕ) (t : Fin 128) : xg L c (ix2 t ⟨h % 4, by omega⟩) = (chunkL L h c).i t := by
  unfold xg k0_pay39 k0_pay10 k0_pay9
  pointwise
  rw [show IntOp.cmpi .slt (BitVec.ofNat 32 (h % 4)) 4#32 = _ from cmpi_slt_four ⟨h % 4, by omega⟩, select_ofBool, if_pos (by simp; omega)]
  rfl

theorem xg_l (c h : ℕ) (t : Fin 128) : xg L c (ix2 t ⟨4 + h % 4, by omega⟩) = (chunkL L h c).cum t := by
  unfold xg k0_pay39 k0_pay10 k0_pay9
  pointwise
  rw [show IntOp.cmpi .slt (BitVec.ofNat 32 (4 + h % 4)) 4#32 = _ from cmpi_slt_four ⟨4 + h % 4, by omega⟩, select_ofBool, if_neg (by simp)]
  refine Finset.sum_congr rfl fun s _ => ?_
  rw [cmpi_sge_fin, sitofp_ofBool, absf_eq]
  by_cases hs : s ≤ t
  · simp only [hs, decide_true, if_true, one_mul]; rfl
  · simp only [hs, decide_false, if_false, Bool.false_eq_true, zero_mul]

theorem br_apply (c h : ℕ) (i j : Fin 128) : br L c h (ix2 i j) = (chunkL L h c).cum i := by
  unfold br
  pointwise
  exact xg_l L c h i

theorem ir_apply (c h : ℕ) (i j : Fin 128) : ir L c h (ix2 i j) = (chunkL L h c).i i := by
  unfold ir
  pointwise
  exact xg_i L c h i

theorem dm_apply (c h : ℕ) (i j : Fin 128) : dm L c h (ix2 i j) = (chunkL L h c).dmat i j := by
  unfold dm k0_pay9 xt
  pointwise
  rw [cmpi_sge_fin, select_ofBool, br_apply, xg_i, xg_l, ofBits_neg_inf]
  unfold Chunk.dmat
  by_cases hs : j ≤ i <;> simp [hs]

theorem bl_apply (c h : ℕ) (j : Fin 128) : bl L c h (ix2 0 j) = (chunkL L h c).last := by
  unfold bl
  pointwise
  exact br_apply L c h 127 j

theorem gr_apply (c h : ℕ) (i j : Fin 128) : gr L c h (ix2 i j) = (chunkL L h c).g i := by
  unfold gr
  pointwise
  rw [bl_apply, br_apply, ir_apply]
  rfl

theorem dmx_apply (c h : ℕ) (i : Fin 128) : dmx L c h (ix2 i 0) = fmax ((chunkL L h c).dmat i) := by
  unfold dmx
  pointwise
  rw [ofBits_neg_inf, funext fun x => dm_apply L c h i x]
  rfl

theorem gmx_apply (c h : ℕ) (j : Fin 128) : gmx L c h (ix2 0 j) = fmax (chunkL L h c).g := by
  unfold gmx
  pointwise
  rw [ofBits_neg_inf, funext fun x => gr_apply L c h x j]
  rfl

variable (h : ℕ) (S : St) (hm : ∀ j : Fin 128, L.m0 h (ix3 0 0 j) = S.m) (hn : ∀ d : Fin 256, L.n0 h (ix3 0 0 d) = S.n d)

include hm

theorem mi_apply (c : ℕ) (j : Fin 128) : mi L h c (ix2 0 j) = (sts (chunkL L h) S c).m := by
  induction c with
  | zero =>
    unfold mi
    pointwise
    exact hm j
  | succ c ih =>
    unfold mi
    pointwise
    rw [ih, bl_apply, gmx_apply]
    rfl

theorem dec_apply (c : ℕ) (j : Fin 128) : dec L c h (ix2 0 j) = (chunkL L h c).dec (sts (chunkL L h) S c) := by
  unfold dec
  pointwise
  rw [mi_apply L h S hm, mi_apply L h S hm, bl_apply]
  rfl

theorem int_apply (c : ℕ) (i j : Fin 128) : int L c h (ix2 i j) = (chunkL L h c).cum i + (sts (chunkL L h) S c).m := by
  unfold int
  pointwise
  rw [mi_apply L h S hm, br_apply]

theorem mt_apply (c : ℕ) (i j : Fin 128) : mt L c h (ix2 i j) = (chunkL L h c).mt (sts (chunkL L h) S c) i := by
  unfold mt
  pointwise
  rw [int_apply L h S hm, dmx_apply]
  rfl

theorem wi_apply (c : ℕ) (i j : Fin 128) : wi L c h (ix2 i j) = (chunkL L h c).wi (sts (chunkL L h) S c) i * κ := by
  unfold wi
  pointwise
  rw [int_apply L h S hm, mt_apply L h S hm]
  rfl

theorem sw_apply (c : ℕ) (i j : Fin 128) : sw L c h (ix2 i j)
    = (∑ d, (chunkL L h c).q i d * (chunkL L h c).k j d) * ((chunkL L h c).ws (sts (chunkL L h) S c) i j * κ) := by
  unfold sw sr
  pointwise
  rw [dm_apply, mt_apply L h S hm]
  rfl

theorem kw_apply (c : ℕ) (i : Fin 128) (d : Fin 256) : kw L c h (ix2 i d)
    = (chunkL L h c).k i d * (chunkL L h c).wk (sts (chunkL L h) S c) i := by
  unfold kw k0_pay289
  pointwise
  simp only [gr_apply, mi_apply L h S hm]
  split
  · rfl
  · rw [show (⟨128 + (d.val - 128), _⟩ : Fin 256) = d from Fin.ext (by simp; omega)]
    rfl

include hn

theorem nr_apply (c : ℕ) (d : Fin 256) : nr L h c (ix2 0 d) = (sts (chunkL L h) S c).n d := by
  induction c with
  | zero =>
    unfold nr
    pointwise
    exact hn d
  | succ c ih =>
    unfold nr k0_pay333 k0_pay331 k0_pay332
    pointwise
    simp only [ih, dec_apply L h S hm, kw_apply L h S hm, ite_self, dite_eq_ite]
    rfl

theorem inv_apply (c : ℕ) (i j : Fin 128) : inv L c h (ix2 i j) =
    Ideal.div 1 (max (max ((chunkL L h c).wi (sts (chunkL L h) S c) i * κ * ∑ d, (chunkL L h c).q i d * (sts (chunkL L h) S c).n d
        + ∑ s, (∑ d, (chunkL L h c).q i d * (chunkL L h c).k s d) * ((chunkL L h c).ws (sts (chunkL L h) S c) i s * κ))
      (-((chunkL L h c).wi (sts (chunkL L h) S c) i * κ * ∑ d, (chunkL L h c).q i d * (sts (chunkL L h) S c).n d
        + ∑ s, (∑ d, (chunkL L h c).q i d * (chunkL L h c).k s d) * ((chunkL L h c).ws (sts (chunkL L h) S c) i s * κ))))
      (Ideal.exp (0 - (chunkL L h c).mt (sts (chunkL L h) S c) i))) := by
  unfold inv qn k0_pay326 k0_pay325
  pointwise
  simp only [absf_eq, nr_apply L h S hm hn, wi_apply L h S hm, sw_apply L h S hm, mt_apply L h S hm]
  rfl

/-- An output tile holds the chunk's output. -/
theorem otile_apply (c t : ℕ) (C : Vec Ideal S1x256x512 .f32) (hC : ∀ d e, C (ix3 0 d e) = (sts (chunkL L h) S c).C d e)
    (i j : Fin 128) : otile L c h t C (ix2 i j) = (chunkL L h c).out (sts (chunkL L h) S c) i ⟨128 * (t % 4) + j, by omega⟩ := by
  unfold otile qc sv
  pointwise
  simp only [inv_apply L h S hm hn, hC, wi_apply L h S hm, sw_apply L h S hm]
  rfl

omit hn in
/-- A state tile holds the state after the chunk. -/
theorem ctile_apply (c t : ℕ) (x : Vec Ideal S1x256x128 .f32)
    (hx : ∀ (d : Fin 256) (j : Fin 128), x (ix3 0 d j) = (sts (chunkL L h) S c).C d ⟨128 * (t % 4) + j, by omega⟩)
    (d : Fin 256) (j : Fin 128) : ctile L c h t x (ix3 0 d j) = (sts (chunkL L h) S (c + 1)).C d ⟨128 * (t % 4) + j, by omega⟩ := by
  unfold ctile up
  pointwise
  simp only [hx, dec_apply L h S hm, kw_apply L h S hm]
  rfl

end Cert.KernelIdeal.Body
-- ==== Proof.Canon.lean ====
module

public import proofs.«01_k».proof.Proof.Read

/-! What the pieces stored by one run of the body leave in the three states and in the output block, at
    every index: the state of a head after the chunks stored so far, and the rows a chunk gives out. -/

@[expose] public section

set_option backward.proofsInPublic true
set_option maxRecDepth 8192

noncomputable section

namespace Cert.KernelIdeal.Body

open Idealize.ShloMosaic Idealize.SL.Sem Cert.KernelIdeal Cert.KernelIdeal.Gen Cert.Mlstm

/-- A one-axis unit rectangle's index, by its coordinates: rank two. -/
theorem not_mem_unit2 {p q : ℕ} {off : Fin 2 → ℕ} {size : Fin 2 → ℕ} {inb} {i : Fin p} {j : Fin q}
    (h : ¬ (off 0 ≤ i.val ∧ i.val < off 0 + size 0 ∧ off 1 ≤ j.val ∧ j.val < off 1 + size 1)) :
    (ix2 i j : (⟨2, ![p, q]⟩ : Shape).Idx) ∉ (Rect.unit (s := ⟨2, ![p, q]⟩) off size inb).set := by
  intro hm
  obtain ⟨x, hx⟩ := LoadRect.exists_idx_of_mem _ hm
  have h0 : off 0 + 1 * (x 0).val = i.val := congrArg (fun y : (⟨2, ![p, q]⟩ : Shape).Idx => (y 0).val) hx
  have h1 : off 1 + 1 * (x 1).val = j.val := congrArg (fun y : (⟨2, ![p, q]⟩ : Shape).Idx => (y 1).val) hx
  have l0 : (x 0).val < size 0 := (x 0).isLt
  have l1 : (x 1).val < size 1 := (x 1).isLt
  exact h ⟨by omega, by omega, by omega, by omega⟩

/-- A unit rectangle's index, by its coordinates: rank three. -/
theorem not_mem_unit3 {p q r : ℕ} {off : Fin 3 → ℕ} {size : Fin 3 → ℕ} {inb} {i : Fin p} {j : Fin q} {k : Fin r}
    (h : ¬ (off 0 ≤ i.val ∧ i.val < off 0 + size 0 ∧ off 2 ≤ k.val ∧ k.val < off 2 + size 2)) :
    (ix3 i j k : (⟨3, ![p, q, r]⟩ : Shape).Idx) ∉ (Rect.unit (s := ⟨3, ![p, q, r]⟩) off size inb).set := by
  intro hm
  obtain ⟨x, hx⟩ := LoadRect.exists_idx_of_mem _ hm
  have h0 : off 0 + 1 * (x 0).val = i.val := congrArg (fun y : (⟨3, ![p, q, r]⟩ : Shape).Idx => (y 0).val) hx
  have h1 : off 2 + 1 * (x 2).val = k.val := congrArg (fun y : (⟨3, ![p, q, r]⟩ : Shape).Idx => (y 2).val) hx
  have l0 : (x 0).val < size 0 := (x 0).isLt
  have l1 : (x 2).val < size 2 := (x 2).isLt
  exact h ⟨by omega, by omega, by omega, by omega⟩

/-- Off the newest piece the canon is that of the earlier ones: rank two. -/
theorem canon_off2 {e : EltTy} {p q a b : ℕ} {off : Fin 2 → ℕ} {inb} {w : (⟨2, ![a, b]⟩ : Shape).Idx → Elt Ideal e}
    {P : List (View.Piece (Elt Ideal) ⟨2, ![p, q]⟩ e)} {i : Fin p} {j : Fin q}
    (h : ¬ (off 0 ≤ i.val ∧ i.val < off 0 + a ∧ off 1 ≤ j.val ∧ j.val < off 1 + b)) :
    View.canon (⟨Rect.unit (s := ⟨2, ![p, q]⟩) off ![a, b] inb, w⟩ :: P) (ix2 i j) = View.canon P (ix2 i j) :=
  View.canon_cons_of_not_mem _ _ (not_mem_unit2 (inb := inb) h)

/-- Off the newest piece the canon is that of the earlier ones: rank three. -/
theorem canon_off3 {e : EltTy} {p q r a b c : ℕ} {off : Fin 3 → ℕ} {inb} {w : (⟨3, ![a, b, c]⟩ : Shape).Idx → Elt Ideal e}
    {P : List (View.Piece (Elt Ideal) ⟨3, ![p, q, r]⟩ e)} {i : Fin p} {j : Fin q} {k : Fin r}
    (h : ¬ (off 0 ≤ i.val ∧ i.val < off 0 + a ∧ off 2 ≤ k.val ∧ k.val < off 2 + c)) :
    View.canon (⟨Rect.unit (s := ⟨3, ![p, q, r]⟩) off ![a, b, c] inb, w⟩ :: P) (ix3 i j k) = View.canon P (ix3 i j k) :=
  View.canon_cons_of_not_mem _ _ (not_mem_unit3 (inb := inb) h)

/-- Under the newest piece the canon is its payload, at an index given by its coordinates: rank two. -/
theorem canon_at2 {e : EltTy} {p q a b : ℕ} {off : Fin 2 → ℕ} {inb} {w : (⟨2, ![a, b]⟩ : Shape).Idx → Elt Ideal e}
    {P : List (View.Piece (Elt Ideal) ⟨2, ![p, q]⟩ e)} {i : Fin p} {j : Fin q} (x : Fin a) (y : Fin b)
    (h0 : i.val = off 0 + x.val) (h1 : j.val = off 1 + y.val) :
    View.canon (⟨Rect.unit (s := ⟨2, ![p, q]⟩) off ![a, b] inb, w⟩ :: P) (ix2 i j) = w (ix2 x y) := by
  have e : (ix2 i j : (⟨2, ![p, q]⟩ : Shape).Idx) = (Rect.unit (s := ⟨2, ![p, q]⟩) off ![a, b] inb).emb (ix2 x y) := by
    funext k
    match k with
    | ⟨0, _⟩ => exact Fin.ext (by show i.val = off 0 + 1 * x.val; omega)
    | ⟨1, _⟩ => exact Fin.ext (by show j.val = off 1 + 1 * y.val; omega)
  rw [e]
  exact View.canon_cons_emb _ _ _ _

/-- Under the newest piece the canon is its payload, at an index given by its coordinates: rank three. -/
theorem canon_at3 {e : EltTy} {p q r a b c : ℕ} {off : Fin 3 → ℕ} {inb} {w : (⟨3, ![a, b, c]⟩ : Shape).Idx → Elt Ideal e}
    {P : List (View.Piece (Elt Ideal) ⟨3, ![p, q, r]⟩ e)} {i : Fin p} {j : Fin q} {k : Fin r} (x : Fin a) (y : Fin b) (z : Fin c)
    (h0 : i.val = off 0 + x.val) (h1 : j.val = off 1 + y.val) (h2 : k.val = off 2 + z.val) :
    View.canon (⟨Rect.unit (s := ⟨3, ![p, q, r]⟩) off ![a, b, c] inb, w⟩ :: P) (ix3 i j k) = w (ix3 x y z) := by
  have e : (ix3 i j k : (⟨3, ![p, q, r]⟩ : Shape).Idx) = (Rect.unit (s := ⟨3, ![p, q, r]⟩) off ![a, b, c] inb).emb (ix3 x y z) := by
    funext l
    match l with
    | ⟨0, _⟩ => exact Fin.ext (by show i.val = off 0 + 1 * x.val; omega)
    | ⟨1, _⟩ => exact Fin.ext (by show j.val = off 1 + 1 * y.val; omega)
    | ⟨2, _⟩ => exact Fin.ext (by show k.val = off 2 + 1 * z.val; omega)
  rw [e]
  exact View.canon_cons_emb _ _ _ _

variable (L : Ld Ideal) (S : ℕ → St)
variable (hm : ∀ h < 4, ∀ j : Fin 128, L.m0 h (ix3 0 0 j) = (S h).m) (hn : ∀ h < 4, ∀ d : Fin 256, L.n0 h (ix3 0 0 d) = (S h).n d)

/-- The running maxima stored for the first `k` heads. -/
theorem mpieces_canon (base : List (View.Piece (Elt Ideal) S4x1x128 .f32)) (h : Fin 4) (j : Fin 128) : ∀ k ≤ 4,
    View.canon (mpieces L base k) (ix3 h 0 j) = if h.val < k then mi L h 4 (ix2 0 j) else View.canon base (ix3 h 0 j)
  | 0, _ => rfl
  | k + 1, hk => by
    have ih := mpieces_canon base h j k (by omega)
    by_cases hh : h.val = k
    · rw [if_pos (by omega)]
      refine (canon_at3 (a := 1) (b := 1) (c := 128) 0 0 j ?_ rfl ?_).trans ?_
      · show h.val = k % 4 + 0; omega
      · show j.val = 0 + j.val; omega
      · rw [hh]; pointwise
    · refine (canon_off3 (a := 1) (b := 1) (c := 128) ?_).trans (ih.trans ?_)
      · rintro ⟨h0, h1, -, -⟩
        have h0' : k % 4 ≤ h.val := h0
        have h1' : h.val < k % 4 + 1 := h1
        omega
      · by_cases hlt : h.val < k
        · rw [if_pos hlt, if_pos (by omega)]
        · rw [if_neg hlt, if_neg (by omega)]

/-- The normalisers stored for the first `k` heads. -/
theorem npieces_canon (base : List (View.Piece (Elt Ideal) S4x1x256 .f32)) (h : Fin 4) (d : Fin 256) : ∀ k ≤ 4,
    View.canon (npieces L base k) (ix3 h 0 d) = if h.val < k then nr L h 4 (ix2 0 d) else View.canon base (ix3 h 0 d)
  | 0, _ => rfl
  | k + 1, hk => by
    have ih := npieces_canon base h d k (by omega)
    by_cases hh : h.val = k
    · rw [if_pos (by omega)]
      refine (canon_at3 (a := 1) (b := 1) (c := 256) 0 0 d ?_ rfl ?_).trans ?_
      · show h.val = k % 4 + 0; omega
      · show d.val = 0 + d.val; omega
      · rw [hh]; pointwise
    · refine (canon_off3 (a := 1) (b := 1) (c := 256) ?_).trans (ih.trans ?_)
      · rintro ⟨h0, h1, -, -⟩
        have h0' : k % 4 ≤ h.val := h0
        have h1' : h.val < k % 4 + 1 := h1
        omega
      · by_cases hlt : h.val < k
        · rw [if_pos hlt, if_pos (by omega)]
        · rw [if_neg hlt, if_neg (by omega)]

section State

variable (A : Prop) (ld : ℕ → List (View.Piece (Elt Ideal) S4x256x512 .f32) → Vec Ideal S1x256x128 .f32)
  (base : List (View.Piece (Elt Ideal) S4x256x512 .f32))
  (hld : ∀ n P (d : Fin 256) (j : Fin 128), (A ∨ 16 ≤ n) →
    ld n P (ix3 0 d j) = View.canon P (ix3 ⟨n / 4 % 4, by omega⟩ d ⟨128 * (n % 4) + j.val, by omega⟩))
  (hld0 : ¬A → ∀ n < 16, ∀ P (d : Fin 256) (j : Fin 128),
    ld n P (ix3 0 d j) = (S (n / 4 % 4)).C d ⟨128 * (n % 4) + j.val, by omega⟩)
  (hbase : A → ∀ (h : Fin 4) (d : Fin 256) (e : Fin 512), View.canon base (ix3 h d e) = (S h).C d e)
include hm hld hld0 hbase

/-- After the first `n` of the 64 stores, a tile of the state that was stored, or that was cleared at
    the start, holds the state after as many chunks as it was stored for. -/
theorem cpieces_canon : ∀ n ≤ 64, ∀ (h : Fin 4) (d : Fin 256) (e : Fin 512), (A ∨ 4 * h.val + e.val / 128 < n) →
    View.canon (cpieces L ld base n) (ix3 h d e)
      = (sts (chunkL L h) (S h) ((n + 15 - (4 * h.val + e.val / 128)) / 16)).C d e
  | 0, _, h, d, e, hA => by
    rcases hA with hA | hlt
    · refine (hbase hA h d e).trans ?_
      rw [show (0 + 15 - (4 * h.val + e.val / 128)) / 16 = 0 by omega]
      rfl
    · omega
  | n + 1, hn64, h, d, e, hA => by
    have ih := cpieces_canon n (by omega)
    by_cases ht : 4 * h.val + e.val / 128 = n % 16
    · have hh : h.val = n / 4 % 4 := by omega
      have he : e.val / 128 = n % 4 := by omega
      rw [show (n + 1 + 15 - (4 * h.val + e.val / 128)) / 16 = n / 16 + 1 by omega]
      refine (canon_at3 (a := 1) (b := 256) (c := 128) 0 d ⟨e.val % 128, by omega⟩ ?_ ?_ ?_).trans ?_
      · show h.val = n / 4 % 4 + 0; omega
      · show d.val = 0 + d.val; omega
      · show e.val = 128 * (n % 4) + e.val % 128; omega
      · have ee : (⟨128 * (n % 4 % 4) + (⟨e.val % 128, by omega⟩ : Fin 128).val, by show 128 * (n % 4 % 4) + e.val % 128 < 512; omega⟩ : Fin 512) = e :=
          Fin.ext (by show 128 * (n % 4 % 4) + e.val % 128 = e.val; omega)
        refine (ctile_apply L (n / 4 % 4) (S (n / 4 % 4)) (hm _ (by omega)) (n / 16) (n % 4) _ ?_ d ⟨e.val % 128, by omega⟩).trans ?_
        · intro d' j'
          have es : (⟨128 * (n % 4 % 4) + j'.val, by omega⟩ : Fin 512) = ⟨128 * (n % 4) + j'.val, by omega⟩ := Fin.ext (by show 128 * (n % 4 % 4) + j'.val = 128 * (n % 4) + j'.val; omega)
          by_cases hA' : A ∨ 16 ≤ n
          · refine (hld n _ d' j' hA').trans ?_
            refine (ih ⟨n / 4 % 4, by omega⟩ d' ⟨128 * (n % 4) + j'.val, by omega⟩ ?_).trans ?_
            · rcases hA' with hA' | hA'
              · exact Or.inl hA'
              · exact Or.inr (by show 4 * (n / 4 % 4) + (128 * (n % 4) + j'.val) / 128 < n; omega)
            · show (sts (chunkL L (n / 4 % 4)) (S (n / 4 % 4)) ((n + 15 - (4 * (n / 4 % 4) + (128 * (n % 4) + j'.val) / 128)) / 16)).C d' _ = _
              rw [show (n + 15 - (4 * (n / 4 % 4) + (128 * (n % 4) + j'.val) / 128)) / 16 = n / 16 by omega, es]
          · have hA1 : ¬A := fun hA => hA' (Or.inl hA)
            have hA2 : n < 16 := by by_contra hc; exact hA' (Or.inr (by omega))
            refine (hld0 hA1 n hA2 _ d' j').trans ?_
            rw [show n / 16 = 0 by omega, es]
            rfl
        · rw [ee, hh]
    · refine (canon_off3 (a := 1) (b := 256) (c := 128) ?_).trans ((ih h d e ?_).trans ?_)
      · rintro ⟨h0, h1, h2, h3⟩
        have h0' : n / 4 % 4 ≤ h.val := h0
        have h1' : h.val < n / 4 % 4 + 1 := h1
        have h2' : 128 * (n % 4) ≤ e.val := h2
        have h3' : e.val < 128 * (n % 4) + 128 := h3
        omega
      · rcases hA with hA | hA
        · exact Or.inl hA
        · exact Or.inr (by omega)
      · rw [show (n + 1 + 15 - (4 * h.val + e.val / 128)) / 16 = (n + 15 - (4 * h.val + e.val / 128)) / 16 by omega]

/-- Between two chunks every tile holds the state after the chunks before. -/
theorem cpieces_chunk (c : ℕ) (hc : c ≤ 4) (h0 : A ∨ 0 < c) (h : Fin 4) (d : Fin 256) (e : Fin 512) :
    View.canon (cpieces L ld base (16 * c)) (ix3 h d e) = (sts (chunkL L h) (S h) c).C d e := by
  refine (cpieces_canon L S hm A ld base hld hld0 hbase (16 * c) (by omega) h d e ?_).trans ?_
  · rcases h0 with h0 | h0
    · exact Or.inl h0
    · exact Or.inr (by omega)
  · rw [show (16 * c + 15 - (4 * h.val + e.val / 128)) / 16 = c by omega]

end State

include hm hn in
/-- The rows given out, at every index of the output block a store has reached. -/
theorem opieces_canon (C : ℕ → ℕ → Vec Ideal S1x256x512 .f32)
    (hC : ∀ c < 4, ∀ h < 4, ∀ d e, C c h (ix3 0 d e) = (sts (chunkL L h) (S h) c).C d e) (r : Fin 512) (e : Fin 2048) : ∀ n ≤ 64,
    16 * (r.val / 128) + e.val / 128 < n →
    View.canon (opieces L C n) (ix2 r e)
      = (chunkL L (e.val / 512) (r.val / 128)).out (sts (chunkL L (e.val / 512)) (S (e.val / 512)) (r.val / 128))
          ⟨r.val % 128, by omega⟩ ⟨e.val % 512, by omega⟩
  | 0, _, hlt => absurd hlt (Nat.not_lt_zero _)
  | n + 1, hn64, hlt => by
    by_cases ht : 16 * (r.val / 128) + e.val / 128 = n
    · refine (canon_at2 (a := 128) (b := 128) ⟨r.val % 128, by omega⟩ ⟨e.val % 128, by omega⟩ ?_ ?_).trans ?_
      · show r.val = 128 * (n / 16 % 4) + r.val % 128; omega
      · show e.val = 512 * (n / 4 % 4) + 128 * (n % 4) + e.val % 128; omega
      · refine (otile_apply L (n / 4 % 4) (S (n / 4 % 4)) (hm _ (by omega)) (hn _ (by omega)) (n / 16) (n % 4) _
          (hC (n / 16) (by omega) (n / 4 % 4) (by omega)) _ _).trans ?_
        have e1 : n / 4 % 4 = e.val / 512 := by omega
        have e2 : n / 16 = r.val / 128 := by omega
        have e3 : (⟨128 * (n % 4 % 4) + (⟨e.val % 128, by omega⟩ : Fin 128).val, by show 128 * (n % 4 % 4) + e.val % 128 < 512; omega⟩ : Fin 512) = ⟨e.val % 512, by omega⟩ :=
          Fin.ext (by show 128 * (n % 4 % 4) + e.val % 128 = e.val % 512; omega)
        rw [e3, e1, e2]
    · refine (canon_off2 (a := 128) (b := 128) ?_).trans (opieces_canon C hC r e n (by omega) (by omega))
      rintro ⟨h0, h1, h2, h3⟩
      have h0' : 128 * (n / 16 % 4) ≤ r.val := h0
      have h1' : r.val < 128 * (n / 16 % 4) + 128 := h1
      have h2' : 512 * (n / 4 % 4) + 128 * (n % 4) ≤ e.val := h2
      have h3' : e.val < 512 * (n / 4 % 4) + 128 * (n % 4) + 128 := h3
      omega

end Cert.KernelIdeal.Body
-- ==== Proof.OpenA.lean ====
module

public import proofs.«01_k».proof.Proof.Vocab

/-! A run of the body at the first point of a sequence: the pieces it stores, in the
    words of `Vocab`. -/

@[expose] public section

set_option maxRecDepth 16384

noncomputable section

namespace Cert.KernelIdeal.Body

open Idealize.ShloMosaic Idealize.SL.Sem Cert.KernelIdeal Cert.KernelIdeal.Gen

variable {F : FTy → Type} [FloatOps F]
variable (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S1x128 .f32) (harg5 : arg5.IsWhole) (arg6 : Memref sig .tc .vmem S512x2048 .bf16) (harg6 : arg6.IsWhole) (arg7 : Memref sig .tc .vmem S4x256x512 .f32) (harg7 : arg7.IsWhole) (arg8 : Memref sig .tc .vmem S4x1x256 .f32) (harg8 : arg8.IsWhole) (arg9 : Memref sig .tc .vmem S4x1x128 .f32) (harg9 : arg9.IsWhole)
    (x0 : Vec F S512x2048 .bf16) (x1 : Vec F S512x2048 .bf16) (x2 : Vec F S512x128 .f32) (x3 : Vec F S1x128 .f32)

/-- The store that clears the state. -/
def c0 : List (View.Piece (Elt F) S4x256x512 .f32) := [⟨Rect.unit ![0, 0, 0] S4x256x512.size inb_S4x256x512_S4x256x512_0_0_0, k0_pay6⟩]
/-- The store that clears the normaliser. -/
def n0 : List (View.Piece (Elt F) S4x1x256 .f32) := [⟨Rect.unit ![0, 0, 0] S4x1x256.size inb_S4x1x256_S4x1x256_0_0_0, k0_pay7⟩]
/-- The store that clears the running maximum. -/
def m0 : List (View.Piece (Elt F) S4x1x128 .f32) := [⟨Rect.unit ![0, 0, 0] S4x1x128.size inb_S4x1x128_S4x1x128_0_0_0, k0_pay8⟩]

/-- The loads of a run that starts by clearing the states, but for the running maximum's. -/
def ldAw (f : ℕ → Vec F S1x1x128 .f32) : Ld F where
  g c := arg4.view.readAt (Elt F) (gR c).toLoadRect (harg4.unread x2)
  b := arg5.view.readAt (Elt F) bR.toLoadRect (harg5.unread x3)
  q c h := arg2.view.readAt (Elt F) (qR c h).toLoadRect (harg2.unread x0)
  k c h := arg2.view.readAt (Elt F) (kR c h).toLoadRect (harg2.unread x0)
  v c h := arg3.view.readAt (Elt F) (vR c h).toLoadRect (harg3.unread x1)
  m0 := f
  n0 h := arg8.view.readCov n0 (nR h).toLoadRect

/-- The loads of a run that starts by clearing the states. A head's running maximum is loaded after
    the heads before it have stored theirs, so the loads are defined along the heads. -/
def ldA : ℕ → Ld F
  | 0 => ldAw arg2 harg2 arg3 harg3 arg4 harg4 arg5 harg5 arg8 x0 x1 x2 x3 fun h => arg9.view.readCov m0 (mR h).toLoadRect
  | j + 1 => ldAw arg2 harg2 arg3 harg3 arg4 harg4 arg5 harg5 arg8 x0 x1 x2 x3
      fun h => arg9.view.readCov (mpieces (ldA j) m0 h) (mR h).toLoadRect

/-- The pieces stored into the state. -/
def cA : ℕ → List (View.Piece (Elt F) S4x256x512 .f32) :=
  cpieces (ldA arg2 harg2 arg3 harg3 arg4 harg4 arg5 harg5 arg8 arg9 x0 x1 x2 x3 4) (fun n P => arg7.view.readCov P (tileR n).toLoadRect) c0

/-- The state of a head the outputs of a chunk start from. -/
def headA (c h : ℕ) : Vec F S1x256x512 .f32 :=
  arg7.view.readCov (cA arg2 harg2 arg3 harg3 arg4 harg4 arg5 harg5 arg7 arg8 arg9 x0 x1 x2 x3 (16 * c)) (headR h).toLoadRect

theorem openA_m (hc0 : cond0_0 i) : (kernelRun0_A c i arg2 harg2 arg3 harg3 arg4 harg4 arg5 harg5 arg6 harg6 arg7 harg7 arg8 harg8 arg9 harg9 hc0 x0 x1 x2 x3).2.2.2.1 = mpieces (ldA arg2 harg2 arg3 harg3 arg4 harg4 arg5 harg5 arg8 arg9 x0 x1 x2 x3 4) m0 4 := by
  sl_kernel_rfl

theorem openA_n (hc0 : cond0_0 i) : (kernelRun0_A c i arg2 harg2 arg3 harg3 arg4 harg4 arg5 harg5 arg6 harg6 arg7 harg7 arg8 harg8 arg9 harg9 hc0 x0 x1 x2 x3).2.2.1 = npieces (ldA arg2 harg2 arg3 harg3 arg4 harg4 arg5 harg5 arg8 arg9 x0 x1 x2 x3 4) n0 4 := by
  sl_kernel_rfl

theorem openA_c (hc0 : cond0_0 i) : (kernelRun0_A c i arg2 harg2 arg3 harg3 arg4 harg4 arg5 harg5 arg6 harg6 arg7 harg7 arg8 harg8 arg9 harg9 hc0 x0 x1 x2 x3).2.1 = cA arg2 harg2 arg3 harg3 arg4 harg4 arg5 harg5 arg7 arg8 arg9 x0 x1 x2 x3 64 := by
  sl_kernel_rfl

theorem openA_o (hc0 : cond0_0 i) : (kernelRun0_A c i arg2 harg2 arg3 harg3 arg4 harg4 arg5 harg5 arg6 harg6 arg7 harg7 arg8 harg8 arg9 harg9 hc0 x0 x1 x2 x3).1 = opieces (ldA arg2 harg2 arg3 harg3 arg4 harg4 arg5 harg5 arg8 arg9 x0 x1 x2 x3 4) (headA arg2 harg2 arg3 harg3 arg4 harg4 arg5 harg5 arg7 arg8 arg9 x0 x1 x2 x3) 64 := by
  sl_kernel_rfl

end Cert.KernelIdeal.Body
-- ==== Proof.OpenB.lean ====
module

public import proofs.«01_k».proof.Proof.Vocab

/-! A run of the body at a point that is not the first of its sequence: the pieces it stores, in the
    words of `Vocab`. -/

@[expose] public section

set_option maxRecDepth 16384

noncomputable section

namespace Cert.KernelIdeal.Body

open Idealize.ShloMosaic Idealize.SL.Sem Cert.KernelIdeal Cert.KernelIdeal.Gen

variable {F : FTy → Type} [FloatOps F]
variable (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S1x128 .f32) (harg5 : arg5.IsWhole) (arg6 : Memref sig .tc .vmem S512x2048 .bf16) (harg6 : arg6.IsWhole) (arg7 : Memref sig .tc .vmem S4x256x512 .f32) (harg7 : arg7.IsWhole) (arg8 : Memref sig .tc .vmem S4x1x256 .f32) (harg8 : arg8.IsWhole) (arg9 : Memref sig .tc .vmem S4x1x128 .f32) (harg9 : arg9.IsWhole)
    (x0 : Vec F S512x2048 .bf16) (x1 : Vec F S512x2048 .bf16) (x2 : Vec F S512x128 .f32) (x3 : Vec F S1x128 .f32) (xs0 : Vec F S4x256x512 .f32) (xs1 : Vec F S4x1x256 .f32) (xs2 : Vec F S4x1x128 .f32)

/-- The loads of a run that starts from the states `xs1`, `xs2`. -/
def ldB : Ld F where
  g c := arg4.view.readAt (Elt F) (gR c).toLoadRect (harg4.unread x2)
  b := arg5.view.readAt (Elt F) bR.toLoadRect (harg5.unread x3)
  q c h := arg2.view.readAt (Elt F) (qR c h).toLoadRect (harg2.unread x0)
  k c h := arg2.view.readAt (Elt F) (kR c h).toLoadRect (harg2.unread x0)
  v c h := arg3.view.readAt (Elt F) (vR c h).toLoadRect (harg3.unread x1)
  m0 h := arg9.view.readAt (Elt F) (mR h).toLoadRect (harg9.unread xs2)
  n0 h := arg8.view.readAt (Elt F) (nR h).toLoadRect (harg8.unread xs1)

/-- The tile the `n`-th store into the state starts from: one of the state the run starts from, as
    long as no store has written it. -/
def tileB (n : ℕ) (P : List (View.Piece (Elt F) S4x256x512 .f32)) : Vec F S1x256x128 .f32 :=
  if n < 16 then arg7.view.readAt (Elt F) (tileR n).toLoadRect (harg7.unread xs0) else arg7.view.readCov P (tileR n).toLoadRect

/-- The pieces stored into the state. -/
def cB : ℕ → List (View.Piece (Elt F) S4x256x512 .f32) :=
  cpieces (ldB arg2 harg2 arg3 harg3 arg4 harg4 arg5 harg5 arg8 harg8 arg9 harg9 x0 x1 x2 x3 xs1 xs2) (tileB arg7 harg7 xs0) []

/-- The state of a head the outputs of a chunk start from. -/
def headB (c h : ℕ) : Vec F S1x256x512 .f32 :=
  if c = 0 then arg7.view.readAt (Elt F) (headR h).toLoadRect (harg7.unread xs0)
  else arg7.view.readCov (cB arg2 harg2 arg3 harg3 arg4 harg4 arg5 harg5 arg7 harg7 arg8 harg8 arg9 harg9 x0 x1 x2 x3 xs0 xs1 xs2 (16 * c)) (headR h).toLoadRect

theorem openB_m (hc0 : ¬cond0_0 i) :
    (kernelRun0_B c i arg2 harg2 arg3 harg3 arg4 harg4 arg5 harg5 arg6 harg6 arg7 harg7 arg8 harg8 arg9 harg9 hc0 x0 x1 x2 x3 xs0 xs1 xs2).2.2.2.1
      = mpieces (ldB arg2 harg2 arg3 harg3 arg4 harg4 arg5 harg5 arg8 harg8 arg9 harg9 x0 x1 x2 x3 xs1 xs2) [] 4 := by
  sl_kernel_rfl

theorem openB_n (hc0 : ¬cond0_0 i) : (kernelRun0_B c i arg2 harg2 arg3 harg3 arg4 harg4 arg5 harg5 arg6 harg6 arg7 harg7 arg8 harg8 arg9 harg9 hc0 x0 x1 x2 x3 xs0 xs1 xs2).2.2.1 = npieces (ldB arg2 harg2 arg3 harg3 arg4 harg4 arg5 harg5 arg8 harg8 arg9 harg9 x0 x1 x2 x3 xs1 xs2) [] 4 := by
  sl_kernel_rfl

theorem openB_c (hc0 : ¬cond0_0 i) : (kernelRun0_B c i arg2 harg2 arg3 harg3 arg4 harg4 arg5 harg5 arg6 harg6 arg7 harg7 arg8 harg8 arg9 harg9 hc0 x0 x1 x2 x3 xs0 xs1 xs2).2.1 = cB arg2 harg2 arg3 harg3 arg4 harg4 arg5 harg5 arg7 harg7 arg8 harg8 arg9 harg9 x0 x1 x2 x3 xs0 xs1 xs2 64 := by
  sl_kernel_rfl

theorem openB_o (hc0 : ¬cond0_0 i) : (kernelRun0_B c i arg2 harg2 arg3 harg3 arg4 harg4 arg5 harg5 arg6 harg6 arg7 harg7 arg8 harg8 arg9 harg9 hc0 x0 x1 x2 x3 xs0 xs1 xs2).1 = opieces (ldB arg2 harg2 arg3 harg3 arg4 harg4 arg5 harg5 arg8 harg8 arg9 harg9 x0 x1 x2 x3 xs1 xs2) (headB  arg2 harg2 arg3 harg3 arg4 harg4 arg5 harg5 arg7 harg7 arg8 harg8 arg9 harg9 x0 x1 x2 x3 xs0 xs1 xs2) 64 := by
  sl_kernel_rfl

end Cert.KernelIdeal.Body
-- ==== Proof.Sign.lean ====
module

public import proofs.«01_k».proof.Proof.Spec

/-! Where the quotient of the stabilised mLSTM is a product with a reciprocal: when no input gate is plus
    infinity, the stabiliser is not either, and the normaliser is positive. -/

@[expose] public section

noncomputable section

namespace Cert.Mlstm

open Idealize.ShloMosaic

theorem exp_nonneg (x : EReal) : 0 ≤ Ideal.exp x := by
  induction x with
  | bot => exact le_refl _
  | top => exact le_top
  | coe r => exact EReal.coe_nonneg.2 (Real.exp_pos r).le

theorem exp_pos {x : EReal} (h : x ≠ ⊥) : 0 < Ideal.exp x := by
  induction x with
  | bot => exact absurd rfl h
  | top => exact EReal.zero_lt_top
  | coe r => exact EReal.coe_pos.2 (Real.exp_pos r)

theorem log_nonneg {x : EReal} (h : 1 ≤ x) : 0 ≤ Ideal.log x := by
  induction x with
  | bot => exact absurd h (lt_of_lt_of_le EReal.bot_lt_zero zero_le_one).not_ge
  | top => exact le_top
  | coe r =>
    have hr : (1 : ℝ) ≤ r := by exact_mod_cast h
    show (0 : EReal) ≤ if r ≤ 0 then ⊥ else (Real.log r : EReal)
    rw [if_neg (by linarith)]
    exact EReal.coe_nonneg.2 (Real.log_nonneg hr)

/-- The correction of the logarithm of the logistic function is not negative. -/
theorem corr_nonneg (x : EReal) : 0 ≤ Ideal.log (1 + Ideal.exp x) :=
  log_nonneg (le_add_of_nonneg_right (exp_nonneg x))

theorem lsig_nonpos (x : EReal) : lsig x ≤ 0 :=
  EReal.sub_nonpos.2 ((min_le_right _ _).trans (corr_nonneg _))

/-- The logarithm of the logistic function is minus the soft plus of the negated argument. -/
theorem neg_softplus (x : EReal) : -(max (-x) 0 + Ideal.log (1 + Ideal.exp (-(max (-x) (- -x))))) = lsig x := by
  have h1 : (0 : EReal) ≤ max (-x) 0 := le_max_right _ _
  have h2 := corr_nonneg (-(max (-x) (- -x)))
  rw [EReal.neg_add (Or.inl (ne_of_gt (lt_of_lt_of_le EReal.bot_lt_zero h1))) (Or.inr (ne_of_gt (lt_of_lt_of_le EReal.bot_lt_zero h2)))]
  unfold lsig
  rw [neg_neg, max_comm (-x) x, zero_sub]
  congr 1
  rcases le_total x 0 with h | h
  · rw [min_eq_left h, max_eq_left (EReal.neg_nonneg.2 h), neg_neg]
  · rw [min_eq_right h, max_eq_right (by simpa using EReal.neg_le_neg_iff.2 h), neg_zero]

theorem fmax_lt_top {f : Fin 128 → EReal} (h : ∀ s, f s < ⊤) : fmax f < ⊤ := by
  unfold fmax
  rw [Finset.fold_max_lt]
  exact ⟨bot_lt_top, fun s _ => h s⟩

/-- No input gate of the chunk is plus infinity, and no forget gate's logarithm is positive. -/
structure Chunk.Tame (X : Chunk) : Prop where
  i : ∀ t, X.i t < ⊤
  l : ∀ t, X.l t ≤ 0

variable {X : Chunk} {S : St}

theorem Chunk.Tame.cum_nonpos (H : X.Tame) (t : Fin 128) : X.cum t ≤ 0 :=
  Finset.sum_nonpos fun s _ => by split <;> [exact H.l s; exact le_refl _]

theorem Chunk.Tame.cum_anti (H : X.Tame) {s t : Fin 128} (h : s ≤ t) : X.cum t ≤ X.cum s :=
  Finset.sum_le_sum fun r _ => by
    by_cases h1 : r ≤ s
    · rw [if_pos h1, if_pos (h1.trans h)]
    · rw [if_neg h1]
      split <;> [exact H.l r; exact le_refl _]

theorem Chunk.Tame.diff_lt_top (H : X.Tame) {s t : Fin 128} (h : s ≤ t) : X.cum t - X.cum s + X.i s < ⊤ := by
  have h1 : X.cum t - X.cum s ≤ 0 := EReal.sub_nonpos.2 (H.cum_anti h)
  calc X.cum t - X.cum s + X.i s ≤ 0 + X.i s := add_le_add_left h1 _
    _ < ⊤ := by rw [zero_add]; exact H.i s

theorem Chunk.Tame.dmat_lt_top (H : X.Tame) (t s : Fin 128) : X.dmat t s < ⊤ := by
  unfold Chunk.dmat
  split
  · next h => exact H.diff_lt_top h
  · exact bot_lt_top

theorem Chunk.Tame.g_lt_top (H : X.Tame) (t : Fin 128) : X.g t < ⊤ :=
  H.diff_lt_top (show t.val ≤ 127 by omega)

theorem Chunk.Tame.add_lt_top (H : X.Tame) (hm : S.m < ⊤) (t : Fin 128) : X.cum t + S.m < ⊤ :=
  lt_of_le_of_lt (add_le_add_left (H.cum_nonpos t) S.m) (by rw [zero_add]; exact hm)

theorem Chunk.Tame.mt_lt_top (H : X.Tame) (hm : S.m < ⊤) (t : Fin 128) : X.mt S t < ⊤ :=
  max_lt (H.add_lt_top hm t) (fmax_lt_top (H.dmat_lt_top t))

theorem Chunk.Tame.mnext_lt_top (H : X.Tame) (hm : S.m < ⊤) : X.mnext S < ⊤ :=
  max_lt (H.add_lt_top hm 127) (fmax_lt_top H.g_lt_top)

/-- With the stabiliser below plus infinity the quotient by the normaliser is the product with its reciprocal. -/
theorem div_norm {m : EReal} (hm : m < ⊤) (x a : EReal) :
    Ideal.div x (max a (Ideal.exp (0 - m))) = x * Ideal.div 1 (max a (Ideal.exp (0 - m))) := by
  have h0 : (0 : EReal) < max a (Ideal.exp (0 - m)) := by
    refine lt_of_lt_of_le (exp_pos ?_) (le_max_right _ _)
    rw [zero_sub, ne_eq, EReal.neg_eq_bot_iff]
    exact hm.ne
  unfold Ideal.div
  rw [if_neg h0.ne', if_neg h0.ne', one_mul]

/-- The scale is a positive real number. -/
theorem κ_eq : κ = ((1 / 16 : ℝ) : EReal) := by
  unfold κ
  have h1 : BitVec.extractLsb' 31 1 1031798784#32 ≠ 1#1 := by decide
  simp only [Ideal.ofBits, Ideal.ieee]
  norm_num [Nat.shiftRight_eq_div_pow, h1]

theorem add_mul_κ (a b : EReal) : (a + b) * κ = a * κ + b * κ := by
  have h : (0 : EReal) ≤ κ := by rw [κ_eq]; exact EReal.coe_nonneg.2 (by norm_num)
  exact EReal.right_distrib_of_nonneg_of_ne_top h (by rw [κ_eq]; exact EReal.coe_ne_top _) a b

/-- The scale comes out of a sum. -/
theorem sum_mul_κ {ι : Type} (s : Finset ι) (f : ι → EReal) : ∑ x ∈ s, f x * κ = (∑ x ∈ s, f x) * κ := by
  classical
  induction s using Finset.induction_on with
  | empty => simp
  | insert a s ha ih => rw [Finset.sum_insert ha, Finset.sum_insert ha, ih, add_mul_κ]

end Cert.Mlstm
-- ==== Proof.Data.lean ====
module

public import proofs.«01_k».proof.Proof.Sign

/-! The chunks of the stabilised mLSTM, out of the arrays the layer hands it: queries and keys side by side, the
    projection whose first columns are the values, the gates' logits and their biases. -/

@[expose] public section

noncomputable section

namespace Cert.Mlstm

open Idealize.ShloMosaic

/-- Row `t` of chunk `c` of sequence `b`. -/
def row (b : Fin 8) (c : ℕ) (t : Fin 128) : Fin 32768 := ⟨4096 * b.val + 128 * (c % 32) + t.val, by omega⟩

theorem row_val (b : Fin 8) (c : ℕ) (t : Fin 128) : (row b c t).val = 4096 * b.val + 128 * (c % 32) + t.val := rfl

/-- Two reads of an array at the same place. -/
theorem at2 {α : Type} {n m : ℕ} (a : (⟨2, ![n, m]⟩ : Shape).Idx → α) {r r' : Fin n} {c c' : Fin m} (h : r.val = r'.val)
    (h' : c.val = c'.val) : a (ix2 r c) = a (ix2 r' c') := by
  rw [Fin.ext h, Fin.ext h']

variable (a0 : (⟨2, ![32768, 2048]⟩ : Shape).Idx → EReal) (a1 : (⟨2, ![32768, 12288]⟩ : Shape).Idx → EReal)
  (a2 : (⟨2, ![32768, 128]⟩ : Shape).Idx → EReal) (a3 : (⟨1, ![8]⟩ : Shape).Idx → EReal)

/-- Chunk `c` of sequence `b` and head `h`. -/
def data (b : Fin 8) (h : Fin 4) (c : ℕ) : Chunk where
  q t d := a0 (ix2 (row b c t) ⟨256 * h.val + d.val, by omega⟩)
  k t d := a0 (ix2 (row b c t) ⟨1024 + (256 * h.val + d.val), by omega⟩)
  v t e := a1 (ix2 (row b c t) ⟨512 * h.val + e.val, by omega⟩)
  i t := a2 (ix2 (row b c t) ⟨h.val, by omega⟩) + a3 (ix1 ⟨h.val, by omega⟩)
  l t := lsig (a2 (ix2 (row b c t) ⟨4 + h.val, by omega⟩) + a3 (ix1 ⟨4 + h.val, by omega⟩))

/-- The state every sequence starts from. -/
def St.zero : St := ⟨fun _ _ => 0, fun _ => 0, 0⟩

/-- With no input gate at plus infinity the chunks are tame. -/
theorem data_tame (hi : ∀ (r : Fin 32768) (h : Fin 4), a2 (ix2 r ⟨h.val, by omega⟩) + a3 (ix1 ⟨h.val, by omega⟩) < ⊤)
    (b : Fin 8) (h : Fin 4) (c : ℕ) : (data a0 a1 a2 a3 b h c).Tame :=
  ⟨fun _ => hi _ h, fun _ => lsig_nonpos _⟩

/-- The running maximum stays below plus infinity. -/
theorem sts_m_lt_top {X : ℕ → Chunk} (hX : ∀ c, (X c).Tame) : ∀ c, (sts X St.zero c).m < ⊤
  | 0 => EReal.zero_lt_top
  | c + 1 => (hX c).mnext_lt_top (sts_m_lt_top hX c)

/-- The layer's result: at row `r` and column `e`, what the chunk of that row gives out for that head. -/
def result (r : Fin 32768) (e : Fin 2048) : EReal :=
  (data a0 a1 a2 a3 ⟨r.val / 4096, by omega⟩ ⟨e.val / 512, by omega⟩ (r.val / 128 % 32)).out
    (sts (data a0 a1 a2 a3 ⟨r.val / 4096, by omega⟩ ⟨e.val / 512, by omega⟩) St.zero (r.val / 128 % 32))
    ⟨r.val % 128, by omega⟩ ⟨e.val % 512, by omega⟩

/-- States over the chunks from `a` on. -/
theorem sts_add {X Y : ℕ → Chunk} {S : St} (a : ℕ) : ∀ n, (∀ k < n, Y k = X (a + k)) → sts Y (sts X S a) n = sts X S (a + n)
  | 0, _ => rfl
  | n + 1, h => by
    show (Y n).next (sts Y (sts X S a) n) = (X (a + n)).next (sts X S (a + n))
    rw [sts_add a n (fun k hk => h k (by omega)), h n (by omega)]

end Cert.Mlstm
-- ==== Proof.Runs.lean ====
module

public import proofs.«01_k».proof.Proof.Canon
public import proofs.«01_k».proof.Proof.OpenA
public import proofs.«01_k».proof.Proof.OpenB
public import proofs.«01_k».proof.Proof.Data

/-! One run of the body over the extended reals: from the states it is given (or from zero, at the first
    point of a sequence) it leaves the states after four chunks, and gives out the rows of each chunk. -/

@[expose] public section

set_option backward.proofsInPublic true
set_option maxRecDepth 8192

noncomputable section

namespace Cert.KernelIdeal.Body

open Idealize.ShloMosaic Idealize.SL.Sem Cert.KernelIdeal Cert.KernelIdeal.Gen Cert.Mlstm

/-- A load of a rectangle of a whole buffer, at an index given by its coordinates: rank two. -/
theorem readAt_at2 {κ : Kind} {sp : Space} {e : EltTy} {p q a b : ℕ} {M : Memref sig κ sp ⟨2, ![p, q]⟩ e} {hM : M.IsWhole} {X : (⟨2, ![p, q]⟩ : Shape).Idx → Elt Ideal e}
    {off : Fin 2 → ℕ} {inb} {i : Fin p} {j : Fin q} {x : Fin a} {y : Fin b} (h0 : i.val = off 0 + x.val) (h1 : j.val = off 1 + y.val) :
    M.view.readAt (Elt Ideal) (Rect.unit (s := ⟨2, ![p, q]⟩) off ![a, b] inb).toLoadRect (hM.unread X) (ix2 x y) = X (ix2 i j) := by
  rw [View.readAt_eq_ld, hM.read_unread]
  refine congrArg X ?_
  funext k
  match k with
  | ⟨0, _⟩ => exact Fin.ext (by show off 0 + 1 * x.val = i.val; omega)
  | ⟨1, _⟩ => exact Fin.ext (by show off 1 + 1 * y.val = j.val; omega)

/-- A load of a rectangle of a whole buffer, at an index given by its coordinates: rank three. -/
theorem readAt_at3 {κ : Kind} {sp : Space} {e : EltTy} {p q r a b c : ℕ} {M : Memref sig κ sp ⟨3, ![p, q, r]⟩ e} {hM : M.IsWhole} {X : (⟨3, ![p, q, r]⟩ : Shape).Idx → Elt Ideal e}
    {off : Fin 3 → ℕ} {inb} {i : Fin p} {j : Fin q} {k : Fin r} {x : Fin a} {y : Fin b} {z : Fin c}
    (h0 : i.val = off 0 + x.val) (h1 : j.val = off 1 + y.val) (h2 : k.val = off 2 + z.val) :
    M.view.readAt (Elt Ideal) (Rect.unit (s := ⟨3, ![p, q, r]⟩) off ![a, b, c] inb).toLoadRect (hM.unread X) (ix3 x y z) = X (ix3 i j k) := by
  rw [View.readAt_eq_ld, hM.read_unread]
  refine congrArg X ?_
  funext l
  match l with
  | ⟨0, _⟩ => exact Fin.ext (by show off 0 + 1 * x.val = i.val; omega)
  | ⟨1, _⟩ => exact Fin.ext (by show off 1 + 1 * y.val = j.val; omega)
  | ⟨2, _⟩ => exact Fin.ext (by show off 2 + 1 * z.val = k.val; omega)

/-- A load of what the pieces stored so far leave, at an index given by its coordinates. -/
theorem readCov_at3 {κ : Kind} {sp : Space} {e : EltTy} {p q r a b c : ℕ} {M : Memref sig κ sp ⟨3, ![p, q, r]⟩ e} {P : List (View.Piece (Elt Ideal) ⟨3, ![p, q, r]⟩ e)}
    {off : Fin 3 → ℕ} {inb} {i : Fin p} {j : Fin q} {k : Fin r} {x : Fin a} {y : Fin b} {z : Fin c}
    (h0 : i.val = off 0 + x.val) (h1 : j.val = off 1 + y.val) (h2 : k.val = off 2 + z.val) :
    M.view.readCov P (Rect.unit (s := ⟨3, ![p, q, r]⟩) off ![a, b, c] inb).toLoadRect (ix3 x y z) = View.canon P (ix3 i j k) := by
  rw [View.readCov_eq_canon']
  refine congrArg (View.canon P) ?_
  funext l
  match l with
  | ⟨0, _⟩ => exact Fin.ext (by show off 0 + 1 * x.val = i.val; omega)
  | ⟨1, _⟩ => exact Fin.ext (by show off 1 + 1 * y.val = j.val; omega)
  | ⟨2, _⟩ => exact Fin.ext (by show off 2 + 1 * z.val = k.val; omega)

/-- The loads `L` read the blocks `x0`, `x1`, `x2`, `x3`. -/
structure Loads (L : Ld Ideal) (x0 x1 : Vec Ideal S512x2048 .bf16) (x2 : Vec Ideal S512x128 .f32) (x3 : Vec Ideal S1x128 .f32) : Prop where
  g : ∀ (c : Fin 4) (t j : Fin 128), L.g c (ix2 t j) = x2 (ix2 ⟨128 * c.val + t.val, by omega⟩ j)
  b : ∀ j : Fin 128, L.b (ix2 0 j) = x3 (ix2 0 j)
  q : ∀ (c h : Fin 4) (t : Fin 128) (d : Fin 256), L.q c h (ix2 t d) = x0 (ix2 ⟨128 * c.val + t.val, by omega⟩ ⟨256 * h.val + d.val, by omega⟩)
  k : ∀ (c h : Fin 4) (t : Fin 128) (d : Fin 256), L.k c h (ix2 t d) = x0 (ix2 ⟨128 * c.val + t.val, by omega⟩ ⟨1024 + 256 * h.val + d.val, by omega⟩)
  v : ∀ (c h : Fin 4) (t : Fin 128) (e : Fin 512), L.v c h (ix2 t e) = x1 (ix2 ⟨128 * c.val + t.val, by omega⟩ ⟨512 * h.val + e.val, by omega⟩)

/-- The pieces `P` stored into the output block, and those stored into the three states, hold what four
    chunks of `X` give out and leave, from the states `S`. -/
structure Leaves (L : Ld Ideal) (S : ℕ → St) (o : Vec Ideal S512x2048 .bf16) (C : Vec Ideal S4x256x512 .f32) (n : Vec Ideal S4x1x256 .f32) (m : Vec Ideal S4x1x128 .f32) : Prop where
  o : ∀ (r : Fin 512) (e : Fin 2048), o (ix2 r e)
      = (chunkL L (e.val / 512) (r.val / 128)).out (sts (chunkL L (e.val / 512)) (S (e.val / 512)) (r.val / 128)) ⟨r.val % 128, by omega⟩ ⟨e.val % 512, by omega⟩
  C : ∀ (h : Fin 4) (d : Fin 256) (e : Fin 512), C (ix3 h d e) = (sts (chunkL L h) (S h) 4).C d e
  n : ∀ (h : Fin 4) (d : Fin 256), n (ix3 h 0 d) = (sts (chunkL L h) (S h) 4).n d
  m : ∀ (h : Fin 4) (j : Fin 128), m (ix3 h 0 j) = (sts (chunkL L h) (S h) 4).m

variable (arg2 : Memref sig .tc .vmem S512x2048 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S1x128 .f32) (harg5 : arg5.IsWhole) (arg6 : Memref sig .tc .vmem S512x2048 .bf16) (harg6 : arg6.IsWhole) (arg7 : Memref sig .tc .vmem S4x256x512 .f32) (harg7 : arg7.IsWhole) (arg8 : Memref sig .tc .vmem S4x1x256 .f32) (harg8 : arg8.IsWhole) (arg9 : Memref sig .tc .vmem S4x1x128 .f32) (harg9 : arg9.IsWhole)
    (x0 : Vec Ideal S512x2048 .bf16) (x1 : Vec Ideal S512x2048 .bf16) (x2 : Vec Ideal S512x128 .f32) (x3 : Vec Ideal S1x128 .f32)

section B

variable (xs0 : Vec Ideal S4x256x512 .f32) (xs1 : Vec Ideal S4x1x256 .f32) (xs2 : Vec Ideal S4x1x128 .f32)

/-- A later run loads its blocks. -/
theorem loadsB : Loads (ldB arg2 harg2 arg3 harg3 arg4 harg4 arg5 harg5 arg8 harg8 arg9 harg9 x0 x1 x2 x3 xs1 xs2) x0 x1 x2 x3 where
  g c t j := readAt_at2 (a := 128) (b := 128) (by show 128 * c.val + t.val = 128 * (c.val % 4) + t.val; omega) (by show j.val = 0 + j.val; omega)
  b j := readAt_at2 (a := 1) (b := 128) rfl (by show j.val = 0 + j.val; omega)
  q c h t d := readAt_at2 (a := 128) (b := 256) (by show 128 * c.val + t.val = 128 * (c.val % 4) + t.val; omega) (by show 256 * h.val + d.val = 256 * (h.val % 4) + d.val; omega)
  k c h t d := readAt_at2 (a := 128) (b := 256) (by show 128 * c.val + t.val = 128 * (c.val % 4) + t.val; omega) (by show 1024 + 256 * h.val + d.val = 1024 + 256 * (h.val % 4) + d.val; omega)
  v c h t e := readAt_at2 (a := 128) (b := 512) (by show 128 * c.val + t.val = 128 * (c.val % 4) + t.val; omega) (by show 512 * h.val + e.val = 512 * (h.val % 4) + e.val; omega)

variable (S : ℕ → St) (hC : ∀ (h : Fin 4) (d : Fin 256) (e : Fin 512), xs0 (ix3 h d e) = (S h).C d e)
  (hn : ∀ (h : Fin 4) (d : Fin 256), xs1 (ix3 h 0 d) = (S h).n d) (hm : ∀ (h : Fin 4) (j : Fin 128), xs2 (ix3 h 0 j) = (S h).m)
include hC hn hm

/-- A later run takes the states over four chunks and gives out their rows. -/
theorem leavesB : Leaves (ldB arg2 harg2 arg3 harg3 arg4 harg4 arg5 harg5 arg8 harg8 arg9 harg9 x0 x1 x2 x3 xs1 xs2) S
    (View.canon (opieces (ldB arg2 harg2 arg3 harg3 arg4 harg4 arg5 harg5 arg8 harg8 arg9 harg9 x0 x1 x2 x3 xs1 xs2) (headB arg2 harg2 arg3 harg3 arg4 harg4 arg5 harg5 arg7 harg7 arg8 harg8 arg9 harg9 x0 x1 x2 x3 xs0 xs1 xs2) 64))
    (View.canon (cB arg2 harg2 arg3 harg3 arg4 harg4 arg5 harg5 arg7 harg7 arg8 harg8 arg9 harg9 x0 x1 x2 x3 xs0 xs1 xs2 64))
    (View.canon (npieces (ldB arg2 harg2 arg3 harg3 arg4 harg4 arg5 harg5 arg8 harg8 arg9 harg9 x0 x1 x2 x3 xs1 xs2) [] 4))
    (View.canon (mpieces (ldB arg2 harg2 arg3 harg3 arg4 harg4 arg5 harg5 arg8 harg8 arg9 harg9 x0 x1 x2 x3 xs1 xs2) [] 4)) := by
  have m0 : ∀ h < 4, ∀ j : Fin 128, (ldB arg2 harg2 arg3 harg3 arg4 harg4 arg5 harg5 arg8 harg8 arg9 harg9 x0 x1 x2 x3 xs1 xs2).m0 h (ix3 0 0 j) = (S h).m :=
    fun h hh j => (readAt_at3 (a := 1) (b := 1) (c := 128) (i := ⟨h, hh⟩) (j := 0) (k := j) (by show h = h % 4 + 0; omega) rfl (by show j.val = 0 + j.val; omega)).trans (hm ⟨h, hh⟩ j)
  have n0 : ∀ h < 4, ∀ d : Fin 256, (ldB arg2 harg2 arg3 harg3 arg4 harg4 arg5 harg5 arg8 harg8 arg9 harg9 x0 x1 x2 x3 xs1 xs2).n0 h (ix3 0 0 d) = (S h).n d :=
    fun h hh d => (readAt_at3 (a := 1) (b := 1) (c := 256) (i := ⟨h, hh⟩) (j := 0) (k := d) (by show h = h % 4 + 0; omega) rfl (by show d.val = 0 + d.val; omega)).trans (hn ⟨h, hh⟩ d)
  have hld : ∀ n P (d : Fin 256) (j : Fin 128), (False ∨ 16 ≤ n) → tileB arg7 harg7 xs0 n P (ix3 0 d j) = View.canon P (ix3 ⟨n / 4 % 4, by omega⟩ d ⟨128 * (n % 4) + j.val, by omega⟩) := by
    intro n P d j hn
    unfold tileB
    refine (congrFun (if_neg (by rcases hn with hn | hn; exact hn.elim; omega)) _).trans ?_
    exact readCov_at3 (a := 1) (b := 256) (c := 128) (by show n / 4 % 4 = n / 4 % 4 + 0; omega) (by show d.val = 0 + d.val; omega) (by show 128 * (n % 4) + j.val = 128 * (n % 4) + j.val; rfl)
  have hld0 : ¬False → ∀ n < 16, ∀ P (d : Fin 256) (j : Fin 128), tileB arg7 harg7 xs0 n P (ix3 0 d j) = (S (n / 4 % 4)).C d ⟨128 * (n % 4) + j.val, by omega⟩ := by
    intro _ n hn P d j
    unfold tileB
    refine (congrFun (if_pos hn) _).trans ?_
    exact (readAt_at3 (a := 1) (b := 256) (c := 128) (i := ⟨n / 4 % 4, by omega⟩) (j := d) (k := ⟨128 * (n % 4) + j.val, by omega⟩)
      (by show n / 4 % 4 = n / 4 % 4 + 0; omega) (by show d.val = 0 + d.val; omega) (by show 128 * (n % 4) + j.val = 128 * (n % 4) + j.val; rfl)).trans (hC _ _ _)
  have hchunk := fun c hc h0 => cpieces_chunk _ S m0 False (tileB arg7 harg7 xs0) [] hld hld0 (fun h => h.elim) c hc h0
  constructor
  · intro r e
    refine opieces_canon _ S m0 n0 _ ?_ r e 64 (le_refl _) (by omega)
    intro c hc h hh d e
    unfold headB
    by_cases h0 : c = 0
    · refine (congrFun (if_pos h0) _).trans ?_
      rw [h0]
      exact (readAt_at3 (a := 1) (b := 256) (c := 512) (i := ⟨h, hh⟩) (j := d) (k := e) (by show h = h % 4 + 0; omega) (by show d.val = 0 + d.val; omega) (by show e.val = 0 + e.val; omega)).trans (hC ⟨h, hh⟩ d e)
    · refine (congrFun (if_neg h0) _).trans ?_
      exact (readCov_at3 (a := 1) (b := 256) (c := 512) (i := ⟨h, hh⟩) (j := d) (k := e) (by show h = h % 4 + 0; omega) (by show d.val = 0 + d.val; omega) (by show e.val = 0 + e.val; omega)).trans
        (hchunk c (by omega) (Or.inr (by omega)) ⟨h, hh⟩ d e)
  · intro h d e
    exact hchunk 4 (le_refl _) (Or.inr (by omega)) h d e
  · intro h d
    refine (npieces_canon _ [] h d 4 (le_refl _)).trans ?_
    rw [if_pos h.isLt]
    exact nr_apply _ h (S h) (m0 h h.isLt) (n0 h h.isLt) 4 d
  · intro h j
    refine (mpieces_canon _ [] h j 4 (le_refl _)).trans ?_
    rw [if_pos h.isLt]
    exact mi_apply _ h (S h) (m0 h h.isLt) 4 j

end B

section A

/-- Whatever running maxima it loads, a first run loads its blocks. -/
theorem loadsAw (f : ℕ → Vec Ideal S1x1x128 .f32) : Loads (ldAw arg2 harg2 arg3 harg3 arg4 harg4 arg5 harg5 arg8 x0 x1 x2 x3 f) x0 x1 x2 x3 where
  g c t j := readAt_at2 (a := 128) (b := 128) (by show 128 * c.val + t.val = 128 * (c.val % 4) + t.val; omega) (by show j.val = 0 + j.val; omega)
  b j := readAt_at2 (a := 1) (b := 128) rfl (by show j.val = 0 + j.val; omega)
  q c h t d := readAt_at2 (a := 128) (b := 256) (by show 128 * c.val + t.val = 128 * (c.val % 4) + t.val; omega) (by show 256 * h.val + d.val = 256 * (h.val % 4) + d.val; omega)
  k c h t d := readAt_at2 (a := 128) (b := 256) (by show 128 * c.val + t.val = 128 * (c.val % 4) + t.val; omega) (by show 1024 + 256 * h.val + d.val = 1024 + 256 * (h.val % 4) + d.val; omega)
  v c h t e := readAt_at2 (a := 128) (b := 512) (by show 128 * c.val + t.val = 128 * (c.val % 4) + t.val; omega) (by show 512 * h.val + e.val = 512 * (h.val % 4) + e.val; omega)

/-- A first run loads its blocks. -/
theorem loadsA : Loads (ldA arg2 harg2 arg3 harg3 arg4 harg4 arg5 harg5 arg8 arg9 x0 x1 x2 x3 4) x0 x1 x2 x3 :=
  loadsAw arg2 harg2 arg3 harg3 arg4 harg4 arg5 harg5 arg8 x0 x1 x2 x3 _

theorem c0_canon (h : Fin 4) (d : Fin 256) (e : Fin 512) : View.canon (Val := Elt Ideal) c0 (ix3 h d e) = 0 := by
  refine (canon_at3 (a := 4) (b := 256) (c := 512) h d e (by show h.val = 0 + h.val; omega) (by show d.val = 0 + d.val; omega) (by show e.val = 0 + e.val; omega)).trans ?_
  unfold k0_pay6
  pointwise

theorem n0_canon (h : Fin 4) (d : Fin 256) : View.canon (Val := Elt Ideal) n0 (ix3 h 0 d) = 0 := by
  refine (canon_at3 (a := 4) (b := 1) (c := 256) h 0 d (by show h.val = 0 + h.val; omega) rfl (by show d.val = 0 + d.val; omega)).trans ?_
  unfold k0_pay7
  pointwise

theorem m0_canon (h : Fin 4) (j : Fin 128) : View.canon (Val := Elt Ideal) m0 (ix3 h 0 j) = 0 := by
  refine (canon_at3 (a := 4) (b := 1) (c := 128) h 0 j (by show h.val = 0 + h.val; omega) rfl (by show j.val = 0 + j.val; omega)).trans ?_
  unfold k0_pay8
  pointwise

/-- A first run takes the zero states over four chunks and gives out their rows. -/
theorem leavesA : Leaves (ldA arg2 harg2 arg3 harg3 arg4 harg4 arg5 harg5 arg8 arg9 x0 x1 x2 x3 4) (fun _ => St.zero)
    (View.canon (opieces (ldA arg2 harg2 arg3 harg3 arg4 harg4 arg5 harg5 arg8 arg9 x0 x1 x2 x3 4) (headA arg2 harg2 arg3 harg3 arg4 harg4 arg5 harg5 arg7 arg8 arg9 x0 x1 x2 x3) 64))
    (View.canon (cA arg2 harg2 arg3 harg3 arg4 harg4 arg5 harg5 arg7 arg8 arg9 x0 x1 x2 x3 64))
    (View.canon (npieces (ldA arg2 harg2 arg3 harg3 arg4 harg4 arg5 harg5 arg8 arg9 x0 x1 x2 x3 4) n0 4))
    (View.canon (mpieces (ldA arg2 harg2 arg3 harg3 arg4 harg4 arg5 harg5 arg8 arg9 x0 x1 x2 x3 4) m0 4)) := by
  have hm0 : ∀ h < 4, ∀ j : Fin 128, (ldA arg2 harg2 arg3 harg3 arg4 harg4 arg5 harg5 arg8 arg9 x0 x1 x2 x3 4).m0 h (ix3 0 0 j) = ((fun _ => St.zero : ℕ → St) h).m := by
    intro h hh j
    refine (readCov_at3 (a := 1) (b := 1) (c := 128) (i := ⟨h, hh⟩) (j := 0) (k := j) (by show h = h % 4 + 0; omega) rfl (by show j.val = 0 + j.val; omega)).trans ?_
    refine (mpieces_canon _ m0 ⟨h, hh⟩ j h (by omega)).trans ?_
    rw [if_neg (lt_irrefl h)]
    exact m0_canon _ _
  have hn0 : ∀ h < 4, ∀ d : Fin 256, (ldA arg2 harg2 arg3 harg3 arg4 harg4 arg5 harg5 arg8 arg9 x0 x1 x2 x3 4).n0 h (ix3 0 0 d) = ((fun _ => St.zero : ℕ → St) h).n d := by
    intro h hh d
    refine (readCov_at3 (a := 1) (b := 1) (c := 256) (i := ⟨h, hh⟩) (j := 0) (k := d) (by show h = h % 4 + 0; omega) rfl (by show d.val = 0 + d.val; omega)).trans ?_
    exact n0_canon _ _
  have hld : ∀ n P (d : Fin 256) (j : Fin 128), (True ∨ 16 ≤ n) → (fun n P => arg7.view.readCov P (tileR n).toLoadRect : ℕ → List (View.Piece (Elt Ideal) S4x256x512 .f32) → Vec Ideal S1x256x128 .f32) n P (ix3 0 d j) = View.canon P (ix3 ⟨n / 4 % 4, by omega⟩ d ⟨128 * (n % 4) + j.val, by omega⟩) := by
    intro n P d j _
    exact readCov_at3 (a := 1) (b := 256) (c := 128) (by show n / 4 % 4 = n / 4 % 4 + 0; omega) (by show d.val = 0 + d.val; omega) (by show 128 * (n % 4) + j.val = 128 * (n % 4) + j.val; rfl)
  have hld0 : ¬True → ∀ n < 16, ∀ P (d : Fin 256) (j : Fin 128), (fun n P => arg7.view.readCov P (tileR n).toLoadRect : ℕ → List (View.Piece (Elt Ideal) S4x256x512 .f32) → Vec Ideal S1x256x128 .f32) n P (ix3 0 d j)
      = ((fun _ => St.zero : ℕ → St) (n / 4 % 4)).C d ⟨128 * (n % 4) + j.val, by omega⟩ := fun h => (h trivial).elim
  have hchunk := fun c hc h0 => cpieces_chunk _ (fun _ => St.zero) hm0 True _ c0 hld hld0 (fun _ h d e => c0_canon h d e) c hc h0
  constructor
  · intro r e
    refine opieces_canon _ (fun _ => St.zero) hm0 hn0 _ ?_ r e 64 (le_refl _) (by omega)
    intro c hc h hh d e
    exact (readCov_at3 (a := 1) (b := 256) (c := 512) (i := ⟨h, hh⟩) (j := d) (k := e) (by show h = h % 4 + 0; omega) (by show d.val = 0 + d.val; omega) (by show e.val = 0 + e.val; omega)).trans
        (hchunk c (by omega) (Or.inl trivial) ⟨h, hh⟩ d e)
  · intro h d e
    exact hchunk 4 (le_refl _) (Or.inl trivial) h d e
  · intro h d
    refine (npieces_canon _ n0 h d 4 (le_refl _)).trans ?_
    rw [if_pos h.isLt]
    exact nr_apply _ h St.zero (hm0 h h.isLt) (hn0 h h.isLt) 4 d
  · intro h j
    refine (mpieces_canon _ m0 h j 4 (le_refl _)).trans ?_
    rw [if_pos h.isLt]
    exact mi_apply _ h St.zero (hm0 h h.isLt) 4 j

end A

end Cert.KernelIdeal.Body
-- ==== Proof.Left.lean ====
module

public import proofs.«01_k».proof.Proof.OpenA
public import proofs.«01_k».proof.Proof.OpenB

/-! What a run of the body leaves in its output block and in the three states, in the words of `Vocab`. -/

@[expose] public section

set_option maxRecDepth 16384

noncomputable section

namespace Cert.KernelIdeal.Body

open Idealize.ShloMosaic Idealize.SL.Sem Cert.KernelIdeal Cert.KernelIdeal.Gen

variable {F : FTy → Type} [FloatOps F]
variable (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x128 .f32) (harg4 : arg4.IsWhole) (arg5 : Memref sig .tc .vmem S1x128 .f32) (harg5 : arg5.IsWhole) (arg6 : Memref sig .tc .vmem S512x2048 .bf16) (harg6 : arg6.IsWhole) (arg7 : Memref sig .tc .vmem S4x256x512 .f32) (harg7 : arg7.IsWhole) (arg8 : Memref sig .tc .vmem S4x1x256 .f32) (harg8 : arg8.IsWhole) (arg9 : Memref sig .tc .vmem S4x1x128 .f32) (harg9 : arg9.IsWhole)
    (x0 : Vec F S512x2048 .bf16) (x1 : Vec F S512x2048 .bf16) (x2 : Vec F S512x128 .f32) (x3 : Vec F S1x128 .f32)

/-- What a first run leaves in the output block. -/
theorem leftO_A (hc0 : cond0_0 i) : out0_A_4 c i arg2 harg2 arg3 harg3 arg4 harg4 arg5 harg5 arg6 harg6 arg7 harg7 arg8 harg8 arg9 harg9 hc0 x0 x1 x2 x3 = View.canon (opieces (ldA arg2 harg2 arg3 harg3 arg4 harg4 arg5 harg5 arg8 arg9 x0 x1 x2 x3 4) (headA arg2 harg2 arg3 harg3 arg4 harg4 arg5 harg5 arg7 arg8 arg9 x0 x1 x2 x3) 64) :=
  (View.read_writes_junk_eq_canon _ _).trans (congrArg View.canon (openA_o c i arg2 harg2 arg3 harg3 arg4 harg4 arg5 harg5 arg6 harg6 arg7 harg7 arg8 harg8 arg9 harg9  x0 x1 x2 x3 hc0))

/-- What a later run leaves in the output block. -/
theorem leftO_B (xs0 : Vec F S4x256x512 .f32) (xs1 : Vec F S4x1x256 .f32) (xs2 : Vec F S4x1x128 .f32) (hc0 : ¬cond0_0 i) : out0_B_4 c i arg2 harg2 arg3 harg3 arg4 harg4 arg5 harg5 arg6 harg6 arg7 harg7 arg8 harg8 arg9 harg9 hc0 x0 x1 x2 x3 xs0 xs1 xs2 = View.canon (opieces (ldB arg2 harg2 arg3 harg3 arg4 harg4 arg5 harg5 arg8 harg8 arg9 harg9 x0 x1 x2 x3 xs1 xs2) (headB arg2 harg2 arg3 harg3 arg4 harg4 arg5 harg5 arg7 harg7 arg8 harg8 arg9 harg9 x0 x1 x2 x3 xs0 xs1 xs2) 64) :=
  (View.read_writes_junk_eq_canon _ _).trans (congrArg View.canon (openB_o c i arg2 harg2 arg3 harg3 arg4 harg4 arg5 harg5 arg6 harg6 arg7 harg7 arg8 harg8 arg9 harg9  x0 x1 x2 x3 xs0 xs1 xs2 hc0))

/-- What a first run leaves in the state. -/
theorem leftC_A (hc0 : cond0_0 i) : sout0_A_0 c i arg2 harg2 arg3 harg3 arg4 harg4 arg5 harg5 arg6 harg6 arg7 harg7 arg8 harg8 arg9 harg9 hc0 x0 x1 x2 x3 = View.canon (cA arg2 harg2 arg3 harg3 arg4 harg4 arg5 harg5 arg7 arg8 arg9 x0 x1 x2 x3 64) :=
  (View.read_writes_junk_eq_canon _ _).trans (congrArg View.canon (openA_c c i arg2 harg2 arg3 harg3 arg4 harg4 arg5 harg5 arg6 harg6 arg7 harg7 arg8 harg8 arg9 harg9  x0 x1 x2 x3 hc0))

/-- What a later run leaves in the state. -/
theorem leftC_B (xs0 : Vec F S4x256x512 .f32) (xs1 : Vec F S4x1x256 .f32) (xs2 : Vec F S4x1x128 .f32) (hc0 : ¬cond0_0 i) : sout0_B_0 c i arg2 harg2 arg3 harg3 arg4 harg4 arg5 harg5 arg6 harg6 arg7 harg7 arg8 harg8 arg9 harg9 hc0 x0 x1 x2 x3 xs0 xs1 xs2 = View.canon (cB arg2 harg2 arg3 harg3 arg4 harg4 arg5 harg5 arg7 harg7 arg8 harg8 arg9 harg9 x0 x1 x2 x3 xs0 xs1 xs2 64) :=
  (View.read_writes_junk_eq_canon _ _).trans (congrArg View.canon (openB_c c i arg2 harg2 arg3 harg3 arg4 harg4 arg5 harg5 arg6 harg6 arg7 harg7 arg8 harg8 arg9 harg9  x0 x1 x2 x3 xs0 xs1 xs2 hc0))

/-- What a first run leaves in the normaliser. -/
theorem leftN_A (hc0 : cond0_0 i) : sout0_A_1 c i arg2 harg2 arg3 harg3 arg4 harg4 arg5 harg5 arg6 harg6 arg7 harg7 arg8 harg8 arg9 harg9 hc0 x0 x1 x2 x3 = View.canon (npieces (ldA arg2 harg2 arg3 harg3 arg4 harg4 arg5 harg5 arg8 arg9 x0 x1 x2 x3 4) n0 4) :=
  (View.read_writes_junk_eq_canon _ _).trans (congrArg View.canon (openA_n c i arg2 harg2 arg3 harg3 arg4 harg4 arg5 harg5 arg6 harg6 arg7 harg7 arg8 harg8 arg9 harg9  x0 x1 x2 x3 hc0))

/-- What a later run leaves in the normaliser. -/
theorem leftN_B (xs0 : Vec F S4x256x512 .f32) (xs1 : Vec F S4x1x256 .f32) (xs2 : Vec F S4x1x128 .f32) (hc0 : ¬cond0_0 i) : sout0_B_1 c i arg2 harg2 arg3 harg3 arg4 harg4 arg5 harg5 arg6 harg6 arg7 harg7 arg8 harg8 arg9 harg9 hc0 x0 x1 x2 x3 xs0 xs1 xs2 = View.canon (npieces (ldB arg2 harg2 arg3 harg3 arg4 harg4 arg5 harg5 arg8 harg8 arg9 harg9 x0 x1 x2 x3 xs1 xs2) [] 4) :=
  (View.read_writes_junk_eq_canon _ _).trans (congrArg View.canon (openB_n c i arg2 harg2 arg3 harg3 arg4 harg4 arg5 harg5 arg6 harg6 arg7 harg7 arg8 harg8 arg9 harg9  x0 x1 x2 x3 xs0 xs1 xs2 hc0))

/-- What a first run leaves in the running maximum. -/
theorem leftM_A (hc0 : cond0_0 i) : sout0_A_2 c i arg2 harg2 arg3 harg3 arg4 harg4 arg5 harg5 arg6 harg6 arg7 harg7 arg8 harg8 arg9 harg9 hc0 x0 x1 x2 x3 = View.canon (mpieces (ldA arg2 harg2 arg3 harg3 arg4 harg4 arg5 harg5 arg8 arg9 x0 x1 x2 x3 4) m0 4) :=
  (View.read_writes_junk_eq_canon _ _).trans (congrArg View.canon (openA_m c i arg2 harg2 arg3 harg3 arg4 harg4 arg5 harg5 arg6 harg6 arg7 harg7 arg8 harg8 arg9 harg9  x0 x1 x2 x3 hc0))

/-- What a later run leaves in the running maximum. -/
theorem leftM_B (xs0 : Vec F S4x256x512 .f32) (xs1 : Vec F S4x1x256 .f32) (xs2 : Vec F S4x1x128 .f32) (hc0 : ¬cond0_0 i) : sout0_B_2 c i arg2 harg2 arg3 harg3 arg4 harg4 arg5 harg5 arg6 harg6 arg7 harg7 arg8 harg8 arg9 harg9 hc0 x0 x1 x2 x3 xs0 xs1 xs2 = View.canon (mpieces (ldB arg2 harg2 arg3 harg3 arg4 harg4 arg5 harg5 arg8 harg8 arg9 harg9 x0 x1 x2 x3 xs1 xs2) [] 4) :=
  (View.read_writes_junk_eq_canon _ _).trans (congrArg View.canon (openB_m c i arg2 harg2 arg3 harg3 arg4 harg4 arg5 harg5 arg6 harg6 arg7 harg7 arg8 harg8 arg9 harg9  x0 x1 x2 x3 xs0 xs1 xs2 hc0))

end Cert.KernelIdeal.Body
-- ==== Proof.Grid.lean ====
module

public import proofs.«01_k».proof.Proof.Runs
public import proofs.«01_k».proof.Proof.Left
public import Idealize.ShloMosaic.Lib.Routing.OpsSet
public import Idealize.ShloMosaic.Lib.StableHlo.RunRead

/-! The kernel's result over the extended reals: along the grid, every point takes the states of its sequence
    over four chunks, so the array written is the stabilised mLSTM of the arguments. -/

@[expose] public section

set_option backward.proofsInPublic true
set_option maxRecDepth 8192

noncomputable section

namespace Cert.KernelIdeal.Grid

open Idealize.ShloMosaic Idealize.ShloMosaic.TcCoe Idealize.SL.Sem Idealize.ShloMosaic.StableHlo
open Cert.KernelIdeal Cert.KernelIdeal.Gen Cert.KernelIdeal.Value Cert.KernelIdeal.Body Cert.Mlstm

variable (m : (ℓ : Loc nD τ sig) → Buf (Elt Ideal) ℓ) (c : Dev nD)

/-- The first argument's contents. -/
abbrev arg0 : FVec Ideal S32768x2048 .bf16 := m ((c.tc : Thread nD τ).loc main_arg0)
/-- The second argument's contents. -/
abbrev arg1 : FVec Ideal S32768x12288 .bf16 := m ((c.tc : Thread nD τ).loc main_arg1)
/-- The third argument's contents. -/
abbrev arg2 : FVec Ideal S32768x128 .f32 := m ((c.tc : Thread nD τ).loc main_arg2)
/-- The fourth argument's contents. -/
abbrev arg3 : FVec Ideal S8 .f32 := m ((c.tc : Thread nD τ).loc main_arg3)

/-- The blocks' places, decided over the grid. -/
theorem index_facts : ∀ t : Fin cfg0.N,
    win0_0.index t (0 : Fin 2) = t.val ∧ win0_0.index t (1 : Fin 2) = 0 ∧ win0_1.index t (0 : Fin 2) = t.val ∧ win0_1.index t (1 : Fin 2) = 0
    ∧ win0_2.index t (0 : Fin 2) = t.val ∧ win0_2.index t (1 : Fin 2) = 0 ∧ win0_3.index t (0 : Fin 2) = 0 ∧ win0_3.index t (1 : Fin 2) = 0 :=
  (by decide +kernel : ∀ t : Fin grid0.N, _)

theorem tlt (t : Fin cfg0.N) : t.val < 64 := lt_of_lt_of_eq t.isLt N_0

/-- The block of queries and keys at a point. -/
theorem iblk0 (t : Fin cfg0.N) (r : Fin 512) (e : Fin 2048) :
    (iblk m c 0 t : Vec Ideal S512x2048 .bf16) (ix2 r e) = arg0 m c (ix2 ⟨512 * t.val + r.val, by have := tlt t; omega⟩ e) := by
  obtain ⟨e0, e1, -⟩ := index_facts t
  show V m c main_arg0 (((cfg0.win 0).blk t).view.emb (ix2 r e)) = _
  rw [V_main_arg0]
  refine congrArg (arg0 m c) ?_
  funext a
  match a with
  | ⟨0, _⟩ => exact Fin.ext (by show win0_0.index t (0 : Fin 2) * 512 + 1 * r.val = 512 * t.val + r.val; omega)
  | ⟨1, _⟩ => exact Fin.ext (by show win0_0.index t (1 : Fin 2) * 2048 + 1 * e.val = e.val; omega)

/-- The block of values at a point. -/
theorem iblk1 (t : Fin cfg0.N) (r : Fin 512) (e : Fin 2048) :
    (iblk m c 1 t : Vec Ideal S512x2048 .bf16) (ix2 r e) = arg1 m c (ix2 ⟨512 * t.val + r.val, by have := tlt t; omega⟩ ⟨e.val, by omega⟩) := by
  obtain ⟨-, -, e0, e1, -⟩ := index_facts t
  show V m c main_arg1 (((cfg0.win 1).blk t).view.emb (ix2 r e)) = _
  rw [V_main_arg1]
  refine congrArg (arg1 m c) ?_
  funext a
  match a with
  | ⟨0, _⟩ => exact Fin.ext (by show win0_1.index t (0 : Fin 2) * 512 + 1 * r.val = 512 * t.val + r.val; omega)
  | ⟨1, _⟩ => exact Fin.ext (by show win0_1.index t (1 : Fin 2) * 2048 + 1 * e.val = e.val; omega)

/-- The block of gates at a point. -/
theorem iblk2 (t : Fin cfg0.N) (r : Fin 512) (e : Fin 128) :
    (iblk m c 2 t : Vec Ideal S512x128 .f32) (ix2 r e) = arg2 m c (ix2 ⟨512 * t.val + r.val, by have := tlt t; omega⟩ e) := by
  obtain ⟨-, -, -, -, e0, e1, -⟩ := index_facts t
  show V m c main_arg2 (((cfg0.win 2).blk t).view.emb (ix2 r e)) = _
  rw [V_main_arg2]
  refine congrArg (arg2 m c) ?_
  funext a
  match a with
  | ⟨0, _⟩ => exact Fin.ext (by show win0_2.index t (0 : Fin 2) * 512 + 1 * r.val = 512 * t.val + r.val; omega)
  | ⟨1, _⟩ => exact Fin.ext (by show win0_2.index t (1 : Fin 2) * 128 + 1 * e.val = e.val; omega)

/-- Every update of the biases lands in the row's column of its own number. -/
theorem lands : ∀ k : Fin 8, scatter_S1x128_S2_S8_0_0_01_0.resultIdx? (ix1 k) (fun _ => 0#32 : IVec S2 32) = some (ix2 0 ⟨k.val, by omega⟩) := by
  decide +kernel

/-- The first eight entries of the padded biases are the biases. -/
theorem bias (k : Fin 8) : (V m c main_v4 : Vec Ideal S1x128 .f32) (ix2 0 ⟨k.val, by omega⟩) = arg3 m c (ix1 k) := by
  have e : (V m c main_v4 : Vec Ideal S1x128 .f32) = Host.scatter scatter_S1x128_S2_S8_0_0_01_0 (fun _ b => b)
      (broadcastInDim S1x128 ![] bcast_S_S1x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0) (arg3 m c) := by
    simp only [V, hostOps0, after_cons, after_nil]
    after_reads_simp
    rfl
  have ei : (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) = fun _ => 0#32 := by
    funext x
    obtain ⟨i, rfl⟩ : ∃ i : Fin 2, x = ix1 i := ⟨x 0, by funext a; match a with | ⟨0, _⟩ => rfl⟩
    revert i
    decide +kernel
  rw [e, ei]
  refine Routing.scatter_set_hit _ _ _ _ _ _ ?_ (ix1 k) (lands k)
  intro k' hk'
  obtain ⟨i, rfl⟩ : ∃ i : Fin 8, k' = ix1 i := ⟨k' 0, by funext a; match a with | ⟨0, _⟩ => rfl⟩
  rw [lands i] at hk'
  have h1 := congrArg (fun y : S1x128.Idx => (y 1).val) (Option.some.inj hk')
  have h2 : i.val = k.val := h1
  rw [Fin.ext h2]

/-- The block of biases at a point. -/
theorem iblk3 (t : Fin cfg0.N) (k : Fin 8) :
    (iblk m c 3 t : Vec Ideal S1x128 .f32) (ix2 0 ⟨k.val, by omega⟩) = arg3 m c (ix1 k) := by
  obtain ⟨-, -, -, -, -, -, e0, e1⟩ := index_facts t
  refine Eq.trans ?_ (bias m c k)
  show V m c main_v4 (((cfg0.win 3).blk t).view.emb (ix2 0 ⟨k.val, by omega⟩)) = _
  refine congrArg (V m c main_v4 : Vec Ideal S1x128 .f32) ?_
  funext a
  match a with
  | ⟨0, _⟩ => exact Fin.ext (by show win0_3.index t (0 : Fin 2) * 1 + 1 * 0 = 0; omega)
  | ⟨1, _⟩ => exact Fin.ext (by show win0_3.index t (1 : Fin 2) * 128 + 1 * k.val = k.val; omega)

/-- The chunks of the arguments, of a point's sequence. -/
abbrev dat (b : ℕ) (hb : b < 8) (h : Fin 4) : ℕ → Chunk := data (arg0 m c) (arg1 m c) (arg2 m c) (arg3 m c) ⟨b, hb⟩ h

/-- A run that loads the blocks of point `t` loads four chunks of the arguments. -/
theorem chunk_eq {L : Ld Ideal} {t : Fin cfg0.N} (hL : Loads L (iblk m c 0 t) (iblk m c 1 t) (iblk m c 2 t) (iblk m c 3 t)) (h : Fin 4) (k : ℕ) (hk : k < 4) :
    chunkL L h k = dat m c (t.val / 8) (by have := tlt t; omega) h (4 * (t.val % 8) + k) := by
  have ht := tlt t
  have hrow : ∀ τ : Fin 128, 512 * t.val + (128 * k + τ.val) = (row ⟨t.val / 8, by omega⟩ (4 * (t.val % 8) + k) τ).val := by
    intro τ
    rw [row_val]
    show _ = 4096 * (t.val / 8) + 128 * ((4 * (t.val % 8) + k) % 32) + τ.val
    omega
  unfold chunkL dat data
  congr 1
  · funext τ d
    exact (hL.q ⟨k, hk⟩ h τ d).trans ((iblk0 m c t _ _).trans (at2 _ (hrow τ) rfl))
  · funext τ d
    exact (hL.k ⟨k, hk⟩ h τ d).trans ((iblk0 m c t _ _).trans (at2 _ (hrow τ) (by show 1024 + 256 * h.val + d.val = 1024 + (256 * h.val + d.val); omega)))
  · funext τ e
    exact (hL.v ⟨k, hk⟩ h τ e).trans ((iblk1 m c t _ _).trans (at2 _ (hrow τ) rfl))
  · funext τ
    have hg := (hL.g ⟨k, hk⟩ τ ⟨h.val % 4, by omega⟩).trans ((iblk2 m c t _ _).trans (at2 (c' := ⟨h.val, by omega⟩) _ (hrow τ) (by show h.val % 4 = h.val; omega)))
    have hb := (hL.b ⟨h.val % 4, by omega⟩).trans ((congrArg (fun y : Fin 128 => (iblk m c 3 t : Vec Ideal S1x128 .f32) (ix2 0 y)) (Fin.ext (by show h.val % 4 = h.val; omega))).trans (iblk3 m c t ⟨h.val, by omega⟩))
    exact congrArg₂ (fun x y : EReal => x + y) hg hb
  · funext τ
    have hg := (hL.g ⟨k, hk⟩ τ ⟨4 + h.val % 4, by omega⟩).trans ((iblk2 m c t _ _).trans (at2 (c' := ⟨4 + h.val, by omega⟩) _ (hrow τ) (by show 4 + h.val % 4 = 4 + h.val; omega)))
    have hb := (hL.b ⟨4 + h.val % 4, by omega⟩).trans ((congrArg (fun y : Fin 128 => (iblk m c 3 t : Vec Ideal S1x128 .f32) (ix2 0 y)) (Fin.ext (by show 4 + h.val % 4 = 4 + h.val; omega))).trans (iblk3 m c t ⟨4 + h.val, by omega⟩))
    exact congrArg lsig (congrArg₂ (fun x y : EReal => x + y) hg hb)

/-- What the buffers hold after point `t`: the rows its chunks give out, and the states after them. -/
structure After (t : Fin cfg0.N) (acc : Vec Ideal S512x2048 .bf16 × Vec Ideal S4x256x512 .f32 × Vec Ideal S4x1x256 .f32 × Vec Ideal S4x1x128 .f32) : Prop where
  o : ∀ (r : Fin 512) (e : Fin 2048), acc.1 (ix2 r e)
      = (dat m c (t.val / 8) (by have := tlt t; omega) ⟨e.val / 512, by omega⟩ (4 * (t.val % 8) + r.val / 128)).out
          (sts (dat m c (t.val / 8) (by have := tlt t; omega) ⟨e.val / 512, by omega⟩) St.zero (4 * (t.val % 8) + r.val / 128)) ⟨r.val % 128, by omega⟩ ⟨e.val % 512, by omega⟩
  C : ∀ (h : Fin 4) (d : Fin 256) (e : Fin 512), acc.2.1 (ix3 h d e) = (sts (dat m c (t.val / 8) (by have := tlt t; omega) h) St.zero (4 * (t.val % 8) + 4)).C d e
  n : ∀ (h : Fin 4) (d : Fin 256), acc.2.2.1 (ix3 h 0 d) = (sts (dat m c (t.val / 8) (by have := tlt t; omega) h) St.zero (4 * (t.val % 8) + 4)).n d
  m : ∀ (h : Fin 4) (j : Fin 128), acc.2.2.2 (ix3 h 0 j) = (sts (dat m c (t.val / 8) (by have := tlt t; omega) h) St.zero (4 * (t.val % 8) + 4)).m

/-- A run over point `t`'s blocks from the states before it leaves what is to hold after it. -/
theorem after_of_leaves {t : Fin cfg0.N} {L : Ld Ideal} {S : ℕ → St}
    {o : Vec Ideal S512x2048 .bf16} {C : Vec Ideal S4x256x512 .f32} {n : Vec Ideal S4x1x256 .f32} {x : Vec Ideal S4x1x128 .f32}
    (hL : Loads L (iblk m c 0 t) (iblk m c 1 t) (iblk m c 2 t) (iblk m c 3 t))
    (hS : ∀ h : Fin 4, S h = sts (dat m c (t.val / 8) (by have := tlt t; omega) h) St.zero (4 * (t.val % 8)))
    (hR : Leaves L S o C n x) : After m c t (o, C, n, x) := by
  have hst : ∀ (h : Fin 4) (k : ℕ), k ≤ 4 → sts (chunkL L h) (S h) k = sts (dat m c (t.val / 8) (by have := tlt t; omega) h) St.zero (4 * (t.val % 8) + k) := by
    intro h k hk
    rw [hS h]
    exact sts_add _ k fun j hj => chunk_eq m c hL h j (by omega)
  constructor
  · intro r e
    refine (hR.o r e).trans ?_
    have h1 := hst ⟨e.val / 512, by omega⟩ (r.val / 128) (by omega)
    have h2 := chunk_eq m c hL ⟨e.val / 512, by omega⟩ (r.val / 128) (by omega)
    exact congrArg₂ (fun (X : Chunk) (Z : St) => X.out Z ⟨r.val % 128, by omega⟩ ⟨e.val % 512, by omega⟩) h2 h1
  · intro h d e
    exact (hR.C h d e).trans (congrArg (fun Z : St => Z.C d e) (hst h 4 (le_refl _)))
  · intro h d
    exact (hR.n h d).trans (congrArg (fun Z : St => Z.n d) (hst h 4 (le_refl _)))
  · intro h j
    exact (hR.m h j).trans (congrArg (fun Z : St => Z.m) (hst h 4 (le_refl _)))

abbrev Acc := Vec Ideal S512x2048 .bf16 × Vec Ideal S4x256x512 .f32 × Vec Ideal S4x1x256 .f32 × Vec Ideal S4x1x128 .f32

/-- The first point of a sequence starts from zero. -/
theorem after_A (t : Fin cfg0.N) (acc : Acc) (h0 : t.val % 8 = 0) : After m c t (stAt0 m c t.val t.isLt acc) := by
  rw [stAt0_A m c t acc h0]
  rw [leftO_A, leftC_A, leftN_A, leftM_A]
  have hR := leavesA (ms0_0 t) (hs0_0 t) (ms0_1 t) (hs0_1 t) (ms0_2 t) (hs0_2 t) (ms0_3 t) (hs0_3 t) scM0_0 scM0_1 scM0_2 (iblk m c 0 t) (iblk m c 1 t) (iblk m c 2 t) (iblk m c 3 t)
  refine after_of_leaves m c (loadsA (ms0_0 t) (hs0_0 t) (ms0_1 t) (hs0_1 t) (ms0_2 t) (hs0_2 t) (ms0_3 t) (hs0_3 t) scM0_1 scM0_2 (iblk m c 0 t) (iblk m c 1 t) (iblk m c 2 t) (iblk m c 3 t)) ?_ hR
  intro h
  rw [h0]
  rfl

/-- A later point goes on from the states the point before left. -/
theorem after_B (t t' : Fin cfg0.N) (acc : Acc) (h0 : ¬t.val % 8 = 0) (ht : t'.val + 1 = t.val) (H : After m c t' acc) :
    After m c t (stAt0 m c t.val t.isLt acc) := by
  have hb : t'.val / 8 = t.val / 8 := by omega
  have hs : 4 * (t'.val % 8) + 4 = 4 * (t.val % 8) := by omega
  rw [stAt0_B m c t acc h0]
  rw [leftO_B, leftC_B, leftN_B, leftM_B]
  have hdat : ∀ h : Fin 4, dat m c (t'.val / 8) (by have := tlt t'; omega) h = dat m c (t.val / 8) (by have := tlt t; omega) h := by
    intro h
    unfold dat
    simp only [hb]
  let S : ℕ → St := fun h => sts (dat m c (t.val / 8) (by have := tlt t; omega) ⟨h % 4, by omega⟩) St.zero (4 * (t.val % 8))
  have hS : ∀ h : Fin 4, S h = sts (dat m c (t.val / 8) (by have := tlt t; omega) h) St.zero (4 * (t.val % 8)) := by
    intro h
    show sts (dat m c (t.val / 8) _ ⟨h.val % 4, _⟩) St.zero (4 * (t.val % 8)) = _
    have : (⟨h.val % 4, by omega⟩ : Fin 4) = h := Fin.ext (by show h.val % 4 = h.val; omega)
    rw [this]
  have hR := leavesB (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (iblk m c 3 t) acc.2.1 acc.2.2.1 acc.2.2.2 S ?_ ?_ ?_
  · exact after_of_leaves m c (loadsB (ms0_0 t) (hs0_0 t) (ms0_1 t) (hs0_1 t) (ms0_2 t) (hs0_2 t) (ms0_3 t) (hs0_3 t) scM0_1 (Memref.isWhole_whole _) scM0_2 (Memref.isWhole_whole _) (iblk m c 0 t) (iblk m c 1 t) (iblk m c 2 t) (iblk m c 3 t) acc.2.2.1 acc.2.2.2) hS hR
  · intro h d e
    rw [H.C h d e, hdat, hs, hS]
  · intro h d
    rw [H.n h d, hdat, hs, hS]
  · intro h j
    rw [H.m h j, hdat, hs, hS]

/-- After every point. -/
theorem after_all : ∀ (n : ℕ) (hn : n < cfg0.N), After m c ⟨n, hn⟩
    (Pipeline.accAt (fun n h => stAt0 m c n h junk0) (stAt0 m c) 0 n (by omega))
  | 0, hn => after_A m c ⟨0, hn⟩ junk0 rfl
  | n + 1, hn => by
    have ih := after_all n (by omega)
    have hstep : Pipeline.accAt (fun n h => stAt0 m c n h junk0) (stAt0 m c) 0 (n + 1) (by omega)
        = stAt0 m c (n + 1) hn (Pipeline.accAt (fun n h => stAt0 m c n h junk0) (stAt0 m c) 0 n (by omega)) := by
      have e : ∀ (k : ℕ) (hk : k < cfg0.N) (hk' : n + 1 < cfg0.N) (a : Acc), k = n + 1 → stAt0 m c k hk a = stAt0 m c (n + 1) hk' a := by
        intro k hk hk' a h
        subst h
        rfl
      exact e (0 + (n + 1)) (by omega) hn _ (by omega)
    rw [hstep]
    by_cases h0 : (n + 1) % 8 = 0
    · exact after_A m c ⟨n + 1, hn⟩ _ h0
    · exact after_B m c ⟨n + 1, hn⟩ ⟨n, by omega⟩ _ h0 rfl ih

/-- The kernel's result, element by element. -/
theorem kernel_result (r : Fin 32768) (e : Fin 2048) :
    (G4 m c : FVec Ideal S32768x2048 .bf16) (ix2 r e) = result (arg0 m c) (arg1 m c) (arg2 m c) (arg3 m c) r e := by
  have hp : pt4Of (ix2 r e) = r.val / 512 := by
    show 1 * (r.val / 512 - 0) + 1 * (e.val / 2048 - 0) = r.val / 512
    omega
  have hN : r.val / 512 < cfg0.N := lt_of_lt_of_eq (by omega : r.val / 512 < 64) N_0.symm
  have hl : loc4Of (ix2 r e) = ix2 ⟨r.val % 512, by omega⟩ e := by
    funext a
    match a with
    | ⟨0, _⟩ => rfl
    | ⟨1, _⟩ => exact Fin.ext (by show e.val % 2048 = e.val; omega)
  unfold G4
  rw [dif_pos (by rw [hp]; exact hN), hl, fold0_congr m c _ _ (r.val / 512) (by omega) hp]
  refine ((after_all m c (r.val / 512) hN).o ⟨r.val % 512, by omega⟩ e).trans ?_
  unfold result dat
  have h1 : r.val / 512 / 8 = r.val / 4096 := by omega
  have h2 : 4 * (r.val / 512 % 8) + r.val % 512 / 128 = r.val / 128 % 32 := by omega
  have h3 : r.val % 512 % 128 = r.val % 128 := by omega
  simp only [h1, h2, h3]

end Cert.KernelIdeal.Grid
-- ==== Proof.RefRead.lean ====
module

public import proofs.«01_k».proof.Proof.Gen.ReferenceIdeal.Run
public import proofs.«01_k».proof.Proof.Sign

/-! One trip of the reference's loop over the extended reals: from the data of chunk `j` and the state before
    it, the state after it and the chunk's result. -/

@[expose] public section

set_option maxRecDepth 8192

noncomputable section

namespace Cert.ReferenceIdeal.Trip

open Idealize.ShloMosaic Idealize.ShloMosaic.TcCoe Idealize.SL.Sem
open Cert.ReferenceIdeal Cert.ReferenceIdeal.Gen Cert.ReferenceIdeal.Value Cert.Mlstm

/-- What the loop's buffers hold before trip `j`: the chunks of every sequence and head, keys scaled; the causal
    mask; the counter; and the state, its matrix transposed and scaled. -/
structure Holds (V : Valuation τ sig (Elt Ideal)) (X : Fin 8 → Fin 4 → ℕ → Chunk) (S : Fin 8 → Fin 4 → St) (j : ℕ) : Prop where
  q : ∀ (c : Fin 32) b h t d, (V (Proc.devRef .tc main_v42_0) : FVec Ideal S32x8x4x128x256 .f32) (ix5 c b h t d) = (X b h c).q t d
  k : ∀ (c : Fin 32) b h t d, (V (Proc.devRef .tc main_v42_1) : FVec Ideal S32x8x4x128x256 .f32) (ix5 c b h t d) = (X b h c).k t d * κ
  v : ∀ (c : Fin 32) b h t e, (V (Proc.devRef .tc main_v42_2) : FVec Ideal S32x8x4x128x512 .f32) (ix5 c b h t e) = (X b h c).v t e
  i : ∀ (c : Fin 32) b h t, (V (Proc.devRef .tc main_v42_3) : FVec Ideal S32x8x4x128 .f32) (ix4 c b h t) = (X b h c).i t
  l : ∀ (c : Fin 32) b h t, (V (Proc.devRef .tc main_v42_4) : FVec Ideal S32x8x4x128 .f32) (ix4 c b h t) = (X b h c).l t
  mask : ∀ t s : Fin 128, (V (Proc.devRef .tc main_v42_5) : IVec S128x128 1) (ix2 t s) = BitVec.ofBool (decide (s ≤ t))
  ctr : (V (Proc.devRef .tc main_v42_6) : IVec S_ 32) ix0 = BitVec.ofNat 32 j
  C : ∀ b h e d, (V (Proc.devRef .tc main_v42_7) : FVec Ideal S8x4x512x256 .f32) (ix4 b h e d) = (S b h).C d e * κ
  n : ∀ b h d, (V (Proc.devRef .tc main_v42_8) : FVec Ideal S8x4x256 .f32) (ix3 b h d) = (S b h).n d * κ
  m : ∀ b h, (V (Proc.devRef .tc main_v42_9) : FVec Ideal S8x4 .f32) (ix2 b h) = (S b h).m

/-- A dynamic slice, read at an index. -/
theorem dynamicSlice_at {α : Type} {s t : Shape} (x : s.Idx → α) (start : Fin s.rank → Int) (h : s.Slices (fun _ => 0) t)
    (i : t.Idx) (i' : s.Idx)
    (hi : ∀ a, (i' a).val = (min (max (start a) 0) ((s.size a - t.size (a.cast h.1.symm) : Nat) : Int)).toNat + (i (a.cast h.1.symm)).val) :
    Host.dynamicSlice t x start h i = x i' :=
  congrArg x (funext fun a => Fin.ext (hi a).symm)

/-- The loop's counter, clamped to the number of chunks. -/
theorem ctr_clamp (j : ℕ) (hj : j < 32) : (min (max (BitVec.ofNat 32 j).toInt 0) ((32 - 1 : ℕ) : Int)).toNat = j := by
  have : ∀ c : Fin 32, (min (max (BitVec.ofNat 32 c.val).toInt 0) ((32 - 1 : ℕ) : Int)).toNat = c.val := by decide
  exact this ⟨j, hj⟩

variable {V : Valuation τ sig (Elt Ideal)} {X : Fin 8 → Fin 4 → ℕ → Chunk} {S : Fin 8 → Fin 4 → St} {j : ℕ}

theorem first_eq (c : IVec S_ 32) : c (Shape.Idx.first h_S_) = c ix0 := congrArg c (funext fun k => k.elim0)

/-- The chunk a trip reads, of a rank-five array. -/
theorem slice_qk {α : Type} (x : S32x8x4x128x256.Idx → α) (c : IVec S_ 32) (hc : c ix0 = BitVec.ofNat 32 j) (hj : j < 32) (b : Fin 8) (h : Fin 4) (t : Fin 128) (d : Fin 256) :
    shapeCast S8x4x128x256 (Host.dynamicSlice S1x8x4x128x256 x (fun k => ((![c, constantI S_ 32 0#32, constantI S_ 32 0#32, constantI S_ 32 0#32, constantI S_ 32 0#32] : Fin 5 → IVec S_ 32) k (Shape.Idx.first h_S_)).toInt) sliceFits_S32x8x4x128x256_S1x8x4x128x256) shapeCasts_S1x8x4x128x256_S8x4x128x256 (ix4 b h t d)
      = x (ix5 ⟨j, hj⟩ b h t d) := by
  have e : ∀ y : S1x8x4x128x256.Idx → α, shapeCast S8x4x128x256 y shapeCasts_S1x8x4x128x256_S8x4x128x256 (ix4 b h t d) = y (ix5 0 b h t d) := by
    intro y; pointwise
  rw [e]
  refine dynamicSlice_at x _ _ _ _ (fun a => ?_)
  match a with
  | 0 => exact ((congrArg (fun w : BitVec 32 => (min (max w.toInt 0) ((32 - 1 : ℕ) : Int)).toNat) ((first_eq c).trans hc)).trans (ctr_clamp j hj)).symm
  | 1 => exact (Nat.zero_add b.val).symm
  | 2 => exact (Nat.zero_add h.val).symm
  | 3 => exact (Nat.zero_add t.val).symm
  | 4 => exact (Nat.zero_add d.val).symm

/-- The chunk a trip reads, of the values. -/
theorem slice_v {α : Type} (x : S32x8x4x128x512.Idx → α) (c : IVec S_ 32) (hc : c ix0 = BitVec.ofNat 32 j) (hj : j < 32) (b : Fin 8) (h : Fin 4) (t : Fin 128) (d : Fin 512) :
    shapeCast S8x4x128x512 (Host.dynamicSlice S1x8x4x128x512 x (fun k => ((![c, constantI S_ 32 0#32, constantI S_ 32 0#32, constantI S_ 32 0#32, constantI S_ 32 0#32] : Fin 5 → IVec S_ 32) k (Shape.Idx.first h_S_)).toInt) sliceFits_S32x8x4x128x512_S1x8x4x128x512) shapeCasts_S1x8x4x128x512_S8x4x128x512 (ix4 b h t d)
      = x (ix5 ⟨j, hj⟩ b h t d) := by
  have e : ∀ y : S1x8x4x128x512.Idx → α, shapeCast S8x4x128x512 y shapeCasts_S1x8x4x128x512_S8x4x128x512 (ix4 b h t d) = y (ix5 0 b h t d) := by
    intro y; pointwise
  rw [e]
  refine dynamicSlice_at x _ _ _ _ (fun a => ?_)
  match a with
  | 0 => exact ((congrArg (fun w : BitVec 32 => (min (max w.toInt 0) ((32 - 1 : ℕ) : Int)).toNat) ((first_eq c).trans hc)).trans (ctr_clamp j hj)).symm
  | 1 => exact (Nat.zero_add b.val).symm
  | 2 => exact (Nat.zero_add h.val).symm
  | 3 => exact (Nat.zero_add t.val).symm
  | 4 => exact (Nat.zero_add d.val).symm

/-- The chunk a trip reads, of the gates. -/
theorem slice_g {α : Type} (x : S32x8x4x128.Idx → α) (c : IVec S_ 32) (hc : c ix0 = BitVec.ofNat 32 j) (hj : j < 32) (b : Fin 8) (h : Fin 4) (t : Fin 128) :
    shapeCast S8x4x128 (Host.dynamicSlice S1x8x4x128 x (fun k => ((![c, constantI S_ 32 0#32, constantI S_ 32 0#32, constantI S_ 32 0#32] : Fin 4 → IVec S_ 32) k (Shape.Idx.first h_S_)).toInt) sliceFits_S32x8x4x128_S1x8x4x128) shapeCasts_S1x8x4x128_S8x4x128 (ix3 b h t)
      = x (ix4 ⟨j, hj⟩ b h t) := by
  have e : ∀ y : S1x8x4x128.Idx → α, shapeCast S8x4x128 y shapeCasts_S1x8x4x128_S8x4x128 (ix3 b h t) = y (ix4 0 b h t) := by
    intro y; pointwise
  rw [e]
  refine dynamicSlice_at x _ _ _ _ (fun a => ?_)
  match a with
  | 0 => exact ((congrArg (fun w : BitVec 32 => (min (max w.toInt 0) ((32 - 1 : ℕ) : Int)).toNat) ((first_eq c).trans hc)).trans (ctr_clamp j hj)).symm
  | 1 => exact (Nat.zero_add b.val).symm
  | 2 => exact (Nat.zero_add h.val).symm
  | 3 => exact (Nat.zero_add t.val).symm

/-- A fold by addition from zero is a sum. -/
theorem foldl_add_finRange {N : ℕ} (f : Fin N → EReal) : (List.finRange N).foldl (fun r n => r + f n) 0 = ∑ n, f n := by
  rw [Fin.sum_univ_def, List.sum_eq_foldl, List.foldl_map]

/-- A window of 1 × 1 × 128 is indexed by its last coordinate. -/
def windowEquiv : (⟨3, ![1, 1, 128]⟩ : Shape).Idx ≃ Fin 128 where
  toFun i := i 2
  invFun w := ix3 0 0 w
  left_inv i := by
    funext a
    match a with
    | 0 => exact Subsingleton.elim (α := Fin 1) _ _
    | 1 => exact Subsingleton.elim (α := Fin 1) _ _
    | 2 => rfl
  right_inv _ := rfl

/-- The position in the window, by its number. -/
def winIdx (n : Fin (⟨3, ![1, 1, 128]⟩ : Shape).numel) : (⟨3, ![1, 1, 128]⟩ : Shape).Idx :=
  (⟨3, ![1, 1, 128]⟩ : Shape).rowMajor.symm n

/-- The running sum along the rows of a chunk: a window sum of the padded chunk. -/
theorem cumsum_apply (x : FVec Ideal S8x4x128 .f32) (init : FVec Ideal S_ .f32) (h0 : init (Shape.Idx.first h_S_) = (0 : EReal)) (b : Fin 8) (h : Fin 4) (t : Fin 128) :
    Host.reduceWindowAdd ![1, 1, 128] ![1, 1, 1] ![0, 0, 127] ![0, 0, 0] x init reduceWindows_S8x4x128_S8x4x128_w1s1p0_0_w1s1p0_0_w128s1p127_0 h_S_ (ix3 b h t)
      = ∑ s : Fin 128, if s ≤ t then x (ix3 b h s) else (0 : EReal) := by
  show Host.reduceWindow (α := EReal) (· + ·) ![1, 1, 128] ![1, 1, 1] ![0, 0, 127] ![0, 0, 0] x (fun _ : (⟨0, ![]⟩ : Shape).Idx => init (Shape.Idx.first h_S_)) reduceWindows_S8x4x128_S8x4x128_w1s1p0_0_w1s1p0_0_w128s1p127_0 (by decide) (ix3 b h t) = _
  rw [h0]
  unfold Host.reduceWindow
  refine (foldl_add_finRange _).trans ?_
  refine Fintype.sum_equiv (((⟨3, ![1, 1, 128]⟩ : Shape).rowMajor.symm.trans windowEquiv).trans (Equiv.addRight (t + 1))) _ _ (fun n => ?_)
  have e0 : (winIdx n 0).val = 0 := by have := (winIdx n 0).isLt; change (winIdx n 0).val < 1 at this; omega
  have e1 : (winIdx n 1).val = 0 := by have := (winIdx n 1).isLt; change (winIdx n 1).val < 1 at this; omega
  have e2 : (winIdx n 2).val < 128 := (winIdx n 2).isLt
  have hv : ((((⟨3, ![1, 1, 128]⟩ : Shape).rowMajor.symm.trans windowEquiv).trans (Equiv.addRight (t + 1))) n).val = ((winIdx n 2).val + (t.val + 1)) % 128 := by
    refine (rfl : _ = ((windowEquiv (winIdx n)) + (t + 1) : Fin 128).val).trans ?_
    rw [Fin.val_add, Fin.val_add]
    show ((winIdx n 2).val + (t.val + 1) % 128) % 128 = _
    omega
  generalize (((⟨3, ![1, 1, 128]⟩ : Shape).rowMajor.symm.trans windowEquiv).trans (Equiv.addRight (t + 1))) n = s at hv
  have ht := t.isLt
  have hb := b.isLt
  have hh := h.isLt
  by_cases hs : 127 ≤ t.val + (winIdx n 2).val
  · have hs' : s.val = t.val + (winIdx n 2).val - 127 := by rw [hv]; omega
    have hle : s ≤ t := show s.val ≤ t.val by omega
    have hin : ∀ a : Fin 3, (![0, 0, 127] : Fin 3 → ℕ) a ≤ (ix3 b h t a).val * (![1, 1, 1] : Fin 3 → ℕ) a + (winIdx n a).val
        ∧ (ix3 b h t a).val * (![1, 1, 1] : Fin 3 → ℕ) a + (winIdx n a).val - (![0, 0, 127] : Fin 3 → ℕ) a < S8x4x128.size a := by
      intro a
      match a with
      | 0 => show 0 ≤ b.val * 1 + (winIdx n 0).val ∧ b.val * 1 + (winIdx n 0).val - 0 < 8; omega
      | 1 => show 0 ≤ h.val * 1 + (winIdx n 1).val ∧ h.val * 1 + (winIdx n 1).val - 0 < 4; omega
      | 2 => show 127 ≤ t.val * 1 + (winIdx n 2).val ∧ t.val * 1 + (winIdx n 2).val - 127 < 128; omega
    refine (dif_pos hin).trans (Eq.trans ?_ (if_pos hle).symm)
    refine congrArg x (funext fun a => Fin.ext ?_)
    match a with
    | 0 => show b.val * 1 + (winIdx n 0).val - 0 = b.val; omega
    | 1 => show h.val * 1 + (winIdx n 1).val - 0 = h.val; omega
    | 2 => show t.val * 1 + (winIdx n 2).val - 127 = s.val; omega
  · have hle : ¬ s ≤ t := show ¬ s.val ≤ t.val by rw [hv]; omega
    refine (dif_neg fun hin => ?_).trans (if_neg hle).symm
    have := hin 2
    change 127 ≤ t.val * 1 + (winIdx n 2).val ∧ _ at this
    omega

theorem v47_apply (H : Holds V X S j) (hj : j < 32) (b h t d) :
    (res_main_while0b_v47 V : FVec Ideal S8x4x128x256 .f32) (ix4 b h t d) = (X b h j).q t d := by
  unfold res_main_while0b_v47
  exact (slice_qk _ _ H.ctr hj b h t d).trans (H.q ⟨j, hj⟩ b h t d)

theorem v48_apply (H : Holds V X S j) (hj : j < 32) (b h t d) :
    (res_main_while0b_v48 V : FVec Ideal S8x4x128x256 .f32) (ix4 b h t d) = (X b h j).k t d * κ := by
  unfold res_main_while0b_v48
  exact (slice_qk _ _ H.ctr hj b h t d).trans (H.k ⟨j, hj⟩ b h t d)

theorem v49_apply (H : Holds V X S j) (hj : j < 32) (b h t e) :
    (res_main_while0b_v49 V : FVec Ideal S8x4x128x512 .f32) (ix4 b h t e) = (X b h j).v t e := by
  unfold res_main_while0b_v49
  exact (slice_v _ _ H.ctr hj b h t e).trans (H.v ⟨j, hj⟩ b h t e)

theorem v50_apply (H : Holds V X S j) (hj : j < 32) (b h t) :
    (res_main_while0b_v50 V : FVec Ideal S8x4x128 .f32) (ix3 b h t) = (X b h j).i t := by
  unfold res_main_while0b_v50
  exact (slice_g _ _ H.ctr hj b h t).trans (H.i ⟨j, hj⟩ b h t)

theorem v52_apply (H : Holds V X S j) (hj : j < 32) (b h t) :
    (res_main_while0b_v52 V : FVec Ideal S8x4x128 .f32) (ix3 b h t) = (X b h j).cum t := by
  unfold res_main_while0b_v52
  refine (cumsum_apply _ _ ?_ b h t).trans ?_
  · show Ideal.ofBits FTy.f32 0x00000000#32 = 0
    simp [Ideal.ofBits, Ideal.ieee]
  · unfold Chunk.cum
    refine Finset.sum_congr rfl fun s _ => ?_
    congr 1
    exact (slice_g _ _ H.ctr hj b h s).trans (H.l ⟨j, hj⟩ b h s)

theorem v61_apply (H : Holds V X S j) (hj : j < 32) (b h) (t s : Fin 128) :
    (res_main_while0b_v61 V : FVec Ideal S8x4x128x128 .f32) (ix4 b h t s) = (X b h j).dmat t s := by
  unfold res_main_while0b_v61
  simp only [id_eq]
  pointwise
  rw [v52_apply H hj, v52_apply H hj, v50_apply H hj, ofBits_neg_inf]
  refine (congrArg (fun w => Scalar.select w _ _) (H.mask t s)).trans ?_
  rw [select_ofBool]
  simp only [decide_eq_true_eq]
  rfl

theorem v64_apply (H : Holds V X S j) (hj : j < 32) (b h) (t : Fin 128) :
    (res_main_while0b_v64 V : FVec Ideal S8x4x128 .f32) (ix3 b h t) = (X b h j).cum t + (S b h).m := by
  unfold res_main_while0b_v64
  pointwise
  rw [v52_apply H hj]
  exact congrArg _ (H.m b h)

theorem v66_apply (H : Holds V X S j) (hj : j < 32) (b h) (t : Fin 128) :
    (res_main_while0b_v66 V : FVec Ideal S8x4x128 .f32) (ix3 b h t) = (X b h j).mt (S b h) t := by
  unfold res_main_while0b_v66
  pointwise
  rw [v64_apply H hj, ofBits_neg_inf]
  refine congrArg (fun y : EReal => max ((X b h j).cum t + (S b h).m) y) ((Shape.ReducesTo.fold_fiber_r4_a3 (α := EReal) reducesTo_S8x4x128x128_S8x4x128_d3 (ix3 b h t) max ⊥ (res_main_while0b_v61 V)).trans ?_)
  exact congrArg (fun f : Fin 128 → EReal => Finset.fold max ⊥ f Finset.univ) (funext fun s => v61_apply H hj b h t s)

theorem v68_apply (H : Holds V X S j) (hj : j < 32) (b h) (t : Fin 128) :
    (res_main_while0b_v68 V : FVec Ideal S8x4x128 .f32) (ix3 b h t) = (X b h j).wi (S b h) t := by
  unfold res_main_while0b_v68
  pointwise
  rw [v64_apply H hj, v66_apply H hj]
  rfl

theorem v74_apply (H : Holds V X S j) (hj : j < 32) (b h) (t s : Fin 128) :
    (res_main_while0b_v74 V : FVec Ideal S8x4x128x128 .f32) (ix4 b h t s)
      = (∑ d, (X b h j).q t d * (X b h j).k s d) * ((X b h j).ws (S b h) t s * κ) := by
  unfold res_main_while0b_v74
  pointwise
  rw [v61_apply H hj, v66_apply H hj]
  simp only [v47_apply H hj, v48_apply H hj, ← mul_assoc]
  rw [sum_mul_κ, mul_assoc, mul_comm κ, ← mul_assoc]
  rfl

theorem v93_apply (H : Holds V X S j) (hj : j < 32) (b h) :
    (res_main_while0b_v93 V : FVec Ideal S8x4 .f32) (ix2 b h) = (X b h j).last := by
  unfold res_main_while0b_v93
  pointwise
  exact v52_apply H hj b h 127

theorem v97_apply (H : Holds V X S j) (hj : j < 32) (b h) (t : Fin 128) :
    (res_main_while0b_v97 V : FVec Ideal S8x4x128 .f32) (ix3 b h t) = (X b h j).g t := by
  unfold res_main_while0b_v97
  pointwise
  rw [v93_apply H hj, v52_apply H hj, v50_apply H hj]
  rfl

theorem v100_apply (H : Holds V X S j) (hj : j < 32) (b h) :
    (res_main_while0b_v100 V : FVec Ideal S8x4 .f32) (ix2 b h) = (X b h j).mnext (S b h) := by
  unfold res_main_while0b_v100
  pointwise
  rw [v93_apply H hj, ofBits_neg_inf]
  refine congrArg₂ (fun x y : EReal => max ((X b h j).last + x) y) (H.m b h) ((Shape.ReducesTo.fold_fiber_r3_a2 (α := EReal) reducesTo_S8x4x128_S8x4_d2 (ix2 b h) max ⊥ (res_main_while0b_v97 V)).trans ?_)
  exact congrArg (fun f : Fin 128 → EReal => Finset.fold max ⊥ f Finset.univ) (funext fun s => v97_apply H hj b h s)

theorem v103_apply (H : Holds V X S j) (hj : j < 32) (b h) :
    (res_main_while0b_v103 V : FVec Ideal S8x4 .f32) (ix2 b h) = (X b h j).dec (S b h) := by
  unfold res_main_while0b_v103
  pointwise
  rw [v93_apply H hj, v100_apply H hj]
  exact congrArg (fun m => Ideal.exp ((X b h j).last + m - (X b h j).mnext (S b h))) (H.m b h)

theorem v107_apply (H : Holds V X S j) (hj : j < 32) (b h) (t : Fin 128) :
    (res_main_while0b_v107 V : FVec Ideal S8x4x128 .f32) (ix3 b h t) = (X b h j).wk (S b h) t := by
  unfold res_main_while0b_v107
  pointwise
  rw [v97_apply H hj, v100_apply H hj]
  rfl

/-- The matrix after a trip. -/
theorem C_step (H : Holds V X S j) (hj : j < 32) (b h e d) :
    (step_main_v42_7 V : FVec Ideal S8x4x512x256 .f32) (ix4 b h e d) = ((X b h j).next (S b h)).C d e * κ := by
  unfold step_main_v42_7
  simp only [id_eq]
  pointwise
  rw [v103_apply H hj]
  simp only [v49_apply H hj, v107_apply H hj, v48_apply H hj]
  refine (congrArg (fun c => (X b h j).dec (S b h) * c + _) (H.C b h e d)).trans ?_
  show _ = ((X b h j).dec (S b h) * (S b h).C d e + ∑ s, (X b h j).k s d * (X b h j).wk (S b h) s * (X b h j).v s e) * κ
  rw [add_mul_κ, ← sum_mul_κ, mul_assoc]
  congr 1
  exact Finset.sum_congr rfl fun s _ => by ac_rfl

/-- The normaliser after a trip. -/
theorem n_step (H : Holds V X S j) (hj : j < 32) (b h d) :
    (step_main_v42_8 V : FVec Ideal S8x4x256 .f32) (ix3 b h d) = ((X b h j).next (S b h)).n d * κ := by
  unfold step_main_v42_8
  simp only [id_eq]
  pointwise
  rw [v103_apply H hj]
  simp only [v107_apply H hj, v48_apply H hj]
  refine (congrArg (fun c => (X b h j).dec (S b h) * c + _) (H.n b h d)).trans ?_
  show _ = ((X b h j).dec (S b h) * (S b h).n d + ∑ s, (X b h j).k s d * (X b h j).wk (S b h) s) * κ
  rw [add_mul_κ, ← sum_mul_κ, mul_assoc]
  congr 1
  exact Finset.sum_congr rfl fun s _ => by ac_rfl

/-- The running maximum after a trip. -/
theorem m_step (H : Holds V X S j) (hj : j < 32) (b h) :
    (step_main_v42_9 V : FVec Ideal S8x4 .f32) (ix2 b h) = ((X b h j).next (S b h)).m := by
  unfold step_main_v42_9
  simp only [id_eq]
  exact v100_apply H hj b h

/-- What a trip writes into the results: the quotient of the weighted values by the normaliser. -/
def quot (V : Valuation τ sig (Elt Ideal)) : FVec Ideal S8x4x128x512 .f32 :=
  Host.divf (addf (mulf (broadcastInDim S8x4x128x512 ![0, 1, 2, 3] bcast_S8x4x128x1_S8x4x128x512_0_1_2_3 (broadcastInDim S8x4x128x1 ![0, 1, 2] bcast_S8x4x128_S8x4x128x1_0_1_2 (res_main_while0b_v68 V)))
      (Host.dotGeneral (φ₁ := .f32) (φ₂ := .f32) dot_S8x4x128x256_S8x4x512x256_S8x4x128x512_3_3_2_2_01_01 none (res_main_while0b_v47 V) (V (Proc.devRef .tc main_v42_7))))
      (Host.dotGeneral (φ₁ := .f32) (φ₂ := .f32) dot_S8x4x128x128_S8x4x128x512_S8x4x128x512_3_2_2_3_01_01 none (res_main_while0b_v74 V) (res_main_while0b_v49 V)))
    (broadcastInDim S8x4x128x512 ![0, 1, 2, 3] bcast_S8x4x128x1_S8x4x128x512_0_1_2_3 (broadcastInDim S8x4x128x1 ![0, 1, 2] bcast_S8x4x128_S8x4x128x1_0_1_2
      (maximumf (Host.absf (addf (mulf (res_main_while0b_v68 V)
          (Host.dotGeneral (φ₁ := .f32) (φ₂ := .f32) dot_S8x4x256_S8x4x128x256_S8x4x128_2_3_n_2_01_01 none (V (Proc.devRef .tc main_v42_8)) (res_main_while0b_v47 V)))
          (Host.reduceAdd (res_main_while0b_v74 V) (constant S_ .f32 0x00000000#32) reducesTo_S8x4x128x128_S8x4x128_d3 h_S_)))
        (Host.exp (Host.negf (res_main_while0b_v66 V))))))

theorem step_quot (V : Valuation τ sig (Elt Ideal)) : step_main_v42_10 V
    = Host.dynamicUpdateSlice (V (Proc.devRef .tc main_v42_10)) (broadcastInDim S1x8x4x128x512 ![1, 2, 3, 4] bcast_S8x4x128x512_S1x8x4x128x512_1_2_3_4 (quot V))
      (fun k => (((![V (Proc.devRef .tc main_v42_6), constantI S_ 32 0#32, constantI S_ 32 0#32, constantI S_ 32 0#32, constantI S_ 32 0#32] : Fin 5 → (⟨S_, .i32⟩ : BufTy).Contents (Elt Ideal))) k (Shape.Idx.first h_S_)).toInt) updateFits_S32x8x4x128x512_S1x8x4x128x512 := by
  unfold step_main_v42_10 quot
  simp only [id_eq]

theorem quot_apply (H : Holds V X S j) (hj : j < 32) (b h t e) (hm : (X b h j).mt (S b h) t < ⊤) :
    quot V (ix4 b h t e) = (X b h j).out (S b h) t e := by
  unfold quot
  pointwise
  rw [v66_apply H hj, v68_apply H hj]
  simp only [v47_apply H hj, v49_apply H hj, v74_apply H hj]
  rw [show -(X b h j).mt (S b h) t = 0 - (X b h j).mt (S b h) t from (zero_sub _).symm]
  refine (div_norm hm _ _).trans ?_
  have e1 : ∑ x, (X b h j).q t x * (V (Proc.devRef .tc main_v42_7) : FVec Ideal S8x4x512x256 .f32) (ix4 b h e x)
      = (∑ d, (X b h j).q t d * (S b h).C d e) * κ := by
    rw [← sum_mul_κ]
    exact Finset.sum_congr rfl fun x _ => (congrArg (fun y : EReal => (X b h j).q t x * y) (H.C b h e x)).trans (mul_assoc _ _ _).symm
  have e2 : ∑ x, @HMul.hMul EReal EReal EReal _ ((V (Proc.devRef .tc main_v42_8) : FVec Ideal S8x4x256 .f32) (ix3 b h x)) ((X b h j).q t x)
      = (∑ d, (X b h j).q t d * (S b h).n d) * κ := by
    rw [← sum_mul_κ]
    exact Finset.sum_congr rfl fun x _ => (congrArg (fun y : EReal => y * (X b h j).q t x) (H.n b h x)).trans (by ac_rfl)
  have e3 : ∀ w z : EReal, w * (z * κ) = w * κ * z := fun w z => by ac_rfl
  refine (congrArg₂ (fun x y : EReal => ((X b h j).wi (S b h) t * x + _) * Ideal.div 1 (max (FloatOps.absf (F := Ideal) (φ := .f32) ((X b h j).wi (S b h) t * y + _)) _)) e1 e2).trans ?_
  rw [e3, e3]
  rfl

/-- A dynamic update of the results at the counter. -/
theorem update_at {α : Type} (x : S32x8x4x128x512.Idx → α) (y : S8x4x128x512.Idx → α) (c : IVec S_ 32) (hc : c ix0 = BitVec.ofNat 32 j) (hj : j < 32)
    (r : Fin 32) (b : Fin 8) (h : Fin 4) (t : Fin 128) (d : Fin 512) :
    Host.dynamicUpdateSlice x (broadcastInDim S1x8x4x128x512 ![1, 2, 3, 4] bcast_S8x4x128x512_S1x8x4x128x512_1_2_3_4 y)
      (fun k => ((![c, constantI S_ 32 0#32, constantI S_ 32 0#32, constantI S_ 32 0#32, constantI S_ 32 0#32] : Fin 5 → IVec S_ 32) k (Shape.Idx.first h_S_)).toInt)
      updateFits_S32x8x4x128x512_S1x8x4x128x512 (ix5 r b h t d) = if r.val = j then y (ix4 b h t d) else x (ix5 r b h t d) := by
  have e0 : (min (max (c (Shape.Idx.first h_S_)).toInt 0) ((32 - 1 : ℕ) : Int)).toNat = j :=
    (congrArg (fun w : BitVec 32 => (min (max w.toInt 0) ((32 - 1 : ℕ) : Int)).toNat) ((first_eq c).trans hc)).trans (ctr_clamp j hj)
  have hr := r.isLt
  have hb := b.isLt
  have hh := h.isLt
  have ht := t.isLt
  have hd := d.isLt
  unfold Host.dynamicUpdateSlice updateSlice
  by_cases hrj : r.val = j
  · rw [if_pos hrj, dif_pos]
    · refine congrArg y (funext fun a => Fin.ext ?_)
      match a with
      | 0 => rfl
      | 1 => rfl
      | 2 => rfl
      | 3 => rfl
    · intro a
      match a with
      | 0 => show (min (max (c (Shape.Idx.first h_S_)).toInt 0) ((32 - 1 : ℕ) : Int)).toNat ≤ r.val ∧ r.val < (min (max (c (Shape.Idx.first h_S_)).toInt 0) ((32 - 1 : ℕ) : Int)).toNat + 1; omega
      | 1 => show 0 ≤ b.val ∧ b.val < 0 + 8; omega
      | 2 => show 0 ≤ h.val ∧ h.val < 0 + 4; omega
      | 3 => show 0 ≤ t.val ∧ t.val < 0 + 128; omega
      | 4 => show 0 ≤ d.val ∧ d.val < 0 + 512; omega
  · rw [if_neg hrj, dif_neg]
    intro hin
    have := hin 0
    change (min (max (c (Shape.Idx.first h_S_)).toInt 0) ((32 - 1 : ℕ) : Int)).toNat ≤ r.val ∧ r.val < (min (max (c (Shape.Idx.first h_S_)).toInt 0) ((32 - 1 : ℕ) : Int)).toNat + 1 at this
    omega

end Cert.ReferenceIdeal.Trip
-- ==== Proof.RefEntry.lean ====
module

public import proofs.«01_k».proof.Proof.Gen.ReferenceIdeal.Step
public import proofs.«01_k».proof.Proof.RefRead
public import proofs.«01_k».proof.Proof.Data

/-! What the reference's loop starts from: the chunks out of the arguments, and the zero state. -/

@[expose] public section

set_option maxRecDepth 8192

noncomputable section

namespace Cert.ReferenceIdeal.Trip

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step Cert.Mlstm

section Arrays

variable (a0 : FVec Ideal S32768x2048 .bf16) (a1 : FVec Ideal S32768x12288 .bf16) (a2 : FVec Ideal S32768x128 .f32) (a3 : FVec Ideal S8 .f32)

theorem q_entry (c : Fin 32) (b : Fin 8) (h : Fin 4) (t : Fin 128) (d : Fin 256) :
    (A_main_v20 (F := Ideal) a0 a1 a2 a3 : FVec Ideal S32x8x4x128x256 .f32) (ix5 c b h t d) = (data a0 a1 a2 a3 b h c).q t d := by
  unfold A_main_v20 A_main_v19 A_main_v18 A_main_v13 A_main_v0
  pointwise
  exact at2 a0 (by rw [row_val]; show b.val * 4096 + (c.val * 128 + t.val) = _; omega) (by show h.val * 256 + d.val = 256 * h.val + d.val; omega)

theorem k_entry (c : Fin 32) (b : Fin 8) (h : Fin 4) (t : Fin 128) (d : Fin 256) :
    (A_main_v25 (F := Ideal) a0 a1 a2 a3 : FVec Ideal S32x8x4x128x256 .f32) (ix5 c b h t d) = (data a0 a1 a2 a3 b h c).k t d * κ := by
  unfold A_main_v25 A_main_v23 A_main_v22 A_main_v21 A_main_v14 A_main_v1 K_main_v24 K_main_cst
  pointwise
  refine congrArg (fun y : EReal => y * κ) ?_
  exact at2 a0 (by rw [row_val]; show b.val * 4096 + (c.val * 128 + t.val) = _; omega) (by show 1024 + (h.val * 256 + d.val) = 1024 + (256 * h.val + d.val); omega)

theorem v_entry (c : Fin 32) (b : Fin 8) (h : Fin 4) (t : Fin 128) (e : Fin 512) :
    (A_main_v28 (F := Ideal) a0 a1 a2 a3 : FVec Ideal S32x8x4x128x512 .f32) (ix5 c b h t e) = (data a0 a1 a2 a3 b h c).v t e := by
  unfold A_main_v28 A_main_v27 A_main_v26 A_main_v15 A_main_v2
  pointwise
  exact at2 a1 (by rw [row_val]; show b.val * 4096 + (c.val * 128 + t.val) = _; omega) (by show h.val * 512 + e.val = 512 * h.val + e.val; omega)

theorem i_entry (c : Fin 32) (b : Fin 8) (h : Fin 4) (t : Fin 128) :
    (A_main_v30 (F := Ideal) a0 a1 a2 a3 : FVec Ideal S32x8x4x128 .f32) (ix4 c b h t) = (data a0 a1 a2 a3 b h c).i t := by
  unfold A_main_v30 A_main_v29 A_main_v16 A_main_v7 A_main_v6 A_main_v5 A_main_v4 A_main_v3
  pointwise
  exact congrArg (fun y : EReal => y + a3 (ix1 ⟨h.val, by omega⟩)) (at2 a2 (by rw [row_val]; show b.val * 4096 + c.val * 128 + t.val = _; omega) rfl)

theorem f_entry (c : Fin 32) (b : Fin 8) (h : Fin 4) (t : Fin 128) :
    (A_main_v32 (F := Ideal) a0 a1 a2 a3 : FVec Ideal S32x8x4x128 .f32) (ix4 c b h t)
      = a2 (ix2 (row b c t) ⟨4 + h.val, by omega⟩) + a3 (ix1 ⟨4 + h.val, by omega⟩) := by
  unfold A_main_v32 A_main_v31 A_main_v17 A_main_v12 A_main_v11 A_main_v10 A_main_v9 A_main_v8
  pointwise
  exact congrArg (fun y : EReal => y + a3 (ix1 ⟨4 + h.val, by omega⟩)) (at2 a2 (by rw [row_val]; show b.val * 4096 + c.val * 128 + t.val = _; omega) rfl)

theorem mask_entry (t s : Fin 128) : (K_main_v37 (F := Ideal) : IVec S128x128 1) (ix2 t s) = BitVec.ofBool (decide (s ≤ t)) := by
  unfold K_main_v37 K_main_call1_v4 K_main_call1_v2 K_main_call1_v0 K_main_call1_v1 K_main_call1_c K_main_call1_v3 K_main_v36 K_main_c K_main_call1_v5 K_main_call1_c_0
  pointwise
  revert t s
  decide +kernel

/-- The reference's logarithms of the forget gates. -/
theorem l_entry (c : Fin 32) (b : Fin 8) (h : Fin 4) (t : Fin 128) :
    (A_main_v35 (F := Ideal) a0 a1 a2 a3 : FVec Ideal S32x8x4x128 .f32) (ix4 c b h t) = (data a0 a1 a2 a3 b h c).l t := by
  unfold A_main_v35 A_main_v34 A_main_call0_v4 A_main_call0_v6 A_main_call0_v11 A_main_call0_v1 A_main_call0_v10 A_main_call0_v9 A_main_call0_v8 A_main_call0_v7 A_main_call0_v3 A_main_v33 K_main_call0_v5 K_main_call0_v0 K_main_call0_v2 K_main_call0_cst
  pointwise
  rw [f_entry]
  exact (congrArg (fun y : EReal => -y) (if_neg fun h => h rfl)).trans (neg_softplus _)

end Arrays

variable (m : (ℓ : Loc nD τ sig) → Buf (Elt Ideal) ℓ) (c : Dev nD)

/-- The first argument's contents. -/
abbrev arg0 : FVec Ideal S32768x2048 .bf16 := m ((c.tc : Thread nD τ).loc main_arg0)
/-- The second argument's contents. -/
abbrev arg1 : FVec Ideal S32768x12288 .bf16 := m ((c.tc : Thread nD τ).loc main_arg1)
/-- The third argument's contents. -/
abbrev arg2 : FVec Ideal S32768x128 .f32 := m ((c.tc : Thread nD τ).loc main_arg2)
/-- The fourth argument's contents. -/
abbrev arg3 : FVec Ideal S8 .f32 := m ((c.tc : Thread nD τ).loc main_arg3)

set_option maxRecDepth 65536 in
set_option maxHeartbeats 500000 in
/-- What the loop's buffers hold when it is entered, as the reference computes it from its arguments. -/
theorem entry_eq :
    entryContents preI m c (Proc.devRef .tc main_v42_0) = A_main_v20 (F := Ideal) (arg0 m c) (arg1 m c) (arg2 m c) (arg3 m c)
    ∧ entryContents preI m c (Proc.devRef .tc main_v42_1) = A_main_v25 (F := Ideal) (arg0 m c) (arg1 m c) (arg2 m c) (arg3 m c)
    ∧ entryContents preI m c (Proc.devRef .tc main_v42_2) = A_main_v28 (F := Ideal) (arg0 m c) (arg1 m c) (arg2 m c) (arg3 m c)
    ∧ entryContents preI m c (Proc.devRef .tc main_v42_3) = A_main_v30 (F := Ideal) (arg0 m c) (arg1 m c) (arg2 m c) (arg3 m c)
    ∧ entryContents preI m c (Proc.devRef .tc main_v42_4) = A_main_v35 (F := Ideal) (arg0 m c) (arg1 m c) (arg2 m c) (arg3 m c)
    ∧ entryContents preI m c (Proc.devRef .tc main_v42_5) = K_main_v37 (F := Ideal)
    ∧ entryContents preI m c (Proc.devRef .tc main_v42_6) = K_main_c_4 (F := Ideal)
    ∧ entryContents preI m c (Proc.devRef .tc main_v42_7) = K_main_v38 (F := Ideal)
    ∧ entryContents preI m c (Proc.devRef .tc main_v42_8) = K_main_v39 (F := Ideal)
    ∧ entryContents preI m c (Proc.devRef .tc main_v42_9) = K_main_v40 (F := Ideal) := by
  refine ⟨?_, ?_, ?_, ?_, ?_, ?_, ?_, ?_, ?_, ?_⟩ <;>
    (simp only [entryContents, afterL_cons, afterL_nil]; after_reads_simp) <;> rfl

theorem zero_bits : Ideal.ofBits FTy.f32 0x00000000#32 = 0 := by
  simp [Ideal.ofBits, Ideal.ieee]

/-- The loop starts from the arguments' chunks and the zero state. -/
theorem entry_holds : Holds (entryContents preI m c) (data (arg0 m c) (arg1 m c) (arg2 m c) (arg3 m c)) (fun _ _ => St.zero) 0 := by
  obtain ⟨e0, e1, e2, e3, e4, e5, e6, e7, e8, e9⟩ := entry_eq m c
  constructor
  · intro j b h t d; rw [e0]; exact q_entry _ _ _ _ j b h t d
  · intro j b h t d; rw [e1]; exact k_entry _ _ _ _ j b h t d
  · intro j b h t d; rw [e2]; exact v_entry _ _ _ _ j b h t d
  · intro j b h t; rw [e3]; exact i_entry _ _ _ _ j b h t
  · intro j b h t; rw [e4]; exact l_entry _ _ _ _ j b h t
  · intro t s; rw [e5]; exact mask_entry t s
  · rw [e6]; rfl
  · intro b h e d; rw [e7]; exact zero_bits.trans (zero_mul _).symm
  · intro b h d; rw [e8]; exact zero_bits.trans (zero_mul _).symm
  · intro b h; rw [e9]; exact zero_bits

end Cert.ReferenceIdeal.Trip
-- ==== Proof.RefRun.lean ====
module

public import proofs.«01_k».proof.Proof.RefEntry

/-! The reference's result over the extended reals: every chunk of every sequence and head holds what the
    stabilised mLSTM gives out from the state the chunks before it leave. -/

@[expose] public section

set_option maxRecDepth 8192

noncomputable section

namespace Cert.ReferenceIdeal.Trip

open Idealize.ShloMosaic Idealize.ShloMosaic.TcCoe Idealize.SL.Sem
open Cert.ReferenceIdeal Cert.ReferenceIdeal.Gen Cert.ReferenceIdeal.Value Cert.Mlstm

variable {V : Valuation τ sig (Elt Ideal)} {X : Fin 8 → Fin 4 → ℕ → Chunk} {S : Fin 8 → Fin 4 → St} {j : ℕ}

/-- One trip takes the state over one chunk. -/
theorem holds_step (H : Holds V X S j) (hj : j < 32) : Holds (STEP V) X (fun b h => (X b h j).next (S b h)) (j + 1) where
  q := by rw [STEP_main_v42_0]; exact H.q
  k := by rw [STEP_main_v42_1]; exact H.k
  v := by rw [STEP_main_v42_2]; exact H.v
  i := by rw [STEP_main_v42_3]; exact H.i
  l := by rw [STEP_main_v42_4]; exact H.l
  mask := by rw [STEP_main_v42_5]; exact H.mask
  ctr := by
    rw [STEP_main_v42_6]
    exact (congrArg (fun y : BitVec 32 => y + 1#32) H.ctr).trans (BitVec.ofNat_add _ _).symm
  C := by rw [STEP_main_v42_7]; exact C_step H hj
  n := by rw [STEP_main_v42_8]; exact n_step H hj
  m := by rw [STEP_main_v42_9]; exact m_step H hj

/-- One trip writes its chunk of the results and leaves the others. -/
theorem results_step (H : Holds V X S j) (hj : j < 32) (hm : ∀ b h t, (X b h j).mt (S b h) t < ⊤) (r : Fin 32) (b : Fin 8) (h : Fin 4) (t : Fin 128) (e : Fin 512) :
    (STEP V (Proc.devRef .tc main_v42_10) : FVec Ideal S32x8x4x128x512 .f32) (ix5 r b h t e)
      = if r.val = j then (X b h j).out (S b h) t e else (V (Proc.devRef .tc main_v42_10) : FVec Ideal S32x8x4x128x512 .f32) (ix5 r b h t e) := by
  rw [STEP_main_v42_10, step_quot]
  refine (update_at _ _ _ H.ctr hj r b h t e).trans ?_
  rw [quot_apply H hj b h t e (hm b h t)]

variable (H0 : Holds V X (fun _ _ => St.zero) 0) (hX : ∀ b h c, (X b h c).Tame)
include H0

/-- Before trip `k` the buffers hold the state after the first `k` chunks. -/
theorem holds_iter : ∀ k ≤ 32, Holds (STEP^[k] V) X (fun b h => sts (X b h) St.zero k) k
  | 0, _ => H0
  | k + 1, hk => by
    rw [Function.iterate_succ_apply']
    exact holds_step (holds_iter k (by omega)) (by omega)

include hX

/-- Before trip `k` the first `k` chunks of the results are written. -/
theorem results_iter : ∀ k ≤ 32, ∀ (r : Fin 32) (b : Fin 8) (h : Fin 4) (t : Fin 128) (e : Fin 512), r.val < k →
    (STEP^[k] V (Proc.devRef .tc main_v42_10) : FVec Ideal S32x8x4x128x512 .f32) (ix5 r b h t e)
      = (X b h r).out (sts (X b h) St.zero r) t e
  | 0, _ => fun _ _ _ _ _ hr => absurd hr (Nat.not_lt_zero _)
  | k + 1, hk => fun r b h t e hr => by
    rw [Function.iterate_succ_apply']
    refine (results_step (holds_iter H0 k (by omega)) (by omega) (fun b h t => (hX b h k).mt_lt_top (sts_m_lt_top (hX b h) k) t) r b h t e).trans ?_
    by_cases hrk : r.val = k
    · rw [if_pos hrk, hrk]
    · rw [if_neg hrk]
      exact results_iter k (by omega) r b h t e (by omega)

omit H0 hX in
/-- The result array, read at a row and a column. -/
theorem out_read (W : Valuation τ sig (Elt Ideal)) (r : Fin 32768) (e : Fin 2048) :
    (out_main_v46 W : FVec Ideal S32768x2048 .bf16) (ix2 r e)
      = (W (Proc.devRef .tc main_v42_10) : FVec Ideal S32x8x4x128x512 .f32)
          (ix5 ⟨r.val / 128 % 32, by omega⟩ ⟨r.val / 4096, by omega⟩ ⟨e.val / 512, by omega⟩ ⟨r.val % 128, by omega⟩ ⟨e.val % 512, by omega⟩) := by
  unfold out_main_v46
  pointwise

end Cert.ReferenceIdeal.Trip

namespace Cert.ReferenceIdeal.Trip

open Idealize.ShloMosaic Idealize.ShloMosaic.TcCoe Idealize.SL.Sem
open Cert.ReferenceIdeal Cert.ReferenceIdeal.Gen Cert.ReferenceIdeal.Value Cert.Mlstm

/-- The reference's result, element by element. -/
theorem reference_result (m : (ℓ : Loc nD τ sig) → Buf (Elt Ideal) ℓ) (c : Dev nD)
    (hX : ∀ b h k, (data (arg0 m c) (arg1 m c) (arg2 m c) (arg3 m c) b h k).Tame) (r : Fin 32768) (e : Fin 2048) :
    (out_main_v46 (STEP^[32] (Idealize.ShloMosaic.StableHlo.entryContents preI m c)) : FVec Ideal S32768x2048 .bf16) (ix2 r e)
      = result (arg0 m c) (arg1 m c) (arg2 m c) (arg3 m c) r e := by
  rw [out_read]
  exact results_iter (entry_holds m c) hX 32 (le_refl _) _ _ _ _ _ (by show r.val / 128 % 32 < 32; omega)

end Cert.ReferenceIdeal.Trip
-- ==== Proof.MergeSpec.lean ====
module

public import Idealize.ShloMosaic.Lib.Pointwise
public import Idealize.ShloMosaic.Lib.ValueIdx

/-! The merge of a layer over the extended reals, one token at a time: the mLSTM's rows gated and normalised head
    by head, both paths projected and gated, the residual, and the last normalisation. -/

@[expose] public section

noncomputable section

namespace Cert.Merge

open Idealize.ShloMosaic Idealize.SL.Sem

/-- What the merge of one token reads: the output gate `o`, the mLSTM's row `h`, the weights of its norm `g`, the
    other branch `z`; the attention's row `a`, the two paths' gates `gm` and `ga`, the residual `x`, the
    modulation's gate `gate`, the weights of the last norm `fg`; the three matrices. -/
structure Row where
  o : Fin 2048 → EReal
  h : Fin 2048 → EReal
  g : Fin 2048 → EReal
  z : Fin 2048 → EReal
  a : Fin 1024 → EReal
  gm : Fin 1024 → EReal
  ga : Fin 1024 → EReal
  x : Fin 1024 → EReal
  gate : Fin 1024 → EReal
  fg : Fin 1024 → EReal
  wm : Fin 2048 → Fin 1024 → EReal
  wa : Fin 1024 → Fin 1024 → EReal
  wo : Fin 1024 → Fin 1024 → EReal

/-- The number added under the roots. -/
def ε : EReal := Ideal.ofBits .f32 897988541#32

namespace Row

variable (R : Row)

/-- The gated mLSTM row. -/
def oh (e : Fin 2048) : EReal := R.o e * R.h e

/-- The mLSTM's row after its norm over its head of 512, weighted, times the other branch. -/
def hm (e : Fin 2048) : EReal :=
  R.oh e * Ideal.rsqrt (Ideal.div (∑ k : Fin 512, R.oh ⟨512 * (e.val / 512) + k.val, by omega⟩ * R.oh ⟨512 * (e.val / 512) + k.val, by omega⟩)
    (Ideal.ofBits .f32 1140850688#32) + ε) * R.g e * R.z e

/-- Both paths, projected and gated. -/
def mix (d : Fin 1024) : EReal :=
  R.gm d * (∑ k : Fin 2048, R.hm k * R.wm k d) + R.ga d * (∑ k : Fin 1024, R.a k * R.wa k d)

/-- The residual stream after the layer. -/
def res (d : Fin 1024) : EReal := R.x d + R.gate d * (∑ k : Fin 1024, R.mix k * R.wo k d)

/-- Its last normalisation. -/
def out (d : Fin 1024) : EReal :=
  R.res d * Ideal.rsqrt (Ideal.div (∑ k : Fin 1024, R.res k * R.res k) (Ideal.ofBits .f32 1149239296#32) + ε) * R.fg d

end Row

/-- What the arguments hold for token `r`. -/
def row (hh : FVec Ideal (⟨2, ![32768, 2048]⟩ : Shape) .bf16) (ha : FVec Ideal (⟨2, ![32768, 1024]⟩ : Shape) .bf16)
    (proj : FVec Ideal (⟨2, ![32768, 12288]⟩ : Shape) .bf16) (x : FVec Ideal (⟨2, ![32768, 1024]⟩ : Shape) .f32)
    (mod : FVec Ideal (⟨3, ![8, 1, 3072]⟩ : Shape) .f32) (g : FVec Ideal (⟨1, ![2048]⟩ : Shape) .f32)
    (wm : FVec Ideal (⟨3, ![2, 2048, 1024]⟩ : Shape) .bf16) (wa : FVec Ideal (⟨3, ![2, 1024, 1024]⟩ : Shape) .bf16)
    (wo : FVec Ideal (⟨3, ![2, 1024, 1024]⟩ : Shape) .bf16) (fg : FVec Ideal (⟨1, ![1024]⟩ : Shape) .f32) (r : Fin 32768) : Row where
  o e := proj (ix2 r ⟨2048 + e.val, by omega⟩)
  h e := hh (ix2 r e)
  g e := g (ix1 e)
  z e := proj (ix2 r ⟨4096 + e.val, by omega⟩)
  a d := ha (ix2 r d)
  gm d := proj (ix2 r ⟨10240 + d.val, by omega⟩)
  ga d := proj (ix2 r ⟨11264 + d.val, by omega⟩)
  x d := x (ix2 r d)
  gate d := mod (ix3 ⟨r.val / 4096, by omega⟩ 0 ⟨2048 + d.val, by omega⟩)
  fg d := fg (ix1 d)
  wm e d := wm (ix3 1 e d)
  wa e d := wa (ix3 1 e d)
  wo e d := wo (ix3 1 e d)

end Cert.Merge

end
-- ==== Proof.MergeOpen.lean ====
module

public import proofs.«01_k».proof.Proof.Gen.Kernel2Ideal.Value
public import proofs.«01_k».proof.Proof.Canon
public import proofs.«01_k».proof.Proof.MergeSpec

/-! One run of the merge's body: the pieces it stores into its scratch and into its block of the result, and
    what they hold over the extended reals. -/

@[expose] public section

set_option backward.proofsInPublic true
set_option maxRecDepth 16384

noncomputable section

namespace Cert.Kernel2Ideal.Body

open Idealize.ShloMosaic Idealize.SL.Sem Cert.Kernel2Ideal Cert.Kernel2Ideal.Gen Cert.Merge

/-- A load of a rectangle of a whole buffer, at an index given by its coordinates: rank two. -/
theorem readAt_at2 {κ : Kind} {sp : Space} {e : EltTy} {p q a b : ℕ} {M : Memref sig κ sp ⟨2, ![p, q]⟩ e} {hM : M.IsWhole} {X : (⟨2, ![p, q]⟩ : Shape).Idx → Elt Ideal e}
    {off : Fin 2 → ℕ} {inb} {i : Fin p} {j : Fin q} {x : Fin a} {y : Fin b} (h0 : i.val = off 0 + x.val) (h1 : j.val = off 1 + y.val) :
    M.view.readAt (Elt Ideal) (Rect.unit (s := ⟨2, ![p, q]⟩) off ![a, b] inb).toLoadRect (hM.unread X) (ix2 x y) = X (ix2 i j) := by
  rw [View.readAt_eq_ld, hM.read_unread]
  refine congrArg X ?_
  funext k
  match k with
  | ⟨0, _⟩ => exact Fin.ext (by show off 0 + 1 * x.val = i.val; omega)
  | ⟨1, _⟩ => exact Fin.ext (by show off 1 + 1 * y.val = j.val; omega)

/-- A load of a rectangle of a whole buffer, at an index given by its coordinates: rank three. -/
theorem readAt_at3 {κ : Kind} {sp : Space} {e : EltTy} {p q r a b c : ℕ} {M : Memref sig κ sp ⟨3, ![p, q, r]⟩ e} {hM : M.IsWhole} {X : (⟨3, ![p, q, r]⟩ : Shape).Idx → Elt Ideal e}
    {off : Fin 3 → ℕ} {inb} {i : Fin p} {j : Fin q} {k : Fin r} {x : Fin a} {y : Fin b} {z : Fin c}
    (h0 : i.val = off 0 + x.val) (h1 : j.val = off 1 + y.val) (h2 : k.val = off 2 + z.val) :
    M.view.readAt (Elt Ideal) (Rect.unit (s := ⟨3, ![p, q, r]⟩) off ![a, b, c] inb).toLoadRect (hM.unread X) (ix3 x y z) = X (ix3 i j k) := by
  rw [View.readAt_eq_ld, hM.read_unread]
  refine congrArg X ?_
  funext l
  match l with
  | ⟨0, _⟩ => exact Fin.ext (by show off 0 + 1 * x.val = i.val; omega)
  | ⟨1, _⟩ => exact Fin.ext (by show off 1 + 1 * y.val = j.val; omega)
  | ⟨2, _⟩ => exact Fin.ext (by show off 2 + 1 * z.val = k.val; omega)

/-- A load of what the pieces stored so far leave, at an index given by its coordinates. -/
theorem readCov_at2 {κ : Kind} {sp : Space} {e : EltTy} {p q a b : ℕ} {M : Memref sig κ sp ⟨2, ![p, q]⟩ e} {P : List (View.Piece (Elt Ideal) ⟨2, ![p, q]⟩ e)}
    {off : Fin 2 → ℕ} {inb} {i : Fin p} {j : Fin q} {x : Fin a} {y : Fin b} (h0 : i.val = off 0 + x.val) (h1 : j.val = off 1 + y.val) :
    M.view.readCov P (Rect.unit (s := ⟨2, ![p, q]⟩) off ![a, b] inb).toLoadRect (ix2 x y) = View.canon P (ix2 i j) := by
  rw [View.readCov_eq_canon']
  refine congrArg (View.canon P) ?_
  funext l
  match l with
  | ⟨0, _⟩ => exact Fin.ext (by show off 0 + 1 * x.val = i.val; omega)
  | ⟨1, _⟩ => exact Fin.ext (by show off 1 + 1 * y.val = j.val; omega)

/-- The columns of head `h`. -/
abbrev tileR (h : ℕ) : Rect S512x2048 := Rect.unit (s := S512x2048) ![0, 512 * (h % 4)] S512x512.size (by
  intro a
  match a with
  | ⟨0, _⟩ => show 0 + 512 ≤ 512; omega
  | ⟨1, _⟩ => show 512 * (h % 4) + 512 ≤ 2048; omega)

/-- The weights of head `h`. -/
abbrev gR (h : ℕ) : Rect S1x2048 := Rect.unit (s := S1x2048) ![0, 512 * (h % 4)] S1x512.size (by
  intro a
  match a with
  | ⟨0, _⟩ => show 0 + 1 ≤ 1; omega
  | ⟨1, _⟩ => show 512 * (h % 4) + 512 ≤ 2048; omega)

section Run

variable {F : FTy → Type} [FloatOps F]
variable (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S1x1x1024 .f32) (harg9 : arg9.IsWhole) (arg10 : Memref sig .tc .vmem S1x2048x1024 .bf16) (harg10 : arg10.IsWhole) (arg11 : Memref sig .tc .vmem S1x1024x1024 .bf16) (harg11 : arg11.IsWhole) (arg12 : Memref sig .tc .vmem S1x1024x1024 .bf16) (harg12 : arg12.IsWhole) (arg13 : Memref sig .tc .vmem S1x1024 .f32) (harg13 : arg13.IsWhole) (arg14 : Memref sig .tc .vmem S512x1024 .f32) (harg14 : arg14.IsWhole) (arg15 : Memref sig .tc .vmem S512x2048 .bf16) (harg15 : arg15.IsWhole)
    (x0 : Vec F S512x2048 .bf16) (x1 : Vec F S512x2048 .bf16) (x2 : Vec F S512x2048 .bf16) (x3 : Vec F S1x2048 .f32) (x4 : Vec F S512x1024 .bf16) (x5 : Vec F S512x1024 .bf16) (x6 : Vec F S512x1024 .bf16) (x7 : Vec F S512x1024 .f32) (x8 : Vec F S1x1x1024 .f32) (x9 : Vec F S1x2048x1024 .bf16) (x10 : Vec F S1x1024x1024 .bf16) (x11 : Vec F S1x1024x1024 .bf16) (x12 : Vec F S1x1024 .f32)

/-- The rows stored for head `h`. -/
def hmT (h : ℕ) : Vec F S512x512 .bf16 :=
  k0_pay7 (arg2.view.readAt (Elt F) (tileR h).toLoadRect (harg2.unread x1)) (arg1.view.readAt (Elt F) (tileR h).toLoadRect (harg1.unread x0))
    (arg4.view.readAt (Elt F) (gR h).toLoadRect (harg4.unread x3)) (arg3.view.readAt (Elt F) (tileR h).toLoadRect (harg3.unread x2))

/-- The pieces stored into the scratch for the first `k` heads. -/
def spieces : ℕ → List (View.Piece (Elt F) S512x2048 .bf16)
  | 0 => []
  | k + 1 => ⟨tileR k, hmT arg1 harg1 arg2 harg2 arg3 harg3 arg4 harg4 x0 x1 x2 x3 k⟩ :: spieces k

/-- The block stored. -/
def blockT : Vec F S512x1024 .f32 :=
  k0_pay1
    (k0_pay8 (arg15.view.readCov (spieces arg1 harg1 arg2 harg2 arg3 harg3 arg4 harg4 x0 x1 x2 x3 4) (Rect.unit (s := S512x2048) ![0, 0] S512x2048.size inb_S512x2048_S512x2048_0_0).toLoadRect)
      (arg10.view.readAt (Elt F) (Rect.unit (s := S1x2048x1024) ![0, 0, 0] S1x2048x1024.size inb_S1x2048x1024_S1x2048x1024_0_0_0).toLoadRect (harg10.unread x9)))
    (arg5.view.readAt (Elt F) (Rect.unit (s := S512x1024) ![0, 0] S512x1024.size inb_S512x1024_S512x1024_0_0).toLoadRect (harg5.unread x4))
    (k0_pay9 (arg11.view.readAt (Elt F) (Rect.unit (s := S1x1024x1024) ![0, 0, 0] S1x1024x1024.size inb_S1x1024x1024_S1x1024x1024_0_0_0).toLoadRect (harg11.unread x10)))
    (constant S512x1024 .f32 0x00000000#32)
    (arg6.view.readAt (Elt F) (Rect.unit (s := S512x1024) ![0, 0] S512x1024.size inb_S512x1024_S512x1024_0_0).toLoadRect (harg6.unread x5))
    (arg7.view.readAt (Elt F) (Rect.unit (s := S512x1024) ![0, 0] S512x1024.size inb_S512x1024_S512x1024_0_0).toLoadRect (harg7.unread x6))
    (arg12.view.readAt (Elt F) (Rect.unit (s := S1x1024x1024) ![0, 0, 0] S1x1024x1024.size inb_S1x1024x1024_S1x1024x1024_0_0_0).toLoadRect (harg12.unread x11))
    (arg8.view.readAt (Elt F) (Rect.unit (s := S512x1024) ![0, 0] S512x1024.size inb_S512x1024_S512x1024_0_0).toLoadRect (harg8.unread x7))
    (arg9.view.readAt (Elt F) (Rect.unit (s := S1x1x1024) ![0, 0, 0] S1x1x1024.size inb_S1x1x1024_S1x1x1024_0_0_0).toLoadRect (harg9.unread x8))
    (arg13.view.readAt (Elt F) (Rect.unit (s := S1x1024) ![0, 0] S1x1024.size inb_S1x1024_S1x1024_0_0).toLoadRect (harg13.unread x12))

/-- The one piece a run stores into its block of the result. -/
theorem opened : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12).1
    = [⟨Rect.unit (s := S512x1024) ![0, 0] S512x1024.size inb_S512x1024_S512x1024_0_0, blockT arg1 harg1 arg2 harg2 arg3 harg3 arg4 harg4 arg5 harg5 arg6 harg6 arg7 harg7 arg8 harg8 arg9 harg9 arg10 harg10 arg11 harg11 arg12 harg12 arg13 harg13 arg15 x0 x1 x2 x3 x4 x5 x6 x7 x8 x9 x10 x11 x12⟩] := by
  sl_kernel_rfl

/-- What a run leaves in its block of the result. -/
theorem left : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12
    = View.canon [⟨Rect.unit (s := S512x1024) ![0, 0] S512x1024.size inb_S512x1024_S512x1024_0_0, blockT arg1 harg1 arg2 harg2 arg3 harg3 arg4 harg4 arg5 harg5 arg6 harg6 arg7 harg7 arg8 harg8 arg9 harg9 arg10 harg10 arg11 harg11 arg12 harg12 arg13 harg13 arg15 x0 x1 x2 x3 x4 x5 x6 x7 x8 x9 x10 x11 x12⟩] :=
  (View.read_writes_junk_eq_canon _ _).trans (congrArg View.canon (opened c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12))

end Run

end Cert.Kernel2Ideal.Body

end
-- ==== Proof.MergeBlock.lean ====
module

public import proofs.«01_k».proof.Proof.MergeOpen

/-! What one run of the merge's body leaves in its block, over the extended reals: each row the merge of what the
    blocks it read hold for that row. -/

@[expose] public section

set_option backward.proofsInPublic true
set_option maxRecDepth 16384

noncomputable section

namespace Cert.Kernel2Ideal.Body

open Idealize.ShloMosaic Idealize.SL.Sem Cert.Kernel2Ideal Cert.Kernel2Ideal.Gen Cert.Merge
open Cert.KernelIdeal.Body (canon_at2 canon_off2)

/-- The rows a head stores, from the loaded tiles. -/
theorem pay7_apply (o h : Vec Ideal S512x512 .bf16) (g : Vec Ideal S1x512 .f32) (z : Vec Ideal S512x512 .bf16) (t d : Fin 512) :
    (k0_pay7 o h g z : FVec Ideal S512x512 .bf16) (ix2 t d)
      = (o : FVec Ideal S512x512 .bf16) (ix2 t d) * (h : FVec Ideal S512x512 .bf16) (ix2 t d)
        * Ideal.rsqrt (Ideal.div (∑ k : Fin 512, (o : FVec Ideal S512x512 .bf16) (ix2 t k) * (h : FVec Ideal S512x512 .bf16) (ix2 t k)
          * ((o : FVec Ideal S512x512 .bf16) (ix2 t k) * (h : FVec Ideal S512x512 .bf16) (ix2 t k))) (Ideal.ofBits .f32 1140850688#32) + ε)
        * (g : FVec Ideal S1x512 .f32) (ix2 0 d) * (z : FVec Ideal S512x512 .bf16) (ix2 t d) := by
  unfold k0_pay7
  pointwise
  rfl

/-- The mLSTM's rows projected. -/
theorem pay8_apply (s : FVec Ideal S512x2048 .bf16) (w : FVec Ideal S1x2048x1024 .bf16) (t : Fin 512) (d : Fin 1024) :
    (k0_pay8 s w : FVec Ideal S512x1024 .f32) (ix2 t d) = ∑ k : Fin 2048, s (ix2 t k) * w (ix3 0 k d) := by
  unfold k0_pay8
  pointwise

/-- A matrix out of its layer's block. -/
theorem pay9_apply (w : FVec Ideal S1x1024x1024 .bf16) (j d : Fin 1024) :
    (k0_pay9 w : FVec Ideal S1024x1024 .bf16) (ix2 j d) = w (ix3 0 j d) := by
  unfold k0_pay9
  pointwise

/-- The block a run stores, from what it loaded. -/
theorem pay1_apply (ym : FVec Ideal S512x1024 .f32) (a : FVec Ideal S512x1024 .bf16) (wa : FVec Ideal S1024x1024 .bf16)
    (gm ga : FVec Ideal S512x1024 .bf16) (wo : FVec Ideal S1x1024x1024 .bf16) (x : FVec Ideal S512x1024 .f32)
    (gate : FVec Ideal S1x1x1024 .f32) (fg : FVec Ideal S1x1024 .f32) (t : Fin 512) (res : Fin 1024 → EReal)
    (hres : ∀ d, res d = x (ix2 t d) + gate (ix3 0 0 d) * ∑ k : Fin 1024, (gm (ix2 t k) * ym (ix2 t k)
      + ga (ix2 t k) * ∑ l : Fin 1024, a (ix2 t l) * wa (ix2 l k)) * wo (ix3 0 k d)) (d : Fin 1024) :
    (k0_pay1 ym a wa (constant S512x1024 .f32 0x00000000#32) gm ga wo x gate fg : FVec Ideal S512x1024 .f32) (ix2 t d)
      = res d * Ideal.rsqrt (Ideal.div (∑ k : Fin 1024, res k * res k) (Ideal.ofBits .f32 1149239296#32) + ε) * fg (ix2 0 d) := by
  unfold k0_pay1
  pointwise
  simp only [hres]
  rfl

section Run

variable (c : Dev nD) (i : grid0.Coords) (arg1 : Memref sig .tc .vmem S512x2048 .bf16) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S1x1x1024 .f32) (harg9 : arg9.IsWhole) (arg10 : Memref sig .tc .vmem S1x2048x1024 .bf16) (harg10 : arg10.IsWhole) (arg11 : Memref sig .tc .vmem S1x1024x1024 .bf16) (harg11 : arg11.IsWhole) (arg12 : Memref sig .tc .vmem S1x1024x1024 .bf16) (harg12 : arg12.IsWhole) (arg13 : Memref sig .tc .vmem S1x1024 .f32) (harg13 : arg13.IsWhole) (arg14 : Memref sig .tc .vmem S512x1024 .f32) (harg14 : arg14.IsWhole) (arg15 : Memref sig .tc .vmem S512x2048 .bf16) (harg15 : arg15.IsWhole)
    (x0 : Vec Ideal S512x2048 .bf16) (x1 : Vec Ideal S512x2048 .bf16) (x2 : Vec Ideal S512x2048 .bf16) (x3 : Vec Ideal S1x2048 .f32) (x4 : Vec Ideal S512x1024 .bf16) (x5 : Vec Ideal S512x1024 .bf16) (x6 : Vec Ideal S512x1024 .bf16) (x7 : Vec Ideal S512x1024 .f32) (x8 : Vec Ideal S1x1x1024 .f32) (x9 : Vec Ideal S1x2048x1024 .bf16) (x10 : Vec Ideal S1x1024x1024 .bf16) (x11 : Vec Ideal S1x1024x1024 .bf16) (x12 : Vec Ideal S1x1024 .f32)

/-- What the blocks hold for row `t`. -/
def blockRow (t : Fin 512) : Row where
  o e := (x1 : FVec Ideal S512x2048 .bf16) (ix2 t e)
  h e := (x0 : FVec Ideal S512x2048 .bf16) (ix2 t e)
  g e := (x3 : FVec Ideal S1x2048 .f32) (ix2 0 e)
  z e := (x2 : FVec Ideal S512x2048 .bf16) (ix2 t e)
  a d := (x4 : FVec Ideal S512x1024 .bf16) (ix2 t d)
  gm d := (x5 : FVec Ideal S512x1024 .bf16) (ix2 t d)
  ga d := (x6 : FVec Ideal S512x1024 .bf16) (ix2 t d)
  x d := (x7 : FVec Ideal S512x1024 .f32) (ix2 t d)
  gate d := (x8 : FVec Ideal S1x1x1024 .f32) (ix3 0 0 d)
  fg d := (x12 : FVec Ideal S1x1024 .f32) (ix2 0 d)
  wm e d := (x9 : FVec Ideal S1x2048x1024 .bf16) (ix3 0 e d)
  wa e d := (x10 : FVec Ideal S1x1024x1024 .bf16) (ix3 0 e d)
  wo e d := (x11 : FVec Ideal S1x1024x1024 .bf16) (ix3 0 e d)

/-- The rows stored for a head. -/
theorem hmT_apply (h : Fin 4) (t d : Fin 512) :
    (hmT arg1 harg1 arg2 harg2 arg3 harg3 arg4 harg4 x0 x1 x2 x3 h.val : FVec Ideal S512x512 .bf16) (ix2 t d) = (blockRow x0 x1 x2 x3 x4 x5 x6 x7 x8 x9 x10 x11 x12 t).hm ⟨512 * h.val + d.val, by omega⟩ := by
  have r2 : ∀ (M : Memref sig .tc .vmem S512x2048 .bf16) (hM : M.IsWhole) (Y : Vec Ideal S512x2048 .bf16) (j : Fin 512),
      M.view.readAt (Elt Ideal) (tileR h.val).toLoadRect (hM.unread Y) (ix2 t j) = Y (ix2 t ⟨512 * h.val + j.val, by omega⟩) := fun M hM Y j =>
    readAt_at2 (a := 512) (b := 512) (by show t.val = 0 + t.val; omega) (by show 512 * h.val + j.val = 512 * (h.val % 4) + j.val; omega)
  have rg : arg4.view.readAt (Elt Ideal) (gR h.val).toLoadRect (harg4.unread x3) (ix2 0 d) = x3 (ix2 0 ⟨512 * h.val + d.val, by omega⟩) :=
    readAt_at2 (a := 1) (b := 512) rfl (by show 512 * h.val + d.val = 512 * (h.val % 4) + d.val; omega)
  unfold hmT
  refine (pay7_apply _ _ _ _ t d).trans ?_
  rw [rg]
  simp only [r2]
  unfold Row.hm
  have hh : (512 * h.val + d.val) / 512 = h.val := by omega
  simp only [hh]
  rfl

/-- The scratch after the first `k` heads. -/
theorem scratch_canon (t : Fin 512) (e : Fin 2048) : ∀ k ≤ 4, e.val / 512 < k →
    (View.canon (spieces arg1 harg1 arg2 harg2 arg3 harg3 arg4 harg4 x0 x1 x2 x3 k) (ix2 t e) : EReal) = (blockRow x0 x1 x2 x3 x4 x5 x6 x7 x8 x9 x10 x11 x12 t).hm e
  | 0, _, h => absurd h (by omega)
  | k + 1, hk, h => by
    by_cases hh : e.val / 512 = k
    · refine (canon_at2 (a := 512) (b := 512) t ⟨e.val % 512, by omega⟩ (by show t.val = 0 + t.val; omega) (by show e.val = 512 * (k % 4) + e.val % 512; omega)).trans ?_
      refine (hmT_apply arg1 harg1 arg2 harg2 arg3 harg3 arg4 harg4 x0 x1 x2 x3 x4 x5 x6 x7 x8 x9 x10 x11 x12 ⟨k, by omega⟩ t ⟨e.val % 512, by omega⟩).trans ?_
      exact congrArg (blockRow x0 x1 x2 x3 x4 x5 x6 x7 x8 x9 x10 x11 x12 t).hm (Fin.ext (by show 512 * k + e.val % 512 = e.val; omega))
    · refine (canon_off2 (a := 512) (b := 512) ?_).trans (scratch_canon t e k (by omega) (by omega))
      rintro ⟨-, -, h0, h1⟩
      have h0' : 512 * (k % 4) ≤ e.val := h0
      have h1' : e.val < 512 * (k % 4) + 512 := h1
      omega

/-- What a run leaves in its block of the result. -/
theorem left_apply (t : Fin 512) (d : Fin 1024) :
    (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 : FVec Ideal S512x1024 .f32) (ix2 t d) = (blockRow x0 x1 x2 x3 x4 x5 x6 x7 x8 x9 x10 x11 x12 t).out d := by
  rw [left]
  refine (canon_at2 (a := 512) (b := 1024) t d (by show t.val = 0 + t.val; omega) (by show d.val = 0 + d.val; omega)).trans ?_
  have rb : ∀ (M : Memref sig .tc .vmem S512x1024 .bf16) (hM : M.IsWhole) (Y : Vec Ideal S512x1024 .bf16) (j : Fin 1024),
      M.view.readAt (Elt Ideal) (Rect.unit (s := S512x1024) ![0, 0] S512x1024.size inb_S512x1024_S512x1024_0_0).toLoadRect (hM.unread Y) (ix2 t j) = Y (ix2 t j) := fun M hM Y j =>
    readAt_at2 (a := 512) (b := 1024) (by show t.val = 0 + t.val; omega) (by show j.val = 0 + j.val; omega)
  have rx : ∀ j : Fin 1024,
      arg8.view.readAt (Elt Ideal) (Rect.unit (s := S512x1024) ![0, 0] S512x1024.size inb_S512x1024_S512x1024_0_0).toLoadRect (harg8.unread x7) (ix2 t j) = x7 (ix2 t j) := fun j =>
    readAt_at2 (a := 512) (b := 1024) (by show t.val = 0 + t.val; omega) (by show j.val = 0 + j.val; omega)
  have rf : ∀ j : Fin 1024,
      arg13.view.readAt (Elt Ideal) (Rect.unit (s := S1x1024) ![0, 0] S1x1024.size inb_S1x1024_S1x1024_0_0).toLoadRect (harg13.unread x12) (ix2 0 j) = x12 (ix2 0 j) := fun j =>
    readAt_at2 (a := 1) (b := 1024) rfl (by show j.val = 0 + j.val; omega)
  have rgate : ∀ j : Fin 1024,
      arg9.view.readAt (Elt Ideal) (Rect.unit (s := S1x1x1024) ![0, 0, 0] S1x1x1024.size inb_S1x1x1024_S1x1x1024_0_0_0).toLoadRect (harg9.unread x8) (ix3 0 0 j) = x8 (ix3 0 0 j) := fun j =>
    readAt_at3 (a := 1) (b := 1) (c := 1024) rfl rfl (by show j.val = 0 + j.val; omega)
  have rm : ∀ (k : Fin 2048) (j : Fin 1024),
      arg10.view.readAt (Elt Ideal) (Rect.unit (s := S1x2048x1024) ![0, 0, 0] S1x2048x1024.size inb_S1x2048x1024_S1x2048x1024_0_0_0).toLoadRect (harg10.unread x9) (ix3 0 k j) = x9 (ix3 0 k j) := fun k j =>
    readAt_at3 (a := 1) (b := 2048) (c := 1024) rfl (by show k.val = 0 + k.val; omega) (by show j.val = 0 + j.val; omega)
  have rw' : ∀ (M : Memref sig .tc .vmem S1x1024x1024 .bf16) (hM : M.IsWhole) (Y : Vec Ideal S1x1024x1024 .bf16) (k j : Fin 1024),
      M.view.readAt (Elt Ideal) (Rect.unit (s := S1x1024x1024) ![0, 0, 0] S1x1024x1024.size inb_S1x1024x1024_S1x1024x1024_0_0_0).toLoadRect (hM.unread Y) (ix3 0 k j) = Y (ix3 0 k j) := fun M hM Y k j =>
    readAt_at3 (a := 1) (b := 1024) (c := 1024) rfl (by show k.val = 0 + k.val; omega) (by show j.val = 0 + j.val; omega)
  have rs : ∀ e : Fin 2048,
      (arg15.view.readCov (spieces arg1 harg1 arg2 harg2 arg3 harg3 arg4 harg4 x0 x1 x2 x3 4) (Rect.unit (s := S512x2048) ![0, 0] S512x2048.size inb_S512x2048_S512x2048_0_0).toLoadRect (ix2 t e) : EReal) = (blockRow x0 x1 x2 x3 x4 x5 x6 x7 x8 x9 x10 x11 x12 t).hm e := fun e =>
    (readCov_at2 (a := 512) (b := 2048) (by show t.val = 0 + t.val; omega) (by show e.val = 0 + e.val; omega)).trans
      (scratch_canon arg1 harg1 arg2 harg2 arg3 harg3 arg4 harg4 x0 x1 x2 x3 x4 x5 x6 x7 x8 x9 x10 x11 x12 t e 4 (le_refl _) (by omega))
  unfold blockT
  refine (pay1_apply _ _ _ _ _ _ _ _ _ t (blockRow x0 x1 x2 x3 x4 x5 x6 x7 x8 x9 x10 x11 x12 t).res ?_ d).trans ?_
  · intro j
    simp only [pay8_apply, pay9_apply, rb, rx, rgate, rm, rw', rs]
    rfl
  · rw [rf]
    rfl

end Run

end Cert.Kernel2Ideal.Body

end
-- ==== Proof.MergeGrid.lean ====
module

public import proofs.«01_k».proof.Proof.MergeBlock
public import Idealize.ShloMosaic.Lib.StableHlo.RunRead

/-! The merge's result over the extended reals: every point writes the merge of its own 512 tokens. -/

@[expose] public section

set_option backward.proofsInPublic true
set_option maxRecDepth 16384

noncomputable section

namespace Cert.Kernel2Ideal.Grid

open Idealize.ShloMosaic Idealize.ShloMosaic.TcCoe Idealize.SL.Sem Idealize.ShloMosaic.StableHlo
open Cert.Kernel2Ideal Cert.Kernel2Ideal.Gen Cert.Kernel2Ideal.Value Cert.Kernel2Ideal.Body Cert.Merge

variable (m : (ℓ : Loc nD τ sig) → Buf (Elt Ideal) ℓ) (c : Dev nD)

/-- The arguments' contents. -/
abbrev arg0 : FVec Ideal S32768x2048 .bf16 := m ((c.tc : Thread nD τ).loc main_arg0)
abbrev arg1 : FVec Ideal S32768x1024 .bf16 := m ((c.tc : Thread nD τ).loc main_arg1)
abbrev arg2 : FVec Ideal S32768x12288 .bf16 := m ((c.tc : Thread nD τ).loc main_arg2)
abbrev arg3 : FVec Ideal S32768x1024 .f32 := m ((c.tc : Thread nD τ).loc main_arg3)
abbrev arg4 : FVec Ideal S8x1x3072 .f32 := m ((c.tc : Thread nD τ).loc main_arg4)
abbrev arg5 : FVec Ideal S2048 .f32 := m ((c.tc : Thread nD τ).loc main_arg5)
abbrev arg6 : FVec Ideal S2x2048x1024 .bf16 := m ((c.tc : Thread nD τ).loc main_arg6)
abbrev arg7 : FVec Ideal S2x1024x1024 .bf16 := m ((c.tc : Thread nD τ).loc main_arg7)
abbrev arg8 : FVec Ideal S2x1024x1024 .bf16 := m ((c.tc : Thread nD τ).loc main_arg8)
abbrev arg9 : FVec Ideal S1024 .f32 := m ((c.tc : Thread nD τ).loc main_arg9)

/-- The blocks' rows and columns that move with the point, decided over the grid. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 1)
    ∧ (win0_2.index t (0 : Fin 2) = t.val ∧ win0_2.index t (1 : Fin 2) = 2)
    ∧ (win0_4.index t (0 : Fin 2) = t.val ∧ win0_4.index t (1 : Fin 2) = 0)
    ∧ (win0_5.index t (0 : Fin 2) = t.val ∧ win0_5.index t (1 : Fin 2) = 10)
    ∧ (win0_6.index t (0 : Fin 2) = t.val ∧ win0_6.index t (1 : Fin 2) = 11)
    ∧ (win0_7.index t (0 : Fin 2) = t.val ∧ win0_7.index t (1 : Fin 2) = 0)
    ∧ (win0_13.index t (0 : Fin 2) = t.val ∧ win0_13.index t (1 : Fin 2) = 0) :=
  (by decide +kernel : ∀ t : Fin grid0.N, _)

/-- The other blocks' places, decided over the grid. -/
theorem index_facts' : ∀ t : Fin cfg0.N,
    (win0_3.index t (0 : Fin 2) = 0 ∧ win0_3.index t (1 : Fin 2) = 0)
    ∧ (win0_8.index t (0 : Fin 3) = t.val / 8 ∧ win0_8.index t (1 : Fin 3) = 0 ∧ win0_8.index t (2 : Fin 3) = 2)
    ∧ (win0_9.index t (0 : Fin 3) = 1 ∧ win0_9.index t (1 : Fin 3) = 0 ∧ win0_9.index t (2 : Fin 3) = 0)
    ∧ (win0_10.index t (0 : Fin 3) = 1 ∧ win0_10.index t (1 : Fin 3) = 0 ∧ win0_10.index t (2 : Fin 3) = 0)
    ∧ (win0_11.index t (0 : Fin 3) = 1 ∧ win0_11.index t (1 : Fin 3) = 0 ∧ win0_11.index t (2 : Fin 3) = 0)
    ∧ (win0_12.index t (0 : Fin 2) = 0 ∧ win0_12.index t (1 : Fin 2) = 0) :=
  (by decide +kernel : ∀ t : Fin grid0.N, _)

/-- An index of two axes, given by its coordinates. -/
theorem eq_ix2 {p q : ℕ} {x : (⟨2, ![p, q]⟩ : Shape).Idx} {i : Fin p} {j : Fin q} (h0 : (x 0).val = i.val) (h1 : (x 1).val = j.val) : x = ix2 i j := by
  funext a
  match a with
  | ⟨0, _⟩ => exact Fin.ext h0
  | ⟨1, _⟩ => exact Fin.ext h1

/-- An index of three axes, given by its coordinates. -/
theorem eq_ix3 {p q r : ℕ} {x : (⟨3, ![p, q, r]⟩ : Shape).Idx} {i : Fin p} {j : Fin q} {k : Fin r} (h0 : (x 0).val = i.val) (h1 : (x 1).val = j.val)
    (h2 : (x 2).val = k.val) : x = ix3 i j k := by
  funext a
  match a with
  | ⟨0, _⟩ => exact Fin.ext h0
  | ⟨1, _⟩ => exact Fin.ext h1
  | ⟨2, _⟩ => exact Fin.ext h2

theorem tlt (t : Fin cfg0.N) : t.val < 64 := lt_of_lt_of_eq t.isLt N_0

/-- The block of the mLSTM's rows at a point. -/
theorem iblk0 (t : Fin cfg0.N) (r : Fin 512) (e : Fin 2048) :
    (iblk m c 0 t : Vec Ideal S512x2048 .bf16) (ix2 r e) = arg0 m c (ix2 ⟨512 * t.val + r.val, by have := tlt t; omega⟩ ⟨0 + e.val, by omega⟩) := by
  obtain ⟨⟨e0, e1⟩, -⟩ := index_facts t
  exact (congrFun (V_main_arg0 m c) _).trans (congrArg (arg0 m c) (eq_ix2
    (by show win0_0.index t (0 : Fin 2) * 512 + 1 * r.val = 512 * t.val + r.val; omega)
    (by show win0_0.index t (1 : Fin 2) * 2048 + 1 * e.val = 0 + e.val; omega)))

/-- The block of output gates at a point. -/
theorem iblk1 (t : Fin cfg0.N) (r : Fin 512) (e : Fin 2048) :
    (iblk m c 1 t : Vec Ideal S512x2048 .bf16) (ix2 r e) = arg2 m c (ix2 ⟨512 * t.val + r.val, by have := tlt t; omega⟩ ⟨2048 + e.val, by omega⟩) := by
  obtain ⟨-, ⟨e0, e1⟩, -⟩ := index_facts t
  exact (congrFun (V_main_arg2 m c) _).trans (congrArg (arg2 m c) (eq_ix2
    (by show win0_1.index t (0 : Fin 2) * 512 + 1 * r.val = 512 * t.val + r.val; omega)
    (by show win0_1.index t (1 : Fin 2) * 2048 + 1 * e.val = 2048 + e.val; omega)))

/-- The block of the other branch at a point. -/
theorem iblk2 (t : Fin cfg0.N) (r : Fin 512) (e : Fin 2048) :
    (iblk m c 2 t : Vec Ideal S512x2048 .bf16) (ix2 r e) = arg2 m c (ix2 ⟨512 * t.val + r.val, by have := tlt t; omega⟩ ⟨4096 + e.val, by omega⟩) := by
  obtain ⟨-, -, ⟨e0, e1⟩, -⟩ := index_facts t
  exact (congrFun (V_main_arg2 m c) _).trans (congrArg (arg2 m c) (eq_ix2
    (by show win0_2.index t (0 : Fin 2) * 512 + 1 * r.val = 512 * t.val + r.val; omega)
    (by show win0_2.index t (1 : Fin 2) * 2048 + 1 * e.val = 4096 + e.val; omega)))

/-- The block of the attention's rows at a point. -/
theorem iblk4 (t : Fin cfg0.N) (r : Fin 512) (e : Fin 1024) :
    (iblk m c 4 t : Vec Ideal S512x1024 .bf16) (ix2 r e) = arg1 m c (ix2 ⟨512 * t.val + r.val, by have := tlt t; omega⟩ ⟨0 + e.val, by omega⟩) := by
  obtain ⟨-, -, -, ⟨e0, e1⟩, -⟩ := index_facts t
  exact (congrFun (V_main_arg1 m c) _).trans (congrArg (arg1 m c) (eq_ix2
    (by show win0_4.index t (0 : Fin 2) * 512 + 1 * r.val = 512 * t.val + r.val; omega)
    (by show win0_4.index t (1 : Fin 2) * 1024 + 1 * e.val = 0 + e.val; omega)))

/-- The block of the first path's gates at a point. -/
theorem iblk5 (t : Fin cfg0.N) (r : Fin 512) (e : Fin 1024) :
    (iblk m c 5 t : Vec Ideal S512x1024 .bf16) (ix2 r e) = arg2 m c (ix2 ⟨512 * t.val + r.val, by have := tlt t; omega⟩ ⟨10240 + e.val, by omega⟩) := by
  obtain ⟨-, -, -, -, ⟨e0, e1⟩, -⟩ := index_facts t
  exact (congrFun (V_main_arg2 m c) _).trans (congrArg (arg2 m c) (eq_ix2
    (by show win0_5.index t (0 : Fin 2) * 512 + 1 * r.val = 512 * t.val + r.val; omega)
    (by show win0_5.index t (1 : Fin 2) * 1024 + 1 * e.val = 10240 + e.val; omega)))

/-- The block of the second path's gates at a point. -/
theorem iblk6 (t : Fin cfg0.N) (r : Fin 512) (e : Fin 1024) :
    (iblk m c 6 t : Vec Ideal S512x1024 .bf16) (ix2 r e) = arg2 m c (ix2 ⟨512 * t.val + r.val, by have := tlt t; omega⟩ ⟨11264 + e.val, by omega⟩) := by
  obtain ⟨-, -, -, -, -, ⟨e0, e1⟩, -⟩ := index_facts t
  exact (congrFun (V_main_arg2 m c) _).trans (congrArg (arg2 m c) (eq_ix2
    (by show win0_6.index t (0 : Fin 2) * 512 + 1 * r.val = 512 * t.val + r.val; omega)
    (by show win0_6.index t (1 : Fin 2) * 1024 + 1 * e.val = 11264 + e.val; omega)))

/-- The block of the residual stream at a point. -/
theorem iblk7 (t : Fin cfg0.N) (r : Fin 512) (e : Fin 1024) :
    (iblk m c 7 t : Vec Ideal S512x1024 .f32) (ix2 r e) = arg3 m c (ix2 ⟨512 * t.val + r.val, by have := tlt t; omega⟩ ⟨0 + e.val, by omega⟩) := by
  obtain ⟨-, -, -, -, -, -, ⟨e0, e1⟩, -⟩ := index_facts t
  exact (congrFun (V_main_arg3 m c) _).trans (congrArg (arg3 m c) (eq_ix2
    (by show win0_7.index t (0 : Fin 2) * 512 + 1 * r.val = 512 * t.val + r.val; omega)
    (by show win0_7.index t (1 : Fin 2) * 1024 + 1 * e.val = 0 + e.val; omega)))

/-- The norm's weights as the host lays them out. -/
theorem host3 (e : Fin 2048) : (V m c main_v0 : Vec Ideal S1x2048 .f32) (ix2 0 e) = arg5 m c (ix1 e) := by
  have h : (V m c main_v0 : FVec Ideal S1x2048 .f32) = shapeCast _ (arg5 m c) shapeCasts_S2048_S1x2048 := by
    after_reads_simp
    rfl
  rw [h]
  pointwise

/-- The block of the norm's weights at a point. -/
theorem iblk3 (t : Fin cfg0.N) (e : Fin 2048) : (iblk m c 3 t : Vec Ideal S1x2048 .f32) (ix2 0 e) = arg5 m c (ix1 e) := by
  obtain ⟨⟨e0, e1⟩, -⟩ := index_facts' t
  exact (congrArg (V m c main_v0 : Vec Ideal S1x2048 .f32) (eq_ix2
    (by show win0_3.index t (0 : Fin 2) * 1 + 1 * 0 = 0; omega)
    (by show win0_3.index t (1 : Fin 2) * 2048 + 1 * e.val = e.val; omega))).trans (host3 m c e)

/-- The norm's weights as the host lays them out. -/
theorem host12 (e : Fin 1024) : (V m c main_v1 : Vec Ideal S1x1024 .f32) (ix2 0 e) = arg9 m c (ix1 e) := by
  have h : (V m c main_v1 : FVec Ideal S1x1024 .f32) = shapeCast _ (arg9 m c) shapeCasts_S1024_S1x1024 := by
    after_reads_simp
    rfl
  rw [h]
  pointwise

/-- The block of the norm's weights at a point. -/
theorem iblk12 (t : Fin cfg0.N) (e : Fin 1024) : (iblk m c 12 t : Vec Ideal S1x1024 .f32) (ix2 0 e) = arg9 m c (ix1 e) := by
  obtain ⟨-, -, -, -, -, e0, e1⟩ := index_facts' t
  exact (congrArg (V m c main_v1 : Vec Ideal S1x1024 .f32) (eq_ix2
    (by show win0_12.index t (0 : Fin 2) * 1 + 1 * 0 = 0; omega)
    (by show win0_12.index t (1 : Fin 2) * 1024 + 1 * e.val = e.val; omega))).trans (host12 m c e)

/-- The block of the modulation's gates at a point. -/
theorem iblk8 (t : Fin cfg0.N) (d : Fin 1024) :
    (iblk m c 8 t : Vec Ideal S1x1x1024 .f32) (ix3 0 0 d) = arg4 m c (ix3 ⟨t.val / 8, by have := tlt t; omega⟩ 0 ⟨2048 + d.val, by omega⟩) := by
  obtain ⟨-, ⟨e0, e1, e2⟩, -⟩ := index_facts' t
  exact (congrFun (V_main_arg4 m c) _).trans (congrArg (arg4 m c) (eq_ix3
    (by show win0_8.index t (0 : Fin 3) * 1 + 1 * 0 = t.val / 8; omega)
    (by show win0_8.index t (1 : Fin 3) * 1 + 1 * 0 = 0; omega)
    (by show win0_8.index t (2 : Fin 3) * 1024 + 1 * d.val = 2048 + d.val; omega)))

/-- The block of the layer's matrix at a point. -/
theorem iblk9 (t : Fin cfg0.N) (k : Fin 2048) (d : Fin 1024) :
    (iblk m c 9 t : Vec Ideal S1x2048x1024 .bf16) (ix3 0 k d) = arg6 m c (ix3 1 k d) := by
  obtain ⟨-, -, ⟨e0, e1, e2⟩, -⟩ := index_facts' t
  exact (congrFun (V_main_arg6 m c) _).trans (congrArg (arg6 m c) (eq_ix3
    (by show win0_9.index t (0 : Fin 3) * 1 + 1 * 0 = 1; omega)
    (by show win0_9.index t (1 : Fin 3) * 2048 + 1 * k.val = k.val; omega)
    (by show win0_9.index t (2 : Fin 3) * 1024 + 1 * d.val = d.val; omega)))

/-- The block of the layer's matrix at a point. -/
theorem iblk10 (t : Fin cfg0.N) (k : Fin 1024) (d : Fin 1024) :
    (iblk m c 10 t : Vec Ideal S1x1024x1024 .bf16) (ix3 0 k d) = arg7 m c (ix3 1 k d) := by
  obtain ⟨-, -, -, ⟨e0, e1, e2⟩, -⟩ := index_facts' t
  exact (congrFun (V_main_arg7 m c) _).trans (congrArg (arg7 m c) (eq_ix3
    (by show win0_10.index t (0 : Fin 3) * 1 + 1 * 0 = 1; omega)
    (by show win0_10.index t (1 : Fin 3) * 1024 + 1 * k.val = k.val; omega)
    (by show win0_10.index t (2 : Fin 3) * 1024 + 1 * d.val = d.val; omega)))

/-- The block of the layer's matrix at a point. -/
theorem iblk11 (t : Fin cfg0.N) (k : Fin 1024) (d : Fin 1024) :
    (iblk m c 11 t : Vec Ideal S1x1024x1024 .bf16) (ix3 0 k d) = arg8 m c (ix3 1 k d) := by
  obtain ⟨-, -, -, -, ⟨e0, e1, e2⟩, -⟩ := index_facts' t
  exact (congrFun (V_main_arg8 m c) _).trans (congrArg (arg8 m c) (eq_ix3
    (by show win0_11.index t (0 : Fin 3) * 1 + 1 * 0 = 1; omega)
    (by show win0_11.index t (1 : Fin 3) * 1024 + 1 * k.val = k.val; omega)
    (by show win0_11.index t (2 : Fin 3) * 1024 + 1 * d.val = d.val; omega)))

/-- What the blocks of a point hold for its row `r`. -/
theorem blockRow_eq (t : Fin cfg0.N) (r : Fin 512) : blockRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r
    = row (arg0 m c) (arg1 m c) (arg2 m c) (arg3 m c) (arg4 m c) (arg5 m c) (arg6 m c) (arg7 m c) (arg8 m c) (arg9 m c) ⟨512 * t.val + r.val, by have := tlt t; omega⟩ := by
  have ht := tlt t
  unfold blockRow row
  congr 1
  · funext e; exact iblk1 m c t r e
  · funext e
    refine (iblk0 m c t r e).trans (congrArg (fun y : Fin 2048 => arg0 m c (ix2 _ y)) (Fin.ext (by show 0 + e.val = e.val; omega)))
  · funext e; exact iblk3 m c t e
  · funext e; exact iblk2 m c t r e
  · funext d
    refine (iblk4 m c t r d).trans (congrArg (fun y : Fin 1024 => arg1 m c (ix2 _ y)) (Fin.ext (by show 0 + d.val = d.val; omega)))
  · funext d; exact iblk5 m c t r d
  · funext d; exact iblk6 m c t r d
  · funext d
    refine (iblk7 m c t r d).trans (congrArg (fun y : Fin 1024 => arg3 m c (ix2 _ y)) (Fin.ext (by show 0 + d.val = d.val; omega)))
  · funext d
    refine (iblk8 m c t d).trans (congrArg (fun y : Fin 8 => arg4 m c (ix3 y 0 _)) (Fin.ext (by show t.val / 8 = (512 * t.val + r.val) / 4096; omega)))
  · funext d; exact iblk12 m c t d
  · funext k d; exact iblk9 m c t k d
  · funext k d; exact iblk10 m c t k d
  · funext k d; exact iblk11 m c t k d

/-- The merge's result, element by element. -/
theorem kernel_result (r : Fin 32768) (d : Fin 1024) : ((dats m 0 c).arrAt 13 cfg0.N : FVec Ideal S32768x1024 .f32) (ix2 r d)
    = (row (arg0 m c) (arg1 m c) (arg2 m c) (arg3 m c) (arg4 m c) (arg5 m c) (arg6 m c) (arg7 m c) (arg8 m c) (arg9 m c) r).out d := by
  have hN : r.val / 512 < cfg0.N := lt_of_lt_of_eq (by omega : r.val / 512 < 64) N_0.symm
  let t : Fin cfg0.N := ⟨r.val / 512, hN⟩
  obtain ⟨-, -, -, -, -, -, -, e0, e1⟩ := index_facts t
  have hi : (ix2 r d : S32768x1024.Idx) = ((cfg0.win 13).blk t).view.emb (ix2 ⟨r.val % 512, by omega⟩ d) := by
    funext x
    match x with
    | ⟨0, _⟩ => exact Fin.ext (by show r.val = win0_13.index t (0 : Fin 2) * 512 + 1 * (r.val % 512); rw [e0]; show r.val = r.val / 512 * 512 + 1 * (r.val % 512); omega)
    | ⟨1, _⟩ => exact Fin.ext (by show d.val = win0_13.index t (1 : Fin 2) * 1024 + 1 * d.val; omega)
  rw [hi]
  refine (congrFun (blocks13 m c t (flush0_13 t)) (ix2 ⟨r.val % 512, by omega⟩ d)).trans ?_
  rw [flushed13_A]
  refine (left_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ⟨r.val % 512, by omega⟩ d).trans ?_
  rw [blockRow_eq]
  exact congrArg (fun y : Fin 32768 => (row (arg0 m c) (arg1 m c) (arg2 m c) (arg3 m c) (arg4 m c) (arg5 m c) (arg6 m c) (arg7 m c) (arg8 m c) (arg9 m c) y).out d) (Fin.ext (by show 512 * (r.val / 512) + r.val % 512 = r.val; omega))

end Cert.Kernel2Ideal.Grid

end
-- ==== Proof.MergeRef.lean ====
module

public import proofs.«01_k».proof.Proof.Gen.Reference2Ideal.Run
public import proofs.«01_k».proof.Proof.MergeSpec

/-! The merge's reference over the extended reals, element by element. -/

@[expose] public section

set_option maxRecDepth 16384

noncomputable section

namespace Cert.Reference2Ideal.Body

open Idealize.ShloMosaic Idealize.ShloMosaic.TcCoe Idealize.SL.Sem Idealize.ShloMosaic.StableHlo
open Cert.Reference2Ideal Cert.Reference2Ideal.Gen Cert.Merge

/-- The gated rows of the mLSTM, head by head. -/
def ohA (a0 : FVec Ideal S32768x2048 .bf16) (a2 : FVec Ideal S32768x12288 .bf16) : FVec Ideal S8x4096x4x512 .f32 :=
  shapeCast _ (mulf (extractStridedSlice S8x4096x2048 ![0, 0, 2048] (shapeCast _ (extf .f32 a2 bitsLt_bf16_f32) shapeCasts_S32768x12288_S8x4096x12288) slices_S8x4096x12288_S8x4096x2048_0_0_2048) (shapeCast _ (extf .f32 a0 bitsLt_bf16_f32) shapeCasts_S32768x2048_S8x4096x2048)) shapeCasts_S8x4096x2048_S8x4096x4x512

/-- Their norm, weighted, times the other branch. -/
def hmA (v13 : FVec Ideal S8x4096x4x512 .f32) (a2 : FVec Ideal S32768x12288 .bf16) (a5 : FVec Ideal S2048 .f32) : FVec Ideal S8x4096x2048 .f32 :=
  mulf (mulf (shapeCast _ (mulf v13 (broadcastInDim S8x4096x4x512 ![0, 1, 2, 3] bcast_S8x4096x4x1_S8x4096x4x512_0_1_2_3 (Host.rsqrt (addf (Host.divf (broadcastInDim S8x4096x4x1 ![0, 1, 2] bcast_S8x4096x4_S8x4096x4x1_0_1_2 (Host.reduceAdd (mulf v13 v13) (constant S_ .f32 0x00000000#32) reducesTo_S8x4096x4x512_S8x4096x4_d3 h_S_)) (broadcastInDim S8x4096x4x1 ![] bcast_S_S8x4096x4x1 (constant S_ .f32 0x44000000#32))) (broadcastInDim S8x4096x4x1 ![] bcast_S_S8x4096x4x1 (constant S_ .f32 0x358637BD#32)))))) shapeCasts_S8x4096x4x512_S8x4096x2048) (broadcastInDim S8x4096x2048 ![0, 1, 2] bcast_S1x1x2048_S8x4096x2048_0_1_2 (broadcastInDim S1x1x2048 ![2] bcast_S2048_S1x1x2048_2 a5))) (extractStridedSlice S8x4096x2048 ![0, 0, 4096] (shapeCast _ (extf .f32 a2 bitsLt_bf16_f32) shapeCasts_S32768x12288_S8x4096x12288) slices_S8x4096x12288_S8x4096x2048_0_0_4096)

/-- Both paths, projected and gated. -/
def mixA (v28 : FVec Ideal S8x4096x2048 .f32) (a1 : FVec Ideal S32768x1024 .bf16) (a2 : FVec Ideal S32768x12288 .bf16) (a6 : FVec Ideal S2x2048x1024 .bf16) (a7 : FVec Ideal S2x1024x1024 .bf16) : FVec Ideal S8x4096x1024 .f32 :=
  addf (mulf (extractStridedSlice S8x4096x1024 ![0, 0, 10240] (shapeCast _ (extf .f32 a2 bitsLt_bf16_f32) shapeCasts_S32768x12288_S8x4096x12288) slices_S8x4096x12288_S8x4096x1024_0_0_10240) (Host.dotGeneral dot_S8x4096x2048_S2048x1024_S8x4096x1024_2_0_01_1_n_n none v28 (extf .f32 (shapeCast _ (extractStridedSlice S1x2048x1024 ![1, 0, 0] a6 slices_S2x2048x1024_S1x2048x1024_1_0_0) shapeCasts_S1x2048x1024_S2048x1024) bitsLt_bf16_f32))) (mulf (extractStridedSlice S8x4096x1024 ![0, 0, 11264] (shapeCast _ (extf .f32 a2 bitsLt_bf16_f32) shapeCasts_S32768x12288_S8x4096x12288) slices_S8x4096x12288_S8x4096x1024_0_0_11264) (Host.dotGeneral dot_S8x4096x1024_S1024x1024_S8x4096x1024_2_0_01_1_n_n none (shapeCast _ (extf .f32 a1 bitsLt_bf16_f32) shapeCasts_S32768x1024_S8x4096x1024) (extf .f32 (shapeCast _ (extractStridedSlice S1x1024x1024 ![1, 0, 0] a7 slices_S2x1024x1024_S1x1024x1024_1_0_0) shapeCasts_S1x1024x1024_S1024x1024) bitsLt_bf16_f32)))

/-- The residual stream. -/
def resA (v41 : FVec Ideal S8x4096x1024 .f32) (a3 : FVec Ideal S32768x1024 .f32) (a4 : FVec Ideal S8x1x3072 .f32) (a8 : FVec Ideal S2x1024x1024 .bf16) : FVec Ideal S8x4096x1024 .f32 :=
  addf (shapeCast _ a3 shapeCasts_S32768x1024_S8x4096x1024) (mulf (broadcastInDim S8x4096x1024 ![0, 1, 2] bcast_S8x1x1024_S8x4096x1024_0_1_2 (broadcastInDim S8x1x1024 ![0, 2] bcast_S8x1024_S8x1x1024_0_2 (extractStridedSlice S8x1024 ![0, 2048] (shapeCast _ a4 shapeCasts_S8x1x3072_S8x3072) slices_S8x3072_S8x1024_0_2048))) (Host.dotGeneral dot_S8x4096x1024_S1024x1024_S8x4096x1024_2_0_01_1_n_n none v41 (extf .f32 (shapeCast _ (extractStridedSlice S1x1024x1024 ![1, 0, 0] a8 slices_S2x1024x1024_S1x1024x1024_1_0_0) shapeCasts_S1x1024x1024_S1024x1024) bitsLt_bf16_f32)))

/-- Its last normalisation. -/
def outA (v50 : FVec Ideal S8x4096x1024 .f32) (a9 : FVec Ideal S1024 .f32) : FVec Ideal S32768x1024 .f32 :=
  shapeCast _ (mulf (mulf v50 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf v50 v50) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 a9))) shapeCasts_S8x4096x1024_S32768x1024

section Arrays

variable (a0 : FVec Ideal S32768x2048 .bf16) (a1 : FVec Ideal S32768x1024 .bf16) (a2 : FVec Ideal S32768x12288 .bf16)
  (a3 : FVec Ideal S32768x1024 .f32) (a4 : FVec Ideal S8x1x3072 .f32) (a5 : FVec Ideal S2048 .f32)
  (a6 : FVec Ideal S2x2048x1024 .bf16) (a7 a8 : FVec Ideal S2x1024x1024 .bf16) (a9 : FVec Ideal S1024 .f32)

/-- What the arguments hold for the token at `t` of sequence `b`. -/
abbrev rowAt (b : Fin 8) (t : Fin 4096) : Row := row a0 a1 a2 a3 a4 a5 a6 a7 a8 a9 ⟨b.val * 4096 + t.val, by omega⟩

/-- An entry of a table of two axes depends on the numbers of its row and column. -/
theorem at2 {p q : ℕ} (f : (⟨2, ![p, q]⟩ : Shape).Idx → EReal) {i i' : Fin p} {j j' : Fin q} (hi : i.val = i'.val) (hj : j.val = j'.val) :
    f (ix2 i j) = f (ix2 i' j') := by
  rw [Fin.ext hi, Fin.ext hj]

theorem ohA_apply (b : Fin 8) (t : Fin 4096) (h : Fin 4) (k : Fin 512) :
    ohA a0 a2 (ix4 b t h k) = (rowAt a0 a1 a2 a3 a4 a5 a6 a7 a8 a9 b t).oh ⟨512 * h.val + k.val, by omega⟩ := by
  unfold ohA
  pointwise
  exact congrArg₂ (fun x y : EReal => x * y) (at2 a2 rfl (by show 2048 + (h.val * 512 + k.val) = 2048 + (512 * h.val + k.val); omega))
    (at2 a0 rfl (by show h.val * 512 + k.val = 512 * h.val + k.val; omega))

theorem hmA_apply (b : Fin 8) (t : Fin 4096) (e : Fin 2048) :
    hmA (ohA a0 a2) a2 a5 (ix3 b t e) = (rowAt a0 a1 a2 a3 a4 a5 a6 a7 a8 a9 b t).hm e := by
  unfold hmA
  pointwise
  simp only [ohA_apply a0 a1 a2 a3 a4 a5 a6 a7 a8 a9]
  have he : (⟨512 * (e.val / 512) + e.val % 512, by omega⟩ : Fin 2048) = e := Fin.ext (by show 512 * (e.val / 512) + e.val % 512 = e.val; omega)
  simp only [he]
  rfl

theorem mixA_apply (b : Fin 8) (t : Fin 4096) (d : Fin 1024) :
    mixA (hmA (ohA a0 a2) a2 a5) a1 a2 a6 a7 (ix3 b t d) = (rowAt a0 a1 a2 a3 a4 a5 a6 a7 a8 a9 b t).mix d := by
  unfold mixA
  pointwise
  simp only [hmA_apply a0 a1 a2 a3 a4 a5 a6 a7 a8 a9]
  rfl

theorem resA_apply (b : Fin 8) (t : Fin 4096) (d : Fin 1024) :
    resA (mixA (hmA (ohA a0 a2) a2 a5) a1 a2 a6 a7) a3 a4 a8 (ix3 b t d) = (rowAt a0 a1 a2 a3 a4 a5 a6 a7 a8 a9 b t).res d := by
  unfold resA
  pointwise
  simp only [mixA_apply a0 a1 a2 a3 a4 a5 a6 a7 a8 a9]
  have hb : (⟨(b.val * 4096 + t.val) / 4096, by omega⟩ : Fin 8) = b := Fin.ext (by show (b.val * 4096 + t.val) / 4096 = b.val; omega)
  show _ = a3 (ix2 ⟨b.val * 4096 + t.val, _⟩ d) + a4 (ix3 ⟨(b.val * 4096 + t.val) / 4096, _⟩ 0 ⟨2048 + d.val, _⟩) * _
  rw [hb]
  rfl

/-- The reference's result from its arguments. -/
theorem outA_apply (r : Fin 32768) (d : Fin 1024) :
    outA (resA (mixA (hmA (ohA a0 a2) a2 a5) a1 a2 a6 a7) a3 a4 a8) a9 (ix2 r d) = (row a0 a1 a2 a3 a4 a5 a6 a7 a8 a9 r).out d := by
  unfold outA
  pointwise
  simp only [resA_apply a0 a1 a2 a3 a4 a5 a6 a7 a8 a9]
  have hr : (⟨r.val / 4096 * 4096 + r.val % 4096, by omega⟩ : Fin 32768) = r := Fin.ext (by show r.val / 4096 * 4096 + r.val % 4096 = r.val; omega)
  simp only [rowAt, hr]
  rfl

end Arrays

variable (m : (ℓ : Loc nD τ sig) → Buf (Elt Ideal) ℓ) (c : Dev nD)

/-- The arguments' contents. -/
abbrev arg0 : FVec Ideal S32768x2048 .bf16 := m ((c.tc : Thread nD τ).loc main_arg0)
abbrev arg1 : FVec Ideal S32768x1024 .bf16 := m ((c.tc : Thread nD τ).loc main_arg1)
abbrev arg2 : FVec Ideal S32768x12288 .bf16 := m ((c.tc : Thread nD τ).loc main_arg2)
abbrev arg3 : FVec Ideal S32768x1024 .f32 := m ((c.tc : Thread nD τ).loc main_arg3)
abbrev arg4 : FVec Ideal S8x1x3072 .f32 := m ((c.tc : Thread nD τ).loc main_arg4)
abbrev arg5 : FVec Ideal S2048 .f32 := m ((c.tc : Thread nD τ).loc main_arg5)
abbrev arg6 : FVec Ideal S2x2048x1024 .bf16 := m ((c.tc : Thread nD τ).loc main_arg6)
abbrev arg7 : FVec Ideal S2x1024x1024 .bf16 := m ((c.tc : Thread nD τ).loc main_arg7)
abbrev arg8 : FVec Ideal S2x1024x1024 .bf16 := m ((c.tc : Thread nD τ).loc main_arg8)
abbrev arg9 : FVec Ideal S1024 .f32 := m ((c.tc : Thread nD τ).loc main_arg9)

/-- The reference's term is its stages, one after the other. -/
theorem staged : Value.res_main_v64 m c = outA (resA (mixA (hmA (ohA (arg0 m c) (arg2 m c)) (arg2 m c) (arg5 m c)) (arg1 m c) (arg2 m c) (arg6 m c) (arg7 m c))
    (arg3 m c) (arg4 m c) (arg8 m c)) (arg9 m c) := by
  unfold Value.res_main_v64 outA resA mixA hmA ohA
  rfl

/-- The reference's result, element by element. -/
theorem reference_result (r : Fin 32768) (d : Fin 1024) : (Value.res_main_v64 m c : FVec Ideal S32768x1024 .f32) (ix2 r d)
    = (row (arg0 m c) (arg1 m c) (arg2 m c) (arg3 m c) (arg4 m c) (arg5 m c) (arg6 m c) (arg7 m c) (arg8 m c) (arg9 m c) r).out d := by
  rw [staged]
  exact outA_apply _ _ _ _ _ _ _ _ _ _ r d

end Cert.Reference2Ideal.Body

end
-- ==== Proof.InVocab.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

/-! The input projections: the words the runs of the body are told in. A block of 1024 rows is projected in 32
    tiles of 256 rows and 256 columns, four tiles of rows for each tile of columns. -/

@[expose] public section

set_option maxRecDepth 16384

noncomputable section

namespace Cert.Kernel3Ideal.In

open Idealize.ShloMosaic Idealize.SL.Sem Cert.Kernel3Ideal Cert.Kernel3Ideal.Gen

variable {F : FTy → Type} [FloatOps F]

/-- Tile `n` of a block of the result. -/
abbrev tileR (n : ℕ) : Rect S1024x2048 := Rect.unit (s := S1024x2048) ![256 * (n % 4), 256 * (n / 4 % 8)] S256x256.size (by
  intro a
  match a with
  | ⟨0, _⟩ => show 256 * (n % 4) + 256 ≤ 1024; omega
  | ⟨1, _⟩ => show 256 * (n / 4 % 8) + 256 ≤ 2048; omega)

/-- The normalised rows tile `n` is projected from. -/
abbrev rowR (n : ℕ) : Rect S1024x1024 := Rect.unit (s := S1024x1024) ![256 * (n % 4), 0] S256x1024.size (by
  intro a
  match a with
  | ⟨0, _⟩ => show 256 * (n % 4) + 256 ≤ 1024; omega
  | ⟨1, _⟩ => show 0 + 1024 ≤ 1024; omega)

/-- The columns of the weights tile `n` is projected with. -/
abbrev colR (n : ℕ) : Rect S1x1024x2048 := Rect.unit (s := S1x1024x2048) ![0, 0, 256 * (n / 4 % 8)] S1x1024x256.size (by
  intro a
  match a with
  | ⟨0, _⟩ => show 0 + 1 ≤ 1; omega
  | ⟨1, _⟩ => show 0 + 1024 ≤ 1024; omega
  | ⟨2, _⟩ => show 256 * (n / 4 % 8) + 256 ≤ 2048; omega)

/-- The carried rows, and row `k` of the taps, under tile `n`'s columns. -/
abbrev haloR (n : ℕ) : Rect S8x2048 := Rect.unit (s := S8x2048) ![0, 256 * (n / 4 % 8)] S8x256.size (by
  intro a
  match a with
  | ⟨0, _⟩ => show 0 + 8 ≤ 8; omega
  | ⟨1, _⟩ => show 256 * (n / 4 % 8) + 256 ≤ 2048; omega)
@[inherit_doc haloR] abbrev tapR (k n : ℕ) : Rect S4x2048 := Rect.unit (s := S4x2048) ![k % 4, 256 * (n / 4 % 8)] S1x256.size (by
  intro a
  match a with
  | ⟨0, _⟩ => show k % 4 + 1 ≤ 4; omega
  | ⟨1, _⟩ => show 256 * (n / 4 % 8) + 256 ≤ 2048; omega)
/-- The bias under tile `n`'s columns. -/
abbrev biasR (n : ℕ) : Rect S1x2048 := Rect.unit (s := S1x2048) ![0, 256 * (n / 4 % 8)] S1x256.size (by
  intro a
  match a with
  | ⟨0, _⟩ => show 0 + 1 ≤ 1; omega
  | ⟨1, _⟩ => show 256 * (n / 4 % 8) + 256 ≤ 2048; omega)

/-- A tile as it is stored by a projection without, with the logistic and with the gated activation. -/
def plainT (y : FVec F S256x256 .f32) : FVec F S256x256 .bf16 := truncf .bf16 y bitsLt_bf16_f32
@[inherit_doc plainT] def sigT (y : FVec F S256x256 .f32) : FVec F S256x256 .bf16 := truncf .bf16 (logistic y) bitsLt_bf16_f32
@[inherit_doc plainT] def siluT (y : FVec F S256x256 .f32) : FVec F S256x256 .bf16 := truncf .bf16 (mulf y (logistic y)) bitsLt_bf16_f32

/-- What projection `j` does to a tile in tile column `k`. -/
def actT : Fin 6 → ℕ → FVec F S256x256 .f32 → FVec F S256x256 .bf16
  | 0, _ => plainT
  | 1, _ => sigT
  | 2, _ => siluT
  | 3, _ => plainT
  | 4, k => if k < 4 then plainT else siluT
  | 5, _ => sigT

/-- Tile `n` of the rows `h` times the weights `w`. -/
def dotT (arg14 : Memref sig .tc .vmem S1024x1024 .bf16) (h : arg14.view.ty.Contents (Elt F))
    (arg6 : Memref sig .tc .vmem S1x1024x2048 .bf16) (w : arg6.view.ty.Contents (Elt F)) (n : ℕ) : FVec F S256x256 .f32 :=
  k0_pay7 (arg14.view.readAt (Elt F) (rowR n).toLoadRect h) (arg6.view.readAt (Elt F) (colR n).toLoadRect w)

/-- The tiles projection `j` stores first, `n` of them. -/
def oPieces (j : Fin 6) (arg14 : Memref sig .tc .vmem S1024x1024 .bf16) (h : arg14.view.ty.Contents (Elt F))
    (arg6 : Memref sig .tc .vmem S1x1024x2048 .bf16) (w : arg6.view.ty.Contents (Elt F)) : ℕ → List (View.Piece (Elt F) S1024x2048 .bf16)
  | 0 => []
  | n + 1 => ⟨tileR n, actT j (n / 4) (dotT arg14 h arg6 w n)⟩ :: oPieces j arg14 h arg6 w n

end Cert.Kernel3Ideal.In

end
-- ==== Proof.InKit.lean ====
module

public import proofs.«01_k».proof.Proof.InVocab

/-! The input projections: when each branch of the body is taken, when a window is idle, and what the body is run on. -/

@[expose] public section

set_option maxRecDepth 16384

noncomputable section

namespace Cert.Kernel3Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-- The first point of a block of rows: the branch that normalises it, and the one that convolves. -/
abbrev atNorm (i : grid0.Coords) : Prop := k0_cond1 i = 1#1
@[inherit_doc atNorm] abbrev atConv (i : grid0.Coords) : Prop := k0_cond3 i = 1#1
/-- The first point of a sequence. -/
abbrev atSeq (i : grid0.Coords) : Prop := (Scalar.cmpi .ne (Scalar.extui (Scalar.andi (Scalar.cmpi .eq (BitVec.ofNat 32 (i 1).val) 0#32) (Scalar.cmpi .eq (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 0#32))) 0#32) = 1#1
/-- The point of projection `j`. -/
abbrev atProj (j : Fin 6) (i : grid0.Coords) : Prop := match j with
  | 0 => k0_cond4 i = 1#1
  | 1 => k0_cond5 i = 1#1
  | 2 => k0_cond6 i = 1#1
  | 3 => k0_cond7 i = 1#1
  | 4 => k0_cond8 i = 1#1
  | 5 => k0_cond9 i = 1#1

theorem hNorm (t : Fin cfg0.N) : atNorm (grid0.coords t) ↔ t.val % 7 = 0 := by
  have ht : t.val < 224 := Nat.lt_of_lt_of_eq t.isLt N_0
  have e0 : (grid0.coords t 0).val = t.val / 7 % 32 := Pipeline.Grid.coords_val t 0 (by decide) rfl
  have e1 : (grid0.coords t 1).val = t.val / 1 % 7 := Pipeline.Grid.coords_val t 1 (by decide) rfl
  simp only [atNorm, k0_cond1, e0, e1]
  word_cmp
theorem hConv (t : Fin cfg0.N) : atConv (grid0.coords t) ↔ t.val % 7 = 0 := by
  have ht : t.val < 224 := Nat.lt_of_lt_of_eq t.isLt N_0
  have e0 : (grid0.coords t 0).val = t.val / 7 % 32 := Pipeline.Grid.coords_val t 0 (by decide) rfl
  have e1 : (grid0.coords t 1).val = t.val / 1 % 7 := Pipeline.Grid.coords_val t 1 (by decide) rfl
  simp only [atConv, k0_cond3, e0, e1]
  word_cmp
theorem hSeq (t : Fin cfg0.N) : atSeq (grid0.coords t) ↔ t.val % 28 = 0 := by
  revert t
  decide +kernel
theorem hProj (j : Fin 6) (t : Fin cfg0.N) : atProj j (grid0.coords t) ↔ t.val % 7 = j.val + 1 := by
  have ht : t.val < 224 := Nat.lt_of_lt_of_eq t.isLt N_0
  have e0 : (grid0.coords t 0).val = t.val / 7 % 32 := Pipeline.Grid.coords_val t 0 (by decide) rfl
  have e1 : (grid0.coords t 1).val = t.val / 1 % 7 := Pipeline.Grid.coords_val t 1 (by decide) rfl
  match j with
  | 0 | 1 | 2 | 3 | 4 | 5 =>
    simp only [atProj, k0_cond4, k0_cond5, k0_cond6, k0_cond7, k0_cond8, k0_cond9, e0, e1]
    word_cmp

/-! The windows: the block of projections is left alone at the first point of a block of rows, the convolved
    block and the gates at the six others; these two are written back at the last. -/

theorem idle9 : ∀ t : Fin cfg0.N, cfg0.idle 9 (grid0.coords t) = decide (t.val % 7 = 0) := by decide +kernel
theorem idle10 : ∀ t : Fin cfg0.N, cfg0.idle 10 (grid0.coords t) = decide (¬t.val % 7 = 0) := by decide +kernel
theorem idle11 : ∀ t : Fin cfg0.N, cfg0.idle 11 (grid0.coords t) = decide (¬t.val % 7 = 0) := by decide +kernel
theorem flush9 : ∀ t : Fin cfg0.N, (cfg0.win 9).flush t = decide (¬t.val % 7 = 0) := by decide +kernel
theorem flush10 : ∀ t : Fin cfg0.N, (cfg0.win 10).flush t = decide (t.val % 7 = 6) := by decide +kernel
theorem flush11 : ∀ t : Fin cfg0.N, (cfg0.win 11).flush t = decide (t.val % 7 = 6) := by decide +kernel
theorem fresh10 (t : Fin cfg0.N) : cfg0.fresh 10 t.val = decide (t.val % 7 = 0) :=
  Pipeline.Cfg.fresh_tab cfg0 10 (fun n => decide (n % 7 = 0)) rfl (by decide +kernel) t.val (Nat.le_of_lt t.isLt)
theorem fresh11 (t : Fin cfg0.N) : cfg0.fresh 11 t.val = decide (t.val % 7 = 0) :=
  Pipeline.Cfg.fresh_tab cfg0 11 (fun n => decide (n % 7 = 0)) rfl (by decide +kernel) t.val (Nat.le_of_lt t.isLt)

/-- The body's scratch: the normalised rows, and the last eight rows of the projection the block before left. -/
abbrev scH : Memref sig .tc .vmem S1024x1024 .bf16 := Memref.whole cc0_scratch0
@[inherit_doc scH] abbrev scC : Memref sig .tc .vmem S8x2048 .f32 := Memref.whole cc0_scratch1

/-- What the launch hands the body besides the windows. -/
theorem handed_eq (c : Dev nD) :
    (Pipeline.ΦA spec0 c : sProp 𝕄)
      = iprop(iprop((∃ d, owns (c : Thread nD τ) scH fullShare d) ∗ (∃ d, owns (c : Thread nD τ) scC fullShare d)) ∗ (∃ r, prngReg c r)) := by
  unfold Pipeline.ΦA; rw [scopedRest0_eq]; simp only [scH, scC, owns_whole]; try rfl

/-- A buffer whose stores cover it holds what they leave. -/
theorem owns_of_writes {sp : Space} {s : Shape} {e : EltTy} (c : Dev nD) (M : Memref sig .tc sp s e) {f : M.view.ty.Contents (Elt F)}
    {L L' : List (View.Piece (Elt F) s e)} (hL : L = L') (size : Fin s.rank → ℕ) (h : View.Piece.tiledL L size = true) :
    M.view.read (Elt F) (M.view.writes (Elt F) f L) = View.canon L' :=
  hL ▸ View.read_writes_eq_canon _ _ _ (View.cover_of_tiledL L size h)

@[inherit_doc owns_of_writes] theorem owns_of_covered {sp : Space} {s : Shape} {e : EltTy} (c : Dev nD) (M : Memref sig .tc sp s e) {f : M.view.ty.Contents (Elt F)}
    {L L' : List (View.Piece (Elt F) s e)} (hL : L = L') (h : ∀ y : s.Idx, ∃ p ∈ L, y ∈ p.1.set) :
    M.view.read (Elt F) (M.view.writes (Elt F) f L) = View.canon L' :=
  hL ▸ View.read_writes_eq_canon _ _ _ h

end Cert.Kernel3Ideal.In

end
-- ==== Proof.InFirst.lean ====
module

public import proofs.«01_k».proof.Proof.InKit

/-! The input projections: a run of the body at the first point of a block of rows. -/

@[expose] public section

set_option maxRecDepth 16384

noncomputable section

namespace Cert.Kernel3Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (UR sig nD τ) ℕ

variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024x2048 .bf16) (harg6 : arg6.IsWhole) (arg7 : Memref sig .tc .vmem S1x1024x2048 .bf16) (harg7 : arg7.IsWhole) (arg8 : Memref sig .tc .vmem S1x1024x128 .bf16) (harg8 : arg8.IsWhole) (arg9 : Memref sig .tc .vmem S4x2048 .f32) (harg9 : arg9.IsWhole) (arg10 : Memref sig .tc .vmem S1x2048 .f32) (harg10 : arg10.IsWhole) (arg11 : Memref sig .tc .vmem S1024x2048 .bf16) (harg11 : arg11.IsWhole) (arg12 : Memref sig .tc .vmem S1024x2048 .bf16) (harg12 : arg12.IsWhole) (arg13 : Memref sig .tc .vmem S1024x128 .f32) (harg13 : arg13.IsWhole) (arg14 : Memref sig .tc .vmem S1024x1024 .bf16) (harg14 : arg14.IsWhole) (arg15 : Memref sig .tc .vmem S8x2048 .f32) (harg15 : arg15.IsWhole)
variable (x0 : Vec F S1024x1024 .f32) (x1 : Vec F S1x1024 .f32) (x2 : Vec F S1x1x1024 .f32) (x3 : Vec F S1x1x1024 .f32) (x4 : Vec F S1x1024x2048 .bf16) (x5 : Vec F S1x1024x2048 .bf16) (x6 : Vec F S1x1024x128 .bf16) (x7 : Vec F S4x2048 .f32) (x8 : Vec F S1x2048 .f32)

/-- The normalised and modulated rows, as they are stored. -/
def hPieces : List (View.Piece (Elt F) S1024x1024 .bf16) :=
  [⟨Rect.unit (s := S1024x1024) ![0, 0] S1024x1024.size inb_S1024x1024_S1024x1024_0_0,
    k0_pay344 (arg2.view.readAt (Elt F) (Rect.unit (s := S1024x1024) ![0, 0] S1024x1024.size inb_S1024x1024_S1024x1024_0_0).toLoadRect (harg2.unread x0))
      (arg3.view.readAt (Elt F) (Rect.unit (s := S1x1024) ![0, 0] S1x1024.size inb_S1x1024_S1x1024_0_0).toLoadRect (harg3.unread x1))
      (arg4.view.readAt (Elt F) (Rect.unit (s := S1x1x1024) ![0, 0, 0] S1x1x1024.size inb_S1x1x1024_S1x1x1024_0_0_0).toLoadRect (harg4.unread x2))
      (arg5.view.readAt (Elt F) (Rect.unit (s := S1x1x1024) ![0, 0, 0] S1x1x1024.size inb_S1x1x1024_S1x1x1024_0_0_0).toLoadRect (harg5.unread x3))⟩]

/-- The gates of the same rows. -/
def gPieces : List (View.Piece (Elt F) S1024x128 .f32) :=
  [⟨Rect.unit (s := S1024x128) ![0, 0] S1024x128.size inb_S1024x128_S1024x128_0_0,
    k0_pay345 (arg2.view.readAt (Elt F) (Rect.unit (s := S1024x1024) ![0, 0] S1024x1024.size inb_S1024x1024_S1024x1024_0_0).toLoadRect (harg2.unread x0))
      (arg3.view.readAt (Elt F) (Rect.unit (s := S1x1024) ![0, 0] S1x1024.size inb_S1x1024_S1x1024_0_0).toLoadRect (harg3.unread x1))
      (arg4.view.readAt (Elt F) (Rect.unit (s := S1x1x1024) ![0, 0, 0] S1x1x1024.size inb_S1x1x1024_S1x1x1024_0_0_0).toLoadRect (harg4.unread x2))
      (arg5.view.readAt (Elt F) (Rect.unit (s := S1x1x1024) ![0, 0, 0] S1x1x1024.size inb_S1x1x1024_S1x1x1024_0_0_0).toLoadRect (harg5.unread x3))
      (arg8.view.readAt (Elt F) (Rect.unit (s := S1x1024x128) ![0, 0, 0] S1x1024x128.size inb_S1x1024x128_S1x1024x128_0_0_0).toLoadRect (harg8.unread x6))⟩]

/-- Tile `n` of the projection to queries and keys, before the convolution. -/
def yT (n : ℕ) : FVec F S256x256 .f32 :=
  k0_pay7 (arg14.view.readCov (hPieces arg2 harg2 arg3 harg3 arg4 harg4 arg5 harg5 x0 x1 x2 x3) (rowR n).toLoadRect)
    (arg6.view.readAt (Elt F) (colR n).toLoadRect (harg6.unread x4))

/-- The rows carried from tile to tile: the last eight of each, over zeros when a sequence starts. -/
def cPieces (first : Bool) : ℕ → List (View.Piece (Elt F) S8x2048 .f32)
  | 0 => if first then [⟨Rect.unit (s := S8x2048) ![0, 0] S8x2048.size inb_S8x2048_S8x2048_0_0, k0_pay346⟩] else []
  | n + 1 => ⟨haloR n, k0_pay13 (yT arg2 harg2 arg3 harg3 arg4 harg4 arg5 harg5 arg6 harg6 arg14 x0 x1 x2 x3 x4 n)⟩ :: cPieces first n

/-- The rows carried to tile `n`: for the first tile of a column, those the block before left. -/
def cT (first : Bool) (xs1 : Vec F S8x2048 .f32) (n : ℕ) : Vec F S8x256 .f32 :=
  if (!first && decide (n % 4 = 0)) = true then arg15.view.readAt (Elt F) (haloR n).toLoadRect (harg15.unread xs1)
  else arg15.view.readCov (cPieces arg2 harg2 arg3 harg3 arg4 harg4 arg5 harg5 arg6 harg6 arg14 x0 x1 x2 x3 x4 first n) (haloR n).toLoadRect

/-- The convolved tiles stored first, `n` of them. -/
def qPieces (first : Bool) (xs1 : Vec F S8x2048 .f32) : ℕ → List (View.Piece (Elt F) S1024x2048 .bf16)
  | 0 => []
  | n + 1 => ⟨tileR n, k0_pay12 (yT arg2 harg2 arg3 harg3 arg4 harg4 arg5 harg5 arg6 harg6 arg14 x0 x1 x2 x3 x4 n)
      (cT arg2 harg2 arg3 harg3 arg4 harg4 arg5 harg5 arg6 harg6 arg14 arg15 harg15 x0 x1 x2 x3 x4 first xs1 n)
      (arg9.view.readAt (Elt F) (tapR 3 n).toLoadRect (harg9.unread x7)) (arg10.view.readAt (Elt F) (biasR n).toLoadRect (harg10.unread x8))
      (arg9.view.readAt (Elt F) (tapR 0 n).toLoadRect (harg9.unread x7)) (arg9.view.readAt (Elt F) (tapR 1 n).toLoadRect (harg9.unread x7))
      (arg9.view.readAt (Elt F) (tapR 2 n).toLoadRect (harg9.unread x7))⟩ :: qPieces first xs1 n

set_option maxHeartbeats 16000000 in
/-- At the first point of a block of rows the body leaves its rows normalised in the first scratch, their gates,
    their convolved queries and keys, and their last projected rows in the second scratch. -/
theorem run_first (first : Bool) (hc0 : atNorm i) (hc1 : atSeq i ↔ first = true) (hc2 : atConv i) (hc : ∀ k, ¬atProj k i)
    (xi9 : Vec F S1024x2048 .bf16) (xs1 : Vec F S8x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare xi9
            ∗ owns (c : Thread nD τ) arg12 fullShare (View.canon (qPieces arg2 harg2 arg3 harg3 arg4 harg4 arg5 harg5 arg6 harg6 arg9 harg9 arg10 harg10 arg14 arg15 harg15 x0 x1 x2 x3 x4 x7 x8 first xs1 32))
            ∗ owns (c : Thread nD τ) arg13 fullShare (View.canon (gPieces arg2 harg2 arg3 harg3 arg4 harg4 arg5 harg5 arg8 harg8 x0 x1 x2 x3 x6))
            ∗ owns (c : Thread nD τ) arg14 fullShare (View.canon (hPieces arg2 harg2 arg3 harg3 arg4 harg4 arg5 harg5 x0 x1 x2 x3))
            ∗ owns (c : Thread nD τ) arg15 fullShare (View.canon (cPieces arg2 harg2 arg3 harg3 arg4 harg4 arg5 harg5 arg6 harg6 arg14 x0 x1 x2 x3 x4 first 32))) -∗ K ⟨⟩))
      ⊢ wp frame (wpE (defs₀ (F := F)) Variants.none c none) E (cc0_norm_inproj i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_norm_inproj_eq_skeleton]; unfold cc0_norm_inproj_skel
  simp only [k0_part82_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hfs1
  have g3 : ¬k0_cond4 i = 1#1 := hc 0
  have g4 : ¬k0_cond5 i = 1#1 := hc 1
  have g5 : ¬k0_cond6 i = 1#1 := hc 2
  have g6 : ¬k0_cond7 i = 1#1 := hc 3
  have g7 : ¬k0_cond8 i = 1#1 := hc 4
  have g8 : ¬k0_cond9 i = 1#1 := hc 5
  clear hc
  match first with
  | true | false =>
    first | replace hc1 : atSeq i := hc1.mpr rfl | replace hc1 : ¬atSeq i := fun h => nomatch hc1.mp h
    sl_exec (disch := first | sl_exact hc0 | sl_exact hc1 | sl_exact hc2 | sl_exact g3 | sl_exact g4 | sl_exact g5 | sl_exact g6 | sl_exact g7 | sl_exact g8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr
      swap; · iexact H10
      ipureintro
      exact owns_of_writes c arg12 (by sl_kernel_rfl) S256x256.size (by sl_kernel_rfl)
    isplitl [H11]
    · iexists _; isplitr
      swap; · iexact H11
      ipureintro
      exact owns_of_writes c arg13 (by sl_kernel_rfl) S1024x128.size (by sl_kernel_rfl)
    isplitl [HS0]
    · iexists _; isplitr
      swap; · iexact HS0
      ipureintro
      exact owns_of_writes c arg14 (by sl_kernel_rfl) S1024x1024.size (by sl_kernel_rfl)
    iexists _; isplitr
    swap; · iexact HS1
    ipureintro
    first
    | exact owns_of_writes c arg15 (by sl_kernel_rfl) S8x256.size (by sl_kernel_rfl)
    | exact owns_of_covered c arg15 (by sl_kernel_rfl) (by sl_whole_mem)

end Cert.Kernel3Ideal.In

end
-- ==== Proof.InProj.lean ====
module

public import proofs.«01_k».proof.Proof.InKit

/-! The input projections: a run of the body at a point that projects. -/

@[expose] public section

set_option maxRecDepth 16384

noncomputable section

namespace Cert.Kernel3Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (UR sig nD τ) ℕ

variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024x2048 .bf16) (harg6 : arg6.IsWhole) (arg7 : Memref sig .tc .vmem S1x1024x2048 .bf16) (harg7 : arg7.IsWhole) (arg8 : Memref sig .tc .vmem S1x1024x128 .bf16) (harg8 : arg8.IsWhole) (arg9 : Memref sig .tc .vmem S4x2048 .f32) (harg9 : arg9.IsWhole) (arg10 : Memref sig .tc .vmem S1x2048 .f32) (harg10 : arg10.IsWhole) (arg11 : Memref sig .tc .vmem S1024x2048 .bf16) (harg11 : arg11.IsWhole) (arg12 : Memref sig .tc .vmem S1024x2048 .bf16) (harg12 : arg12.IsWhole) (arg13 : Memref sig .tc .vmem S1024x128 .f32) (harg13 : arg13.IsWhole) (arg14 : Memref sig .tc .vmem S1024x1024 .bf16) (harg14 : arg14.IsWhole) (arg15 : Memref sig .tc .vmem S8x2048 .f32) (harg15 : arg15.IsWhole)
variable (x0 : Vec F S1024x1024 .f32) (x1 : Vec F S1x1024 .f32) (x2 : Vec F S1x1x1024 .f32) (x3 : Vec F S1x1x1024 .f32) (x4 : Vec F S1x1024x2048 .bf16) (x5 : Vec F S1x1024x2048 .bf16) (x6 : Vec F S1x1024x128 .bf16) (x7 : Vec F S4x2048 .f32) (x8 : Vec F S1x2048 .f32)

/-- What projection `j` leaves in its block. -/
def oBlk (j : Fin 6) (arg14 : Memref sig .tc .vmem S1024x1024 .bf16) (harg14 : arg14.IsWhole) (arg6 : Memref sig .tc .vmem S1x1024x2048 .bf16) (harg6 : arg6.IsWhole)
    (arg7 : Memref sig .tc .vmem S1x1024x2048 .bf16) (harg7 : arg7.IsWhole) (x4 x5 : Vec F S1x1024x2048 .bf16) (xs0 : Vec F S1024x1024 .bf16) : Vec F S1024x2048 .bf16 :=
  View.canon (if j.val < 3 then oPieces j arg14 (harg14.unread xs0) arg6 (harg6.unread x4) 32 else oPieces j arg14 (harg14.unread xs0) arg7 (harg7.unread x5) 32)

set_option maxHeartbeats 16000000 in
/-- At the point of projection `j` the body leaves the inputs, the convolved block, the gates and the scratch
    as they were, and its tiles in the block of projections. -/
theorem run_proj (j : Fin 6) (hc0 : ¬atNorm i) (hc1 : ¬atSeq i) (hc2 : ¬atConv i) (hc : ∀ k, atProj k i ↔ k = j)
    (xi10 : Vec F S1024x2048 .bf16) (xi11 : Vec F S1024x128 .f32) (xs0 : Vec F S1024x1024 .bf16) (xs1 : Vec F S8x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ (∃ d, owns (c : Thread nD τ) arg11 fullShare d) ∗ owns (c : Thread nD τ) arg12 fullShare xi10 ∗ owns (c : Thread nD τ) arg13 fullShare xi11 ∗ owns (c : Thread nD τ) arg14 fullShare xs0 ∗ owns (c : Thread nD τ) arg15 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ owns (c : Thread nD τ) arg11 fullShare (oBlk j arg14 harg14 arg6 harg6 arg7 harg7 x4 x5 xs0) ∗ owns (c : Thread nD τ) arg12 fullShare xi10 ∗ owns (c : Thread nD τ) arg13 fullShare xi11 ∗ owns (c : Thread nD τ) arg14 fullShare xs0 ∗ owns (c : Thread nD τ) arg15 fullShare xs1) -∗ K ⟨⟩))
      ⊢ wp frame (wpE (defs₀ (F := F)) Variants.none c none) E (cc0_norm_inproj i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_norm_inproj_eq_skeleton]; unfold cc0_norm_inproj_skel
  simp only [k0_part82_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11; obtain rfl := harg14.eq_unread hfs0; obtain rfl := harg15.eq_unread hfs1
  have g : ∀ k, (k = j → atProj k i) ∧ (¬k = j → ¬atProj k i) := fun k => ⟨(hc k).mpr, fun h h' => h ((hc k).mp h')⟩
  have g3 := g 0; have g4 := g 1; have g5 := g 2; have g6 := g 3; have g7 := g 4; have g8 := g 5
  clear g hc
  match j with
  | 0 | 1 | 2 | 3 | 4 | 5 =>
    first | replace g3 : k0_cond4 i = 1#1 := g3.1 (by decide) | replace g3 : ¬k0_cond4 i = 1#1 := g3.2 (by decide)
    first | replace g4 : k0_cond5 i = 1#1 := g4.1 (by decide) | replace g4 : ¬k0_cond5 i = 1#1 := g4.2 (by decide)
    first | replace g5 : k0_cond6 i = 1#1 := g5.1 (by decide) | replace g5 : ¬k0_cond6 i = 1#1 := g5.2 (by decide)
    first | replace g6 : k0_cond7 i = 1#1 := g6.1 (by decide) | replace g6 : ¬k0_cond7 i = 1#1 := g6.2 (by decide)
    first | replace g7 : k0_cond8 i = 1#1 := g7.1 (by decide) | replace g7 : ¬k0_cond8 i = 1#1 := g7.2 (by decide)
    first | replace g8 : k0_cond9 i = 1#1 := g8.1 (by decide) | replace g8 : ¬k0_cond9 i = 1#1 := g8.2 (by decide)
    sl_exec (disch := first | sl_exact hc0 | sl_exact hc1 | sl_exact hc2 | sl_exact g3 | sl_exact g4 | sl_exact g5 | sl_exact g6 | sl_exact g7 | sl_exact g8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr
      swap; · iexact H9
      ipureintro
      exact owns_of_writes c arg11 (by sl_kernel_rfl) S256x256.size (by sl_kernel_rfl)
    isplitl [H10]
    · iexists _; isplitr; · ipureintro; exact harg12.read_unread _
      iexact H10
    isplitl [H11]
    · iexists _; isplitr; · ipureintro; exact harg13.read_unread _
      iexact H11
    isplitl [HS0]
    · iexists _; isplitr; · ipureintro; exact harg14.read_unread _
      iexact HS0
    iexists _; isplitr; · ipureintro; exact harg15.read_unread _
    iexact HS1

end Cert.Kernel3Ideal.In

end
-- ==== Proof.InBlocks.lean ====
module

public import proofs.«01_k».proof.Proof.InFirst
public import proofs.«01_k».proof.Proof.InProj
public import Idealize.ShloMosaic.Lib.Pointwise
public import Idealize.ShloMosaic.Lib.ValueIdx

/-! The input projections: what a run of the body leaves, as a function of the blocks it reads. -/

@[expose] public section

set_option maxRecDepth 16384

noncomputable section

namespace Cert.Kernel3Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F]

local notation "𝕄" => MT nD τ sig Unit (Elt F) ℕ (UR sig nD τ) ℕ

/-- An index of two axes, given by its coordinates. -/
theorem ix2_of {p q : ℕ} (x : (⟨2, ![p, q]⟩ : Shape).Idx) {i : Fin p} {j : Fin q} (h0 : (x 0).val = i.val) (h1 : (x 1).val = j.val) : x = ix2 i j := by
  funext a
  match a with
  | ⟨0, _⟩ => exact Fin.ext h0
  | ⟨1, _⟩ => exact Fin.ext h1

/-- An index of three axes, given by its coordinates. -/
theorem ix3_of {p q r : ℕ} (x : (⟨3, ![p, q, r]⟩ : Shape).Idx) {i : Fin p} {j : Fin q} {k : Fin r} (h0 : (x 0).val = i.val) (h1 : (x 1).val = j.val)
    (h2 : (x 2).val = k.val) : x = ix3 i j k := by
  funext a
  match a with
  | ⟨0, _⟩ => exact Fin.ext h0
  | ⟨1, _⟩ => exact Fin.ext h1
  | ⟨2, _⟩ => exact Fin.ext h2

/-- A load of a rectangle of a whole buffer: rank two. -/
theorem readAt_fun2 {sp : Space} {e : EltTy} {p q a b : ℕ} {M : Memref sig .tc sp ⟨2, ![p, q]⟩ e} {hM : M.IsWhole} {X : (⟨2, ![p, q]⟩ : Shape).Idx → Elt F e}
    {off : Fin 2 → ℕ} {inb} (u : Fin a → Fin p) (v : Fin b → Fin q) (h0 : ∀ x, (u x).val = off 0 + x.val) (h1 : ∀ x, (v x).val = off 1 + x.val) :
    M.view.readAt (Elt F) (Rect.unit (s := ⟨2, ![p, q]⟩) off ![a, b] inb).toLoadRect (hM.unread X) = fun y : (⟨2, ![a, b]⟩ : Shape).Idx => X (ix2 (u (y 0)) (v (y 1))) := by
  rw [View.readAt_eq_ld, hM.read_unread]
  refine funext fun y => congrArg X (ix2_of _ ?_ ?_)
  · exact (congrArg (off 0 + ·) (Nat.one_mul _)).trans (h0 (y 0)).symm
  · exact (congrArg (off 1 + ·) (Nat.one_mul _)).trans (h1 (y 1)).symm

/-- A load of a rectangle of a whole buffer: rank three. -/
theorem readAt_fun3 {sp : Space} {e : EltTy} {p q r a b c : ℕ} {M : Memref sig .tc sp ⟨3, ![p, q, r]⟩ e} {hM : M.IsWhole} {X : (⟨3, ![p, q, r]⟩ : Shape).Idx → Elt F e}
    {off : Fin 3 → ℕ} {inb} (u : Fin a → Fin p) (v : Fin b → Fin q) (w : Fin c → Fin r) (h0 : ∀ x, (u x).val = off 0 + x.val) (h1 : ∀ x, (v x).val = off 1 + x.val)
    (h2 : ∀ x, (w x).val = off 2 + x.val) :
    M.view.readAt (Elt F) (Rect.unit (s := ⟨3, ![p, q, r]⟩) off ![a, b, c] inb).toLoadRect (hM.unread X) = fun y : (⟨3, ![a, b, c]⟩ : Shape).Idx => X (ix3 (u (y 0)) (v (y 1)) (w (y 2))) := by
  rw [View.readAt_eq_ld, hM.read_unread]
  refine funext fun y => congrArg X (ix3_of _ ?_ ?_ ?_)
  · exact (congrArg (off 0 + ·) (Nat.one_mul _)).trans (h0 (y 0)).symm
  · exact (congrArg (off 1 + ·) (Nat.one_mul _)).trans (h1 (y 1)).symm
  · exact (congrArg (off 2 + ·) (Nat.one_mul _)).trans (h2 (y 2)).symm

/-- A load of what the pieces stored so far leave: rank two. -/
theorem readCov_fun2 {sp : Space} {e : EltTy} {p q a b : ℕ} {M : Memref sig .tc sp ⟨2, ![p, q]⟩ e} {P : List (View.Piece (Elt F) ⟨2, ![p, q]⟩ e)}
    {off : Fin 2 → ℕ} {inb} (u : Fin a → Fin p) (v : Fin b → Fin q) (h0 : ∀ x, (u x).val = off 0 + x.val) (h1 : ∀ x, (v x).val = off 1 + x.val) :
    M.view.readCov P (Rect.unit (s := ⟨2, ![p, q]⟩) off ![a, b] inb).toLoadRect = fun y : (⟨2, ![a, b]⟩ : Shape).Idx => View.canon P (ix2 (u (y 0)) (v (y 1))) := by
  rw [View.readCov_eq_canon']
  refine funext fun y => congrArg (View.canon P) (ix2_of _ ?_ ?_)
  · exact (congrArg (off 0 + ·) (Nat.one_mul _)).trans (h0 (y 0)).symm
  · exact (congrArg (off 1 + ·) (Nat.one_mul _)).trans (h1 (y 1)).symm

/-- Under the newest piece the buffer holds its payload. -/
theorem canon_in {e : EltTy} {p q a b : ℕ} {off : Fin 2 → ℕ} {inb} {w : (⟨2, ![a, b]⟩ : Shape).Idx → Elt F e}
    {P : List (View.Piece (Elt F) ⟨2, ![p, q]⟩ e)} {i : Fin p} {j : Fin q} (x : Fin a) (y : Fin b)
    (h0 : i.val = off 0 + x.val) (h1 : j.val = off 1 + y.val) :
    View.canon (⟨Rect.unit (s := ⟨2, ![p, q]⟩) off ![a, b] inb, w⟩ :: P) (ix2 i j) = w (ix2 x y) := by
  have e : (Rect.unit (s := ⟨2, ![p, q]⟩) off ![a, b] inb).emb (ix2 x y) = ix2 i j :=
    ix2_of _ (by show off 0 + 1 * x.val = i.val; omega) (by show off 1 + 1 * y.val = j.val; omega)
  rw [← e]
  exact View.canon_cons_emb _ _ _ _

/-- Off the newest piece it holds what the earlier ones leave. -/
theorem canon_out {e : EltTy} {p q a b : ℕ} {off : Fin 2 → ℕ} {inb} {w : (⟨2, ![a, b]⟩ : Shape).Idx → Elt F e}
    {P : List (View.Piece (Elt F) ⟨2, ![p, q]⟩ e)} {i : Fin p} {j : Fin q}
    (h : ¬ (off 0 ≤ i.val ∧ i.val < off 0 + a ∧ off 1 ≤ j.val ∧ j.val < off 1 + b)) :
    View.canon (⟨Rect.unit (s := ⟨2, ![p, q]⟩) off ![a, b] inb, w⟩ :: P) (ix2 i j) = View.canon P (ix2 i j) := by
  refine View.canon_cons_of_not_mem _ _ fun hm => ?_
  obtain ⟨x, hx⟩ := LoadRect.exists_idx_of_mem _ hm
  have h0 : off 0 + 1 * (x 0).val = i.val := congrArg (fun y : (⟨2, ![p, q]⟩ : Shape).Idx => (y 0).val) hx
  have h1 : off 1 + 1 * (x 1).val = j.val := congrArg (fun y : (⟨2, ![p, q]⟩ : Shape).Idx => (y 1).val) hx
  have l0 : (x 0).val < a := (x 0).isLt
  have l1 : (x 1).val < b := (x 1).isLt
  exact h ⟨by omega, by omega, by omega, by omega⟩

/-! ## The values -/

/-- The normalised and modulated rows of a block, and their gates. -/
def hOf (x0 : Vec F S1024x1024 .f32) (x1 : Vec F S1x1024 .f32) (x2 x3 : Vec F S1x1x1024 .f32) : Vec F S1024x1024 .bf16 := k0_pay344 x0 x1 x2 x3
@[inherit_doc hOf] def gOf (x0 : Vec F S1024x1024 .f32) (x1 : Vec F S1x1024 .f32) (x2 x3 : Vec F S1x1x1024 .f32) (x6 : Vec F S1x1024x128 .bf16) : Vec F S1024x128 .f32 := k0_pay345 x0 x1 x2 x3 x6

/-- Tile `n` of the rows `h` times the weights `w`. -/
def tile (h : Vec F S1024x1024 .bf16) (w : Vec F S1x1024x2048 .bf16) (n : ℕ) : FVec F S256x256 .f32 :=
  k0_pay7 (fun y : S256x1024.Idx => h (ix2 ⟨256 * (n % 4) + (y 0).val, by have : (y 0).val < 256 := (y 0).isLt; omega⟩ (y 1)))
    (fun y : S1x1024x256.Idx => w (ix3 (y 0) (y 1) ⟨256 * (n / 4 % 8) + (y 2).val, by have : (y 2).val < 256 := (y 2).isLt; omega⟩))

/-- The last eight rows of the projected block. -/
def cOf (h : Vec F S1024x1024 .bf16) (w : Vec F S1x1024x2048 .bf16) : Vec F S8x2048 .f32 := fun y =>
  k0_pay13 (tile h w (4 * ((y 1).val / 256) + 3)) (ix2 (y 0) ⟨(y 1).val % 256, Nat.mod_lt _ (by decide)⟩)

/-- The eight rows before tile `n`: those of the tile above it, or for the first of a column `prev`. -/
def above (prev : Vec F S8x2048 .f32) (h : Vec F S1024x1024 .bf16) (w : Vec F S1x1024x2048 .bf16) (n : ℕ) : Vec F S8x256 .f32 :=
  if n % 4 = 0 then fun y => prev (ix2 (y 0) ⟨256 * (n / 4 % 8) + (y 1).val, by have : (y 1).val < 256 := (y 1).isLt; omega⟩)
  else k0_pay13 (tile h w (n - 1))

/-- Row `k` of the taps, and the bias, under tile `n`'s columns. -/
def tapOf (x7 : Vec F S4x2048 .f32) (k : Fin 4) (n : ℕ) : Vec F S1x256 .f32 := fun y => x7 (ix2 k ⟨256 * (n / 4 % 8) + (y 1).val, by have : (y 1).val < 256 := (y 1).isLt; omega⟩)
@[inherit_doc tapOf] def biasOf (x8 : Vec F S1x2048 .f32) (n : ℕ) : Vec F S1x256 .f32 := fun y => x8 (ix2 (y 0) ⟨256 * (n / 4 % 8) + (y 1).val, by have : (y 1).val < 256 := (y 1).isLt; omega⟩)

/-- Tile `n` of the convolved queries and keys. -/
def qTile (prev : Vec F S8x2048 .f32) (h : Vec F S1024x1024 .bf16) (w : Vec F S1x1024x2048 .bf16) (x7 : Vec F S4x2048 .f32) (x8 : Vec F S1x2048 .f32) (n : ℕ) : FVec F S256x256 .bf16 :=
  k0_pay12 (tile h w n) (above prev h w n) (tapOf x7 3 n) (biasOf x8 n) (tapOf x7 0 n) (tapOf x7 1 n) (tapOf x7 2 n)

/-- A block made of its tiles. -/
def tiled (T : ℕ → FVec F S256x256 .bf16) : Vec F S1024x2048 .bf16 := fun y =>
  T (4 * ((y 1).val / 256) + (y 0).val / 256) (ix2 ⟨(y 0).val % 256, Nat.mod_lt _ (by decide)⟩ ⟨(y 1).val % 256, Nat.mod_lt _ (by decide)⟩)

/-- The convolved block, and the block of projection `j`. -/
def qOf (prev : Vec F S8x2048 .f32) (h : Vec F S1024x1024 .bf16) (w : Vec F S1x1024x2048 .bf16) (x7 : Vec F S4x2048 .f32) (x8 : Vec F S1x2048 .f32) : Vec F S1024x2048 .bf16 :=
  tiled (qTile prev h w x7 x8)
@[inherit_doc qOf] def oOf (j : Fin 6) (h : Vec F S1024x1024 .bf16) (w : Vec F S1x1024x2048 .bf16) : Vec F S1024x2048 .bf16 :=
  tiled fun n => actT j (n / 4) (tile h w n)

/-- Pieces that are the tiles of a block, 32 of them, leave the block. -/
theorem canon_tiles (T : ℕ → FVec F S256x256 .bf16) (P : ℕ → List (View.Piece (Elt F) S1024x2048 .bf16))
    (hP : ∀ n < 32, P (n + 1) = ⟨tileR n, T n⟩ :: P n) : View.canon (P 32) = tiled T := by
  have key : ∀ n ≤ 32, ∀ (i : Fin 1024) (j : Fin 2048), 4 * (j.val / 256) + i.val / 256 < n →
      View.canon (P n) (ix2 i j : S1024x2048.Idx) = tiled T (ix2 i j) := by
    intro n
    induction n with
    | zero => exact fun _ _ _ h => absurd h (Nat.not_lt_zero _)
    | succ n ih =>
      intro hn i j h
      have hi := i.isLt
      have hj := j.isLt
      rw [hP n (by omega)]
      by_cases e : 4 * (j.val / 256) + i.val / 256 = n
      · refine (canon_in (a := 256) (b := 256) ⟨i.val % 256, Nat.mod_lt _ (by decide)⟩ ⟨j.val % 256, Nat.mod_lt _ (by decide)⟩ ?_ ?_).trans ?_
        · show i.val = 256 * (n % 4) + i.val % 256; omega
        · show j.val = 256 * (n / 4 % 8) + j.val % 256; omega
        · rw [← e]; rfl
      · refine (canon_out (a := 256) (b := 256) ?_).trans (ih (by omega) i j (by omega))
        rintro ⟨h0, h1, h2, h3⟩
        have h0' : 256 * (n % 4) ≤ i.val := h0
        have h1' : i.val < 256 * (n % 4) + 256 := h1
        have h2' : 256 * (n / 4 % 8) ≤ j.val := h2
        have h3' : j.val < 256 * (n / 4 % 8) + 256 := h3
        omega
  refine funext fun y => ?_
  have e : y = ix2 (y 0) (y 1) := ix2_of y rfl rfl
  have h0 : (y 0).val < 1024 := (y 0).isLt
  have h1 : (y 1).val < 2048 := (y 1).isLt
  rw [e]
  exact key 32 (by decide) (y 0) (y 1) (by omega)

variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024x2048 .bf16) (harg6 : arg6.IsWhole) (arg7 : Memref sig .tc .vmem S1x1024x2048 .bf16) (harg7 : arg7.IsWhole) (arg8 : Memref sig .tc .vmem S1x1024x128 .bf16) (harg8 : arg8.IsWhole) (arg9 : Memref sig .tc .vmem S4x2048 .f32) (harg9 : arg9.IsWhole) (arg10 : Memref sig .tc .vmem S1x2048 .f32) (harg10 : arg10.IsWhole) (arg11 : Memref sig .tc .vmem S1024x2048 .bf16) (harg11 : arg11.IsWhole) (arg12 : Memref sig .tc .vmem S1024x2048 .bf16) (harg12 : arg12.IsWhole) (arg13 : Memref sig .tc .vmem S1024x128 .f32) (harg13 : arg13.IsWhole) (arg14 : Memref sig .tc .vmem S1024x1024 .bf16) (harg14 : arg14.IsWhole) (arg15 : Memref sig .tc .vmem S8x2048 .f32) (harg15 : arg15.IsWhole)
variable (x0 : Vec F S1024x1024 .f32) (x1 : Vec F S1x1024 .f32) (x2 : Vec F S1x1x1024 .f32) (x3 : Vec F S1x1x1024 .f32) (x4 : Vec F S1x1024x2048 .bf16) (x5 : Vec F S1x1024x2048 .bf16) (x6 : Vec F S1x1024x128 .bf16) (x7 : Vec F S4x2048 .f32) (x8 : Vec F S1x2048 .f32)

theorem canon_h : View.canon (hPieces arg2 harg2 arg3 harg3 arg4 harg4 arg5 harg5 x0 x1 x2 x3) = hOf x0 x1 x2 x3 := by
  refine funext fun y => ?_
  have e : y = ix2 (y 0) (y 1) := ix2_of y rfl rfl
  rw [e, hPieces]
  refine (canon_in (a := 1024) (b := 1024) (y 0) (y 1) ?_ ?_).trans ?_
  · exact (Nat.zero_add _).symm
  · exact (Nat.zero_add _).symm
  rw [hOf]
  refine congrFun (congr (congr (congr (congrArg _ ?_) ?_) ?_) ?_) _
  · exact (readAt_fun2 id id (fun x => (Nat.zero_add _).symm) (fun x => (Nat.zero_add _).symm)).trans (funext fun y => congrArg x0 (ix2_of y rfl rfl).symm)
  · exact (readAt_fun2 id id (fun x => (Nat.zero_add _).symm) (fun x => (Nat.zero_add _).symm)).trans (funext fun y => congrArg x1 (ix2_of y rfl rfl).symm)
  · exact (readAt_fun3 id id id (fun x => (Nat.zero_add _).symm) (fun x => (Nat.zero_add _).symm) (fun x => (Nat.zero_add _).symm)).trans (funext fun y => congrArg x2 (ix3_of y rfl rfl rfl).symm)
  · exact (readAt_fun3 id id id (fun x => (Nat.zero_add _).symm) (fun x => (Nat.zero_add _).symm) (fun x => (Nat.zero_add _).symm)).trans (funext fun y => congrArg x3 (ix3_of y rfl rfl rfl).symm)

theorem canon_g : View.canon (gPieces arg2 harg2 arg3 harg3 arg4 harg4 arg5 harg5 arg8 harg8 x0 x1 x2 x3 x6) = gOf x0 x1 x2 x3 x6 := by
  refine funext fun y => ?_
  have e : y = ix2 (y 0) (y 1) := ix2_of y rfl rfl
  rw [e, gPieces]
  refine (canon_in (a := 1024) (b := 128) (y 0) (y 1) ?_ ?_).trans ?_
  · exact (Nat.zero_add _).symm
  · exact (Nat.zero_add _).symm
  rw [gOf]
  refine congrFun (congr (congr (congr (congr (congrArg _ ?_) ?_) ?_) ?_) ?_) _
  · exact (readAt_fun2 id id (fun x => (Nat.zero_add _).symm) (fun x => (Nat.zero_add _).symm)).trans (funext fun y => congrArg x0 (ix2_of y rfl rfl).symm)
  · exact (readAt_fun2 id id (fun x => (Nat.zero_add _).symm) (fun x => (Nat.zero_add _).symm)).trans (funext fun y => congrArg x1 (ix2_of y rfl rfl).symm)
  · exact (readAt_fun3 id id id (fun x => (Nat.zero_add _).symm) (fun x => (Nat.zero_add _).symm) (fun x => (Nat.zero_add _).symm)).trans (funext fun y => congrArg x2 (ix3_of y rfl rfl rfl).symm)
  · exact (readAt_fun3 id id id (fun x => (Nat.zero_add _).symm) (fun x => (Nat.zero_add _).symm) (fun x => (Nat.zero_add _).symm)).trans (funext fun y => congrArg x3 (ix3_of y rfl rfl rfl).symm)
  · exact (readAt_fun3 id id id (fun x => (Nat.zero_add _).symm) (fun x => (Nat.zero_add _).symm) (fun x => (Nat.zero_add _).symm)).trans (funext fun y => congrArg x6 (ix3_of y rfl rfl rfl).symm)

/-- A load of the weights' columns under tile `n`. -/
theorem cols_eq (n : ℕ) (x : Vec F S1x1024x2048 .bf16) : arg6.view.readAt (Elt F) (colR n).toLoadRect (harg6.unread x)
    = fun y : S1x1024x256.Idx => x (ix3 (y 0) (y 1) ⟨256 * (n / 4 % 8) + (y 2).val, by have : (y 2).val < 256 := (y 2).isLt; omega⟩) :=
  readAt_fun3 id id (fun z => ⟨256 * (n / 4 % 8) + z.val, by omega⟩) (fun x => (Nat.zero_add _).symm) (fun x => (Nat.zero_add _).symm) fun _ => rfl

/-- A load of the rows of tile `n`: from a scratch as it was found, and from one just stored. -/
theorem rows_eq (n : ℕ) (h : Vec F S1024x1024 .bf16) : arg14.view.readAt (Elt F) (rowR n).toLoadRect (harg14.unread h)
    = fun y : S256x1024.Idx => h (ix2 ⟨256 * (n % 4) + (y 0).val, by have : (y 0).val < 256 := (y 0).isLt; omega⟩ (y 1)) :=
  readAt_fun2 (fun z => ⟨256 * (n % 4) + z.val, by omega⟩) id (fun _ => rfl) fun x => (Nat.zero_add _).symm
@[inherit_doc rows_eq] theorem rows_cov (n : ℕ) (P : List (View.Piece (Elt F) S1024x1024 .bf16)) : arg14.view.readCov P (rowR n).toLoadRect
    = fun y : S256x1024.Idx => View.canon P (ix2 ⟨256 * (n % 4) + (y 0).val, by have : (y 0).val < 256 := (y 0).isLt; omega⟩ (y 1)) :=
  readCov_fun2 (fun z => ⟨256 * (n % 4) + z.val, by omega⟩) id (fun _ => rfl) fun x => (Nat.zero_add _).symm

theorem dotT_eq (xs0 : Vec F S1024x1024 .bf16) (n : ℕ) : dotT arg14 (harg14.unread xs0) arg6 (harg6.unread x4) n = tile xs0 x4 n :=
  (congr (congrArg k0_pay7 (rows_eq arg14 harg14 n xs0)) (cols_eq arg6 harg6 n x4) : k0_pay7 _ _ = k0_pay7 _ _)

theorem yT_eq (n : ℕ) : yT arg2 harg2 arg3 harg3 arg4 harg4 arg5 harg5 arg6 harg6 arg14 x0 x1 x2 x3 x4 n = tile (hOf x0 x1 x2 x3) x4 n := by
  have hr := rows_cov arg14 n (hPieces arg2 harg2 arg3 harg3 arg4 harg4 arg5 harg5 x0 x1 x2 x3)
  rw [canon_h] at hr
  exact (congr (congrArg k0_pay7 hr) (cols_eq arg6 harg6 n x4) : k0_pay7 _ _ = k0_pay7 _ _)

/-- What a point that projects leaves. -/
theorem oBlk_eq (j : Fin 6) (xs0 : Vec F S1024x1024 .bf16) :
    oBlk j arg14 harg14 arg6 harg6 arg7 harg7 x4 x5 xs0 = oOf j xs0 (if j.val < 3 then x4 else x5) := by
  unfold oBlk oOf
  by_cases hj : j.val < 3
  · rw [if_pos hj, if_pos hj]
    exact canon_tiles _ _ fun n _ => by rw [oPieces, dotT_eq]
  · rw [if_neg hj, if_neg hj]
    exact canon_tiles _ _ fun n _ => by rw [oPieces, dotT_eq]

/-- After `n` tiles the columns not yet reached hold what they held. -/
theorem canon_c_out (first : Bool) (r : Fin 8) (j : Fin 2048) : ∀ n ≤ 32, n ≤ 4 * (j.val / 256) →
    View.canon (cPieces arg2 harg2 arg3 harg3 arg4 harg4 arg5 harg5 arg6 harg6 arg14 x0 x1 x2 x3 x4 first n) (ix2 r j : S8x2048.Idx) = View.canon (cPieces arg2 harg2 arg3 harg3 arg4 harg4 arg5 harg5 arg6 harg6 arg14 x0 x1 x2 x3 x4 first 0) (ix2 r j : S8x2048.Idx)
  | 0, _, _ => rfl
  | n + 1, hn, h => by
    rw [cPieces]
    refine (canon_out (a := 8) (b := 256) ?_).trans (canon_c_out first r j n (by omega) (by omega))
    rintro ⟨-, -, h2, h3⟩
    have h2' : 256 * (n / 4 % 8) ≤ j.val := h2
    have h3' : j.val < 256 * (n / 4 % 8) + 256 := h3
    omega

/-- After the tiles of a column the last one's rows are kept. -/
theorem canon_c_in (first : Bool) (r : Fin 8) (j : Fin 2048) : ∀ n ≤ 32, 4 * (j.val / 256) + 4 ≤ n →
    View.canon (cPieces arg2 harg2 arg3 harg3 arg4 harg4 arg5 harg5 arg6 harg6 arg14 x0 x1 x2 x3 x4 first n) (ix2 r j : S8x2048.Idx) = cOf (hOf x0 x1 x2 x3) x4 (ix2 r j)
  | 0, _, h => by omega
  | n + 1, hn, h => by
    have hj := j.isLt
    rw [cPieces, yT_eq]
    by_cases e : 4 * (j.val / 256) + 3 = n
    · refine (canon_in (a := 8) (b := 256) r ⟨j.val % 256, Nat.mod_lt _ (by decide)⟩ ?_ ?_).trans ?_
      · show r.val = 0 + r.val; omega
      · show j.val = 256 * (n / 4 % 8) + j.val % 256; omega
      · rw [← e]; rfl
    · refine (canon_out (a := 8) (b := 256) ?_).trans (canon_c_in first r j n (by omega) (by omega))
      rintro ⟨-, -, h2, h3⟩
      have h2' : 256 * (n / 4 % 8) ≤ j.val := h2
      have h3' : j.val < 256 * (n / 4 % 8) + 256 := h3
      omega

/-- The carried rows after a block. -/
theorem canon_c (first : Bool) : View.canon (cPieces arg2 harg2 arg3 harg3 arg4 harg4 arg5 harg5 arg6 harg6 arg14 x0 x1 x2 x3 x4 first 32) = cOf (hOf x0 x1 x2 x3) x4 := by
  refine funext fun y => ?_
  have e : y = ix2 (y 0) (y 1) := ix2_of y rfl rfl
  have h1 : (y 1).val < 2048 := (y 1).isLt
  rw [e]
  exact canon_c_in arg2 harg2 arg3 harg3 arg4 harg4 arg5 harg5 arg6 harg6 arg14 x0 x1 x2 x3 x4 first (y 0) (y 1) 32 (by decide) (by omega)

/-- The rows carried to tile `n`. -/
theorem cT_eq (first : Bool) (xs1 : Vec F S8x2048 .f32) (n : ℕ) (hn : n < 32) :
    cT arg2 harg2 arg3 harg3 arg4 harg4 arg5 harg5 arg6 harg6 arg14 arg15 harg15 x0 x1 x2 x3 x4 first xs1 n
      = above (if first = true then k0_pay346 else xs1) (hOf x0 x1 x2 x3) x4 n := by
  unfold cT above
  by_cases h : n % 4 = 0
  · rw [if_pos h]
    cases first with
    | false =>
      rw [if_pos (by simp [h]), if_neg (by decide)]
      exact readAt_fun2 id (fun z => ⟨256 * (n / 4 % 8) + z.val, by omega⟩) (fun x => (Nat.zero_add _).symm) fun _ => rfl
    | true =>
      rw [if_neg (by simp), if_pos rfl]
      refine (readCov_fun2 id (fun z => ⟨256 * (n / 4 % 8) + z.val, by omega⟩) (fun x => (Nat.zero_add _).symm) fun _ => rfl).trans (funext fun y => ?_)
      have h1 : (y 1).val < 256 := (y 1).isLt
      refine (canon_c_out arg2 harg2 arg3 harg3 arg4 harg4 arg5 harg5 arg6 harg6 arg14 x0 x1 x2 x3 x4 true _ _ n (by omega) ?_).trans ?_
      · show n ≤ 4 * ((256 * (n / 4 % 8) + (y 1).val) / 256); omega
      · rw [cPieces, if_pos rfl]
        exact canon_in (a := 8) (b := 2048) _ _ (Nat.zero_add _).symm (Nat.zero_add _).symm
  · rw [if_neg h, if_neg (by simp [h])]
    refine (readCov_fun2 id (fun z => ⟨256 * (n / 4 % 8) + z.val, by omega⟩) (fun x => (Nat.zero_add _).symm) fun _ => rfl).trans (funext fun y => ?_)
    have h1 : (y 1).val < 256 := (y 1).isLt
    obtain ⟨k, rfl⟩ : ∃ k, n = k + 1 := ⟨n - 1, by omega⟩
    rw [cPieces, yT_eq]
    refine (canon_in (a := 8) (b := 256) (y 0) (y 1) ?_ ?_).trans ?_
    · exact (Nat.zero_add _).symm
    · show 256 * ((k + 1) / 4 % 8) + (y 1).val = 256 * (k / 4 % 8) + (y 1).val; omega
    · exact congrArg _ (ix2_of y rfl rfl).symm

/-- The convolved block. -/
theorem canon_q (first : Bool) (xs1 : Vec F S8x2048 .f32) :
    View.canon (qPieces arg2 harg2 arg3 harg3 arg4 harg4 arg5 harg5 arg6 harg6 arg9 harg9 arg10 harg10 arg14 arg15 harg15 x0 x1 x2 x3 x4 x7 x8 first xs1 32)
      = qOf (if first = true then k0_pay346 else xs1) (hOf x0 x1 x2 x3) x4 x7 x8 := by
  have ht : ∀ (k : Fin 4) (n : ℕ), arg9.view.readAt (Elt F) (tapR k.val n).toLoadRect (harg9.unread x7) = tapOf x7 k n := fun k n =>
    (readAt_fun2 (fun _ => k) (fun z => ⟨256 * (n / 4 % 8) + z.val, by omega⟩) (fun x => by show k.val = k.val % 4 + x.val; omega) fun _ => rfl).trans rfl
  have hb : ∀ n : ℕ, arg10.view.readAt (Elt F) (biasR n).toLoadRect (harg10.unread x8) = biasOf x8 n := fun n =>
    readAt_fun2 id (fun z => ⟨256 * (n / 4 % 8) + z.val, by omega⟩) (fun x => (Nat.zero_add _).symm) fun _ => rfl
  refine canon_tiles _ _ fun n hn => ?_
  rw [qPieces, yT_eq, cT_eq _ _ _ _ _ _ _ _ _ _ _ _ _ _ _ _ _ _ _ _ n hn, hb]
  have h0 : arg9.view.readAt (Elt F) (tapR 0 n).toLoadRect (harg9.unread x7) = tapOf x7 0 n := ht 0 n
  have h1 : arg9.view.readAt (Elt F) (tapR 1 n).toLoadRect (harg9.unread x7) = tapOf x7 1 n := ht 1 n
  have h2 : arg9.view.readAt (Elt F) (tapR 2 n).toLoadRect (harg9.unread x7) = tapOf x7 2 n := ht 2 n
  have h3 : arg9.view.readAt (Elt F) (tapR 3 n).toLoadRect (harg9.unread x7) = tapOf x7 3 n := ht 3 n
  rw [h0, h1, h2, h3, qTile]

end Cert.Kernel3Ideal.In

end
-- ==== Proof.InFrame.lean ====
module

public import proofs.«01_k».proof.Proof.InBlocks
public import Idealize.ShloMosaic.Lib.Pipeline.FrameBody
public import Idealize.ShloMosaic.Lib.Pipeline.TableIdle
public import Idealize.ShloMosaic.Lib.Claim

/-! The input projections: what every point of the launch leaves, and the launch as a whole. -/

@[expose] public section

set_option maxRecDepth 16384

noncomputable section

namespace Cert.Kernel3Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What the launch finds: the arguments, and the two vectors reshaped to one row. -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The two reshapes write no other array. -/
theorem V_kept (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact ⟨StableHlo.devRef_ne_of_ne h0, StableHlo.devRef_ne_of_ne h1⟩))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! What the points leave. -/

/-- The first point of `t`'s block of rows. -/
abbrev base (t : Fin cfg0.N) : Fin cfg0.N := ⟨t.val - t.val % 7, by omega⟩

theorem base_base (t : Fin cfg0.N) : base (base t) = base t := Fin.ext (by show t.val - t.val % 7 - (t.val - t.val % 7) % 7 = t.val - t.val % 7; omega)
theorem base_of (t : Fin cfg0.N) (h : t.val % 7 = 0) : base t = t := Fin.ext (by show t.val - t.val % 7 = t.val; omega)
theorem base_before (t : Fin cfg0.N) (h : ¬t.val % 7 = 0) (hp : t.val - 1 < cfg0.N) : base ⟨t.val - 1, hp⟩ = base t :=
  Fin.ext (by show t.val - 1 - (t.val - 1) % 7 = t.val - t.val % 7; omega)

/-- The normalised rows of `t`'s block of rows; -/
def rowsAt (c : Dev nD) (t : Fin cfg0.N) : Vec F S1024x1024 .bf16 :=
  hOf (iblk m c 0 (base t)) (iblk m c 1 (base t)) (iblk m c 2 (base t)) (iblk m c 3 (base t))
/-- the last eight rows of the projection the convolution reads; -/
def lastAt (c : Dev nD) (t : Fin cfg0.N) : Vec F S8x2048 .f32 := cOf (rowsAt m c t) (iblk m c 4 (base t))
/-- those the block of rows finds: zero at the head of a sequence, what the block before left elsewhere; -/
def prevAt (c : Dev nD) (t : Fin cfg0.N) : Vec F S8x2048 .f32 :=
  if t.val % 28 < 7 then k0_pay346 else lastAt m c ⟨t.val - 7, by omega⟩
/-- the convolved projection; -/
def convAt (c : Dev nD) (t : Fin cfg0.N) : Vec F S1024x2048 .bf16 :=
  qOf (prevAt m c (base t)) (rowsAt m c t) (iblk m c 4 (base t)) (iblk m c 7 (base t)) (iblk m c 8 (base t))
/-- the gates; -/
def gateAt (c : Dev nD) (t : Fin cfg0.N) : Vec F S1024x128 .f32 :=
  gOf (iblk m c 0 (base t)) (iblk m c 1 (base t)) (iblk m c 2 (base t)) (iblk m c 3 (base t)) (iblk m c 6 (base t))
/-- the projection of point `t`. -/
def projAt (c : Dev nD) (t : Fin cfg0.N) : Vec F S1024x2048 .bf16 :=
  oOf ⟨t.val % 7 - 1, by omega⟩ (rowsAt m c t) (if t.val % 7 - 1 < 3 then iblk m c 4 t else iblk m c 5 t)

theorem rowsAt_before (c : Dev nD) (t : Fin cfg0.N) (h : ¬t.val % 7 = 0) (hp : t.val - 1 < cfg0.N) : rowsAt m c ⟨t.val - 1, hp⟩ = rowsAt m c t := by
  unfold rowsAt; rw [base_before t h hp]
theorem lastAt_before (c : Dev nD) (t : Fin cfg0.N) (h : ¬t.val % 7 = 0) (hp : t.val - 1 < cfg0.N) : lastAt m c ⟨t.val - 1, hp⟩ = lastAt m c t := by
  unfold lastAt; rw [base_before t h hp, rowsAt_before m c t h hp]
theorem convAt_before (c : Dev nD) (t : Fin cfg0.N) (h : ¬t.val % 7 = 0) (hp : t.val - 1 < cfg0.N) : convAt m c ⟨t.val - 1, hp⟩ = convAt m c t := by
  unfold convAt; rw [base_before t h hp, rowsAt_before m c t h hp]
theorem gateAt_before (c : Dev nD) (t : Fin cfg0.N) (h : ¬t.val % 7 = 0) (hp : t.val - 1 < cfg0.N) : gateAt m c ⟨t.val - 1, hp⟩ = gateAt m c t := by
  unfold gateAt; rw [base_before t h hp]
/-- At the first point of a later block of rows of a sequence the eight rows are those the point before left. -/
theorem prevAt_later (c : Dev nD) (t : Fin cfg0.N) (h : t.val % 7 = 0) (h' : ¬t.val % 28 = 0) (hp : t.val - 1 < cfg0.N) :
    lastAt m c ⟨t.val - 1, hp⟩ = prevAt m c t := by
  have hb : base ⟨t.val - 1, hp⟩ = base ⟨t.val - 7, by omega⟩ :=
    Fin.ext (by show t.val - 1 - (t.val - 1) % 7 = t.val - 7 - (t.val - 7) % 7; omega)
  unfold prevAt; rw [if_neg (by omega)]; unfold lastAt rowsAt; rw [hb]

/-- The scratch between the points. -/
def Between (c : Dev nD) : (n : ℕ) → n ≤ cfg0.N → sProp 𝕄
  | 0, _ => Pipeline.ΦA spec0 c
  | n + 1, hn => iprop(iprop(owns (c : Thread nD τ) scH fullShare (rowsAt m c ⟨n, hn⟩) ∗ owns (c : Thread nD τ) scC fullShare (lastAt m c ⟨n, hn⟩)) ∗ (∃ r, prngReg c r))

theorem between_pos (c : Dev nD) (t : Fin (cfg0.N + 1)) (h : t.val ≠ 0) (hp : t.val - 1 < cfg0.N) :
    Between m c t.val (Nat.le_of_lt_succ t.isLt)
      = iprop(iprop(owns (c : Thread nD τ) scH fullShare (rowsAt m c ⟨t.val - 1, hp⟩) ∗ owns (c : Thread nD τ) scC fullShare (lastAt m c ⟨t.val - 1, hp⟩)) ∗ (∃ r, prngReg c r)) := by
  obtain ⟨n, hn⟩ := t
  cases n with
  | zero => exact absurd rfl h
  | succ k => rfl

/-- The launch's data: the arrays it finds, what each point leaves in every window, and the scratch between. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => projAt m c t
    | 10 => convAt m c t
    | 11 => gateAt m c t
  Φ t := Between m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

/-! A window of an argument holds its block. -/
theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem before5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl
theorem before6 (c : Dev nD) (t : Fin cfg0.N) (d) : (dats m 0 c).before 6 t d = iblk m c 6 t :=
  ((dats m 0 c).before_in_eq_fetched 6 rfl (fun _ => rfl) (fun _ _ _ => rfl) (fun _ => rfl) t d).trans rfl
theorem before7 (c : Dev nD) (t : Fin cfg0.N) (d) : (dats m 0 c).before 7 t d = iblk m c 7 t :=
  ((dats m 0 c).before_in_eq_fetched 7 rfl (fun _ => rfl) (fun _ _ _ => rfl) (fun _ => rfl) t d).trans rfl
theorem before8 (c : Dev nD) (t : Fin cfg0.N) (d) : (dats m 0 c).before 8 t d = iblk m c 8 t :=
  ((dats m 0 c).before_in_eq_fetched 8 rfl (fun _ => rfl) (fun _ _ _ => rfl) (fun _ => rfl) t d).trans rfl

/-- The convolved block and the gates stay where they are until the block of rows is done. -/
theorem carry10 (c : Dev nD) (t : Fin cfg0.N) (_ : t.val ≠ 0) (hi : cfg0.idle 10 (grid0.coords t) = true) (_ : cfg0.fresh 10 t.val = false) :
    (dats m 0 c).after 10 t = (dats m 0 c).after 10 ⟨t.val - 1, by omega⟩ :=
  (convAt_before m c t (of_decide_eq_true ((idle10 t).symm.trans hi)) (by omega)).symm
@[inherit_doc carry10] theorem carry11 (c : Dev nD) (t : Fin cfg0.N) (_ : t.val ≠ 0) (hi : cfg0.idle 11 (grid0.coords t) = true) (_ : cfg0.fresh 11 t.val = false) :
    (dats m 0 c).after 11 t = (dats m 0 c).after 11 ⟨t.val - 1, by omega⟩ :=
  (gateAt_before m c t (of_decide_eq_true ((idle11 t).symm.trans hi)) (by omega)).symm

theorem before10 (c : Dev nD) (t : Fin cfg0.N) (h : ¬t.val % 7 = 0) (d) : (dats m 0 c).before 10 t d = convAt m c t :=
  ((dats m 0 c).before_out_traj 10 rfl (fun _ _ => rfl) (carry10 m c) t.val t rfl d).trans
    ((if_neg (by rw [fresh10 t, decide_eq_false h]; exact Bool.false_ne_true)).trans (convAt_before m c t h (by omega)))
theorem before11 (c : Dev nD) (t : Fin cfg0.N) (h : ¬t.val % 7 = 0) (d) : (dats m 0 c).before 11 t d = gateAt m c t :=
  ((dats m 0 c).before_out_traj 11 rfl (fun _ _ => rfl) (carry11 m c) t.val t rfl d).trans
    ((if_neg (by rw [fresh11 t, decide_eq_false h]; exact Bool.false_ne_true)).trans (gateAt_before m c t h (by omega)))

/-- What a point must leave in a window it writes. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- In one it leaves alone, that it holds already. -/
theorem leaves_kept (c : Dev nD) (w : Fin cfg0.W) (t : Fin cfg0.N) (h : cfg0.idle w (grid0.coords t) = true) (d)
    (hd : (cfg0.win w).flush t = true → (dats m 0 c).before w t d = (dats m 0 c).after w t) :
    owns (c : Thread nD τ) ((cfg0.win w).stage (cfg0.slots t w)) fullShare ((dats m 0 c).before w t d) ⊢ (dats m 0 c).leavesExact w t := by
  by_cases hf : (cfg0.win w).flush t = true
  · unfold Dat.leavesExact; rw [h, hf, hd hf]
  · rw [Dat.leavesExact_idle _ w t h (Bool.not_eq_true _ ▸ hf)]
    iintro H; iexists d; iexact H

/-! The body at a point. -/

/-- What the body is called with, -/
def bodyPre (c : Dev nD) (t : Fin cfg0.N) (X : sProp 𝕄) : sProp 𝕄 :=
  iprop(X ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- The first point of a block of rows, run from the eight rows it finds. -/
theorem body_first (c : Dev nD) (t : Fin cfg0.N) (h : t.val % 7 = 0) (xs1 : Vec F S8x2048 .f32)
    (hx : (if decide (t.val % 28 = 0) = true then k0_pay346 else xs1) = prevAt m c t) :
    bodyPre m c t iprop(iprop((∃ d, owns (c : Thread nD τ) scH fullShare d) ∗ owns (c : Thread nD τ) scC fullShare xs1) ∗ (∃ r, prngReg c r))
      ⊢ wp frame (wpE (defs₀ (F := F)) Variants.none c none) Set.univ (bodyAt0 t) (fun _ => bodyPost m c t) := by
  have run := fun xi9 => run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) scH (Memref.isWhole_whole cc0_scratch0) scC (Memref.isWhole_whole cc0_scratch1) (iblk m c 0 t) (iblk m c 1 t) (iblk m c 2 t) (iblk m c 3 t) (iblk m c 4 t) (iblk m c 5 t) (iblk m c 6 t) (iblk m c 7 t) (iblk m c 8 t) (decide (t.val % 28 = 0)) ((hNorm t).mpr h)
    ((hSeq t).trans decide_eq_true_iff.symm) ((hConv t).mpr h) (fun k hk => by have := (hProj k t).mp hk; omega) xi9 xs1
  simp only [canon_q, canon_g, canon_h, canon_c, hx] at run
  unfold bodyPre bodyPost bodyAt0
  simp only [before0, before1, before2, before3, before4, before5, before6, before7, before8]
  rw [show (dats m 0 c).owesAt () t.succ = (dats m 0 c).owesAt () t.castSucc from rfl]
  rw [leaves_live m c 0 t rfl, leaves_live m c 1 t rfl, leaves_live m c 2 t rfl, leaves_live m c 3 t rfl, leaves_live m c 4 t rfl,
    leaves_live m c 5 t rfl, leaves_live m c 6 t rfl, leaves_live m c 7 t rfl, leaves_live m c 8 t rfl]
  rw [leaves_live m c 10 t ((idle10 t).trans (decide_eq_false (not_not.mpr h))), leaves_live m c 11 t ((idle11 t).trans (decide_eq_false (not_not.mpr h)))]
  rw [show (dats m 0 c).Φ t.succ = iprop(iprop(owns (c : Thread nD τ) scH fullShare (hOf (iblk m c 0 t) (iblk m c 1 t) (iblk m c 2 t) (iblk m c 3 t)) ∗ owns (c : Thread nD τ) scC fullShare (cOf (hOf (iblk m c 0 t) (iblk m c 1 t) (iblk m c 2 t) (iblk m c 3 t)) (iblk m c 4 t))) ∗ (∃ r, prngReg c r)) from by
    show iprop(iprop(owns (c : Thread nD τ) scH fullShare (rowsAt m c t) ∗ owns (c : Thread nD τ) scC fullShare (lastAt m c t)) ∗ (∃ r, prngReg c r)) = _
    unfold lastAt rowsAt; rw [base_of t h]]
  rw [show (dats m 0 c).after 10 t = qOf (prevAt m c t) (hOf (iblk m c 0 t) (iblk m c 1 t) (iblk m c 2 t) (iblk m c 3 t)) (iblk m c 4 t) (iblk m c 7 t) (iblk m c 8 t) from by
    show convAt m c t = _
    unfold convAt rowsAt; rw [base_of t h]]
  rw [show (dats m 0 c).after 11 t = gOf (iblk m c 0 t) (iblk m c 1 t) (iblk m c 2 t) (iblk m c 3 t) (iblk m c 6 t) from by
    show gateAt m c t = _
    unfold gateAt; rw [base_of t h]]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [HS1]; · iexact HS1
  iintro ⟨H0, H1, H2, H3, H4, H5, H6, H7, H8, H9, H10, H11, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (leaves_kept m c 9 t ((idle9 t).trans (decide_eq_true h)) d9 (fun hf => absurd h (of_decide_eq_true ((flush9 t).symm.trans hf)))); iexact H9
  isplitl [H10]; · iexact H10
  iexact H11

set_option maxHeartbeats 4000000 in
/-- The point of a projection. -/
theorem body_proj (c : Dev nD) (t : Fin cfg0.N) (h : ¬t.val % 7 = 0) :
    bodyPre m c t iprop(iprop(owns (c : Thread nD τ) scH fullShare (rowsAt m c t) ∗ owns (c : Thread nD τ) scC fullShare (lastAt m c t)) ∗ (∃ r, prngReg c r))
      ⊢ wp frame (wpE (defs₀ (F := F)) Variants.none c none) Set.univ (bodyAt0 t) (fun _ => bodyPost m c t) := by
  have run := run_proj c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) scH (Memref.isWhole_whole cc0_scratch0) scC (Memref.isWhole_whole cc0_scratch1) (iblk m c 0 t) (iblk m c 1 t) (iblk m c 2 t) (iblk m c 3 t) (iblk m c 4 t) (iblk m c 5 t) (iblk m c 6 t) (iblk m c 7 t) (iblk m c 8 t) ⟨t.val % 7 - 1, by omega⟩ (fun h' => h ((hNorm t).mp h'))
    (fun h' => by have := (hSeq t).mp h'; omega) (fun h' => h ((hConv t).mp h'))
    (fun k => (hProj k t).trans ⟨fun e => Fin.ext (by show k.val = t.val % 7 - 1; omega), fun e => by have := congrArg Fin.val e; dsimp only at this; omega⟩)
  simp only [oBlk_eq] at run
  unfold bodyPre bodyPost bodyAt0
  simp only [before0, before1, before2, before3, before4, before5, before6, before7, before8]
  rw [show (dats m 0 c).owesAt () t.succ = (dats m 0 c).owesAt () t.castSucc from rfl]
  rw [leaves_live m c 0 t rfl, leaves_live m c 1 t rfl, leaves_live m c 2 t rfl, leaves_live m c 3 t rfl, leaves_live m c 4 t rfl,
    leaves_live m c 5 t rfl, leaves_live m c 6 t rfl, leaves_live m c 7 t rfl, leaves_live m c 8 t rfl]
  rw [leaves_live m c 9 t ((idle9 t).trans (decide_eq_false h))]
  rw [show (dats m 0 c).Φ t.succ = iprop(iprop(owns (c : Thread nD τ) scH fullShare (rowsAt m c t) ∗ owns (c : Thread nD τ) scC fullShare (lastAt m c t)) ∗ (∃ r, prngReg c r)) from rfl]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [HS0]; · iexact HS0
  isplitl [HS1]; · iexact HS1
  iintro ⟨H0, H1, H2, H3, H4, H5, H6, H7, H8, H9, H10, H11, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (leaves_kept m c 10 t ((idle10 t).trans (decide_eq_true h)) d10 (fun _ => before10 m c t h d10)); iexact H10
  iapply (leaves_kept m c 11 t ((idle11 t).trans (decide_eq_true h)) d11 (fun _ => before11 m c t h d11)); iexact H11

/-- The body at any point, from the scratch the points before left. -/
theorem sound_body (c : Dev nD) (t : Fin cfg0.N) :
    bodyPre m c t ((dats m 0 c).Φ t.castSucc) ⊢ wp frame (wpE (defs₀ (F := F)) Variants.none c none) Set.univ (bodyAt0 t) (fun _ => bodyPost m c t) := by
  rw [show (dats m 0 c).Φ t.castSucc = Between m c t.castSucc.val (Nat.le_of_lt_succ t.castSucc.isLt) from rfl]
  by_cases hz : t.val = 0
  · have hx : ∀ d, (if decide (t.val % 28 = 0) = true then k0_pay346 else d) = prevAt m c t := fun d => by
      unfold prevAt; rw [if_pos (by rw [hz]; rfl), if_pos (by rw [hz]; decide)]
    have e : Between m c t.castSucc.val (Nat.le_of_lt_succ t.castSucc.isLt) = Pipeline.ΦA spec0 c := by
      obtain ⟨n, hn⟩ := t; subst hz; rfl
    rw [e, handed_eq]
    unfold bodyPre
    iintro ⟨⟨⟨HS0, ⟨%d, HS1⟩⟩, Hg⟩, Hr⟩
    iapply (body_first m c t (by omega) d (hx d))
    unfold bodyPre
    isplitl [HS0 HS1 Hg]
    · isplitl [HS0 HS1]
      · isplitl [HS0]
        · iexact HS0
        iexact HS1
      iexact Hg
    iexact Hr
  · rw [between_pos m c t.castSucc hz (by have := t.isLt; show t.val - 1 < _; omega)]
    by_cases h : t.val % 7 = 0
    · have hx : (if decide (t.val % 28 = 0) = true then k0_pay346 else lastAt m c ⟨t.val - 1, by omega⟩) = prevAt m c t := by
        by_cases h' : t.val % 28 = 0
        · unfold prevAt; rw [if_pos (decide_eq_true h'), if_pos (by omega)]
        · rw [if_neg (by rw [decide_eq_false h']; exact Bool.false_ne_true)]
          exact prevAt_later m c t h h' _
      unfold bodyPre
      iintro ⟨⟨⟨HS0, HS1⟩, Hg⟩, Hr⟩
      iapply (body_first m c t h (lastAt m c ⟨t.val - 1, by omega⟩) hx)
      unfold bodyPre
      isplitl [HS0 HS1 Hg]
      · isplitl [HS0 HS1]
        · isplitl [HS0]
          · iexists _; iexact HS0
          iexact HS1
        iexact Hg
      iexact Hr
    · rw [show rowsAt m c ⟨t.castSucc.val - 1, _⟩ = rowsAt m c t from rowsAt_before m c t h (by omega),
        show lastAt m c ⟨t.castSucc.val - 1, _⟩ = lastAt m c t from lastAt_before m c t h (by omega)]
      exact body_proj m c t h

/-! The launch. -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = _ from between_pos m c (Fin.last cfg0.N) (by rw [Fin.val_last, show cfg0.N = 224 from N_0]; decide)
    (by rw [Fin.val_last, show cfg0.N = 224 from N_0]; decide), handed_eq]
  iintro ⟨⟨HS0, HS1⟩, Hg⟩
  isplitl [HS0 HS1]
  · isplitl [HS0]
    · iexists _; iexact HS0
    iexists _; iexact HS1
  iexact Hg

set_option backward.isDefEq.respectTransparency.types false in
/-- Every run ends, with every window's array at what the points wrote back, the others as they were, and no semaphore raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun _ h c => ?_) (run_main_quiescent m ρ)
  have kept : ∀ w : Fin cfg0.W, (hw : (cfg0.win w).isOut = false) → ∀ t, (dats m 0 c).arrAt w t = V m c (Pipeline.arrRef spec0 w) :=
    fun w hw t => ((dats m 0 c).arrAt_in w hw t).trans (A_eq m c w)
  exact ⟨((h.1 c).1 0).trans ((kept 0 rfl _).trans (V_kept m c main_arg0 (by decide) (by decide))),
    ((h.1 c).2 main_arg1 (Pipeline.mem_restRefs_of main_arg1 (by decide) (by decide))).trans (V_kept m c main_arg1 (by decide) (by decide)),
    ((h.1 c).1 3).trans ((kept 3 rfl _).trans (V_kept m c main_arg2 (by decide) (by decide))),
    ((h.1 c).1 4).trans ((kept 4 rfl _).trans (V_kept m c main_arg3 (by decide) (by decide))),
    ((h.1 c).1 5).trans ((kept 5 rfl _).trans (V_kept m c main_arg4 (by decide) (by decide))),
    ((h.1 c).1 6).trans ((kept 6 rfl _).trans (V_kept m c main_arg5 (by decide) (by decide))),
    ((h.1 c).1 7).trans ((kept 7 rfl _).trans (V_kept m c main_arg6 (by decide) (by decide))),
    ((h.1 c).2 main_arg7 (Pipeline.mem_restRefs_of main_arg7 (by decide) (by decide))).trans (V_kept m c main_arg7 (by decide) (by decide))⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel3Ideal.In

end
-- ==== Proof.InBits.lean ====
module

public import proofs.«01_k».proof.Defs
public import proofs.«01_k».proof.Proof.Gen.Kernel3
public import proofs.«01_k».proof.Proof.InFrame

/-! The input projections in their own number formats: the same program as over the extended reals, so the same frame. -/

@[expose] public section

set_option maxRecDepth 65536

noncomputable section

namespace Cert.Kernel3.In

open Idealize.ShloMosaic Idealize.SL.Sem

/-- The two programs call the same body. -/
theorem body_eq : (Cert.Kernel3.defs₀ (F := Bits)) = Cert.Kernel3Ideal.defs₀ (F := Bits) := by
  unfold Cert.Kernel3.defs₀ Cert.Kernel3Ideal.defs₀
  refine congrArg Defs.onTc (funext fun l => ?_)
  match l with
  | ⟨0, _⟩ => exact funext fun _ => rfl

/-- The two programs' launches are the same. -/
theorem defs_eq : (Cert.Kernel3.defs (F := Bits)) = Cert.Kernel3Ideal.defs (F := Bits) :=
  congrArg (Pipeline.defs Cert.Kernel3Ideal.pcfgs) body_eq

/-- The input projections run, leave their arguments as they were and hold no semaphore. -/
theorem frame : Cert.quiescent_Kernel3 := fun m ρ _ => by
  rw [defs_eq]
  exact Cert.Kernel3Ideal.In.frame (F := Bits) m ρ

end Cert.Kernel3.In

end
-- ==== Proof.InSpec.lean ====
module

public import Idealize.ShloMosaic.Lib.Pointwise
public import Idealize.ShloMosaic.Lib.ValueIdx

/-! The input projections of a layer over the extended reals, one token at a time: the modulated norm, the two
    groups of projections and the gates, and the causal convolution of the queries and keys. -/

@[expose] public section

noncomputable section

namespace Cert.Inproj

open Idealize.ShloMosaic Idealize.SL.Sem

/-- What the projections read: the residual stream `x` of 8 sequences of 4096 tokens, the norm's weights `g`, the
    modulation `mod`, the two groups of weights `wl` and `wh`, the gates' weights `wg`, the convolution's taps `cw`
    and bias `cb`. -/
structure Args where
  x : FVec Ideal (⟨2, ![32768, 1024]⟩ : Shape) .f32
  g : FVec Ideal (⟨1, ![1024]⟩ : Shape) .f32
  mod : FVec Ideal (⟨3, ![8, 1, 3072]⟩ : Shape) .f32
  wl : FVec Ideal (⟨3, ![2, 1024, 8192]⟩ : Shape) .bf16
  wh : FVec Ideal (⟨3, ![2, 1024, 6144]⟩ : Shape) .bf16
  wg : FVec Ideal (⟨3, ![2, 1024, 128]⟩ : Shape) .bf16
  cw : FVec Ideal (⟨2, ![4, 2048]⟩ : Shape) .f32
  cb : FVec Ideal (⟨1, ![2048]⟩ : Shape) .f32

/-- A number times its logistic. -/
def silu (z : EReal) : EReal := z * Ideal.logistic z

namespace Args

variable (A : Args)

/-- The row of token `r` after its norm and modulation. -/
def h (r : Fin 32768) (k : Fin 1024) : EReal :=
  A.x (ix2 r k) * Ideal.rsqrt (Ideal.div (∑ l : Fin 1024, A.x (ix2 r l) * A.x (ix2 r l)) (Ideal.ofBits .f32 1149239296#32)
      + Ideal.ofBits .f32 897988541#32) * A.g (ix1 k)
    * (1 + A.mod (ix3 ⟨r.val / 4096, by omega⟩ 0 ⟨1024 + k.val, by omega⟩))
    + A.mod (ix3 ⟨r.val / 4096, by omega⟩ 0 ⟨k.val, by omega⟩)

/-- The first group of projections. -/
def lo (r : Fin 32768) (e : Fin 8192) : EReal := ∑ k : Fin 1024, A.h r k * A.wl (ix3 0 k e)

/-- The second group of projections. -/
def hi (r : Fin 32768) (e : Fin 6144) : EReal := ∑ k : Fin 1024, A.h r k * A.wh (ix3 0 k e)

/-- The gates. -/
def gates (r : Fin 32768) (e : Fin 128) : EReal := ∑ k : Fin 1024, A.h r k * A.wg (ix3 0 k e)

/-- What the convolution reads `d` tokens back: nothing before the sequence's first. -/
def back (d : ℕ) (r : Fin 32768) (e : Fin 2048) : EReal :=
  if d ≤ r.val % 4096 then A.lo ⟨r.val - d, by omega⟩ ⟨e.val, by omega⟩ else 0

/-- The causal convolution of the first 2048 columns. -/
def conv (r : Fin 32768) (e : Fin 2048) : EReal :=
  A.lo r ⟨e.val, by omega⟩ * A.cw (ix2 3 e) + A.cb (ix1 e) + A.back 3 r e * A.cw (ix2 0 e) + A.back 2 r e * A.cw (ix2 1 e)
    + A.back 1 r e * A.cw (ix2 2 e)

/-- The projections of token `r`, those of both groups side by side, each through its own activation. -/
def out (r : Fin 32768) (e : Fin 12288) : EReal :=
  if h1 : e.val < 2048 then A.lo r ⟨2048 + e.val, by omega⟩
  else if h2 : e.val < 4096 then Ideal.logistic (A.lo r ⟨2048 + e.val, by omega⟩)
  else if h3 : e.val < 6144 then silu (A.lo r ⟨2048 + e.val, by omega⟩)
  else if e.val < 9216 then A.hi r ⟨e.val - 6144, by omega⟩
  else if e.val < 10240 then silu (A.hi r ⟨e.val - 6144, by omega⟩)
  else Ideal.logistic (A.hi r ⟨e.val - 6144, by omega⟩)

end Args

end Cert.Inproj

end
-- ==== Proof.InValue.lean ====
module

public import proofs.«01_k».proof.Proof.InFrame
public import proofs.«01_k».proof.Proof.InSpec

/-! The input projections' blocks over the extended reals, element by element. -/

@[expose] public section

set_option backward.proofsInPublic true
set_option maxRecDepth 16384

noncomputable section

namespace Cert.Kernel3Ideal.In

open Idealize.ShloMosaic Idealize.ShloMosaic.TcCoe Idealize.SL.Sem
open Cert.Kernel3Ideal Cert.Kernel3Ideal.Gen Cert.Inproj

/-- The modulated norm of a block's rows. -/
theorem norm_apply (x : FVec Ideal S1024x1024 .f32) (g : FVec Ideal S1x1024 .f32) (s b : FVec Ideal S1x1x1024 .f32) (r k : Fin 1024) :
    (k0_pay343 x g s b : FVec Ideal S1024x1024 .bf16) (ix2 r k)
      = x (ix2 r k) * Ideal.rsqrt (Ideal.div (∑ l : Fin 1024, x (ix2 r l) * x (ix2 r l)) (Ideal.ofBits .f32 1149239296#32)
          + Ideal.ofBits .f32 897988541#32) * g (ix2 0 k) * (1 + s (ix3 0 0 k)) + b (ix3 0 0 k) := by
  unfold k0_pay343
  pointwise

theorem hOf_apply (x : FVec Ideal S1024x1024 .f32) (g : FVec Ideal S1x1024 .f32) (s b : FVec Ideal S1x1x1024 .f32) (r k : Fin 1024) :
    (hOf (F := Ideal) x g s b : FVec Ideal S1024x1024 .bf16) (ix2 r k) = (k0_pay343 x g s b : FVec Ideal S1024x1024 .bf16) (ix2 r k) := by
  unfold hOf k0_pay344
  pointwise

/-- The gates of a block's rows. -/
theorem gOf_apply (x : FVec Ideal S1024x1024 .f32) (g : FVec Ideal S1x1024 .f32) (s b : FVec Ideal S1x1x1024 .f32) (w : FVec Ideal S1x1024x128 .bf16)
    (r : Fin 1024) (e : Fin 128) :
    (gOf (F := Ideal) x g s b w : FVec Ideal S1024x128 .f32) (ix2 r e) = ∑ k : Fin 1024, (hOf (F := Ideal) x g s b : FVec Ideal S1024x1024 .bf16) (ix2 r k) * w (ix3 0 k e) := by
  simp only [hOf_apply]
  unfold gOf k0_pay345
  pointwise

/-- A product of rows and columns. -/
theorem pay7_apply (h : FVec Ideal S256x1024 .bf16) (w : FVec Ideal S1x1024x256 .bf16) (p q : Fin 256) :
    (k0_pay7 h w : FVec Ideal S256x256 .f32) (ix2 p q) = ∑ k : Fin 1024, h (ix2 p k) * w (ix3 0 k q) := by
  unfold k0_pay7
  pointwise

/-- The last eight rows of a tile. -/
theorem pay13_apply (y : FVec Ideal S256x256 .f32) (p : Fin 8) (q : Fin 256) :
    (k0_pay13 y : FVec Ideal S8x256 .f32) (ix2 p q) = y (ix2 ⟨248 + p.val, by omega⟩ q) := by
  unfold k0_pay13
  pointwise

/-- A tile with the eight rows above it, read `d` rows back. -/
def backT (u : FVec Ideal S8x256 .f32) (y : FVec Ideal S256x256 .f32) (d : ℕ) (hd : 1 ≤ d ∧ d ≤ 3) (p q : Fin 256) : EReal :=
  if h : d ≤ p.val then y (ix2 ⟨p.val - d, by omega⟩ q) else u (ix2 ⟨8 + p.val - d, by omega⟩ q)

/-- The tile with the eight rows before it, read at row `a` below the start of those. -/
theorem backT_of (u : FVec Ideal S8x256 .f32) (y : FVec Ideal S256x256 .f32) (d : ℕ) (hd : 1 ≤ d ∧ d ≤ 3) (p q : Fin 256) (a : ℕ) (ha : a + d = 8) :
    (if h : a + p.val < 8 then u (ix2 ⟨a + p.val, h⟩ q) else y (ix2 ⟨a + p.val - 8, by omega⟩ q)) = backT u y d hd p q := by
  unfold backT
  by_cases h : a + p.val < 8
  · rw [dif_pos h, dif_neg (by omega)]
    exact congrArg (fun i => u (ix2 i q)) (Fin.ext (by show a + p.val = 8 + p.val - d; omega))
  · rw [dif_neg h, dif_pos (by omega)]
    exact congrArg (fun i => y (ix2 i q)) (Fin.ext (by show a + p.val - 8 = p.val - d; omega))

/-- The convolution of a tile. -/
def convT (y : FVec Ideal S256x256 .f32) (u : FVec Ideal S8x256 .f32) (t3 b t0 t1 t2 : FVec Ideal S1x256 .f32) (p q : Fin 256) : EReal :=
  y (ix2 p q) * t3 (ix2 0 q) + b (ix2 0 q) + backT u y 3 (by decide) p q * t0 (ix2 0 q) + backT u y 2 (by decide) p q * t1 (ix2 0 q)
    + backT u y 1 (by decide) p q * t2 (ix2 0 q)

theorem pay12_apply (y : FVec Ideal S256x256 .f32) (u : FVec Ideal S8x256 .f32) (t3 b t0 t1 t2 : FVec Ideal S1x256 .f32) (p q : Fin 256) :
    (k0_pay12 y u t3 b t0 t1 t2 : FVec Ideal S256x256 .bf16) (ix2 p q) = silu (convT y u t3 b t0 t1 t2 p q) := by
  unfold k0_pay12
  pointwise
  rw [backT_of u y 3 (by decide) p q 5 rfl, backT_of u y 2 (by decide) p q 6 rfl, backT_of u y 1 (by decide) p q 7 rfl]
  rfl

theorem plainT_apply (y : FVec Ideal S256x256 .f32) (i : S256x256.Idx) : (plainT y : FVec Ideal S256x256 .bf16) i = y i := by
  unfold plainT
  pointwise
theorem sigT_apply (y : FVec Ideal S256x256 .f32) (i : S256x256.Idx) : (sigT y : FVec Ideal S256x256 .bf16) i = Ideal.logistic (y i) := by
  unfold sigT
  pointwise
theorem siluT_apply (y : FVec Ideal S256x256 .f32) (i : S256x256.Idx) : (siluT y : FVec Ideal S256x256 .bf16) i = silu (y i) := by
  unfold siluT
  pointwise
  rfl

/-- A block of rows times a block of weights, entry by entry. -/
def prod (h : FVec Ideal S1024x1024 .bf16) (w : FVec Ideal S1x1024x2048 .bf16) (r : Fin 1024) (e : Fin 2048) : EReal :=
  ∑ k : Fin 1024, h (ix2 r k) * w (ix3 0 k e)

/-- A tile's entry is the product's. -/
theorem tile_apply (h : FVec Ideal S1024x1024 .bf16) (w : FVec Ideal S1x1024x2048 .bf16) (n : ℕ) (p q : Fin 256) :
    tile (F := Ideal) h w n (ix2 p q) = prod h w ⟨256 * (n % 4) + p.val, by omega⟩ ⟨256 * (n / 4 % 8) + q.val, by omega⟩ := by
  unfold tile
  exact pay7_apply _ _ p q

/-- … at the tile and place of a given entry. -/
theorem tile_at (h : FVec Ideal S1024x1024 .bf16) (w : FVec Ideal S1x1024x2048 .bf16) (n : ℕ) (p q : Fin 256) (r : Fin 1024) (e : Fin 2048)
    (hr : r.val = 256 * (n % 4) + p.val) (he : e.val = 256 * (n / 4 % 8) + q.val) : tile (F := Ideal) h w n (ix2 p q) = prod h w r e :=
  (tile_apply h w n p q).trans (congrArg₂ (prod h w) (Fin.ext hr.symm) (Fin.ext he.symm))

/-- The last eight rows of the projected block. -/
theorem cOf_apply (h : FVec Ideal S1024x1024 .bf16) (w : FVec Ideal S1x1024x2048 .bf16) (p : Fin 8) (e : Fin 2048) :
    (cOf (F := Ideal) h w : FVec Ideal S8x2048 .f32) (ix2 p e) = prod h w ⟨1016 + p.val, by omega⟩ e := by
  show (k0_pay13 (tile (F := Ideal) h w (4 * (e.val / 256) + 3)) : FVec Ideal S8x256 .f32) (ix2 p ⟨e.val % 256, Nat.mod_lt _ (by decide)⟩) = _
  rw [pay13_apply]
  exact tile_at h w _ _ _ _ _ (by show 1016 + p.val = 256 * ((4 * (e.val / 256) + 3) % 4) + (248 + p.val); omega)
    (by show e.val = 256 * ((4 * (e.val / 256) + 3) / 4 % 8) + e.val % 256; omega)

/-- The product `d` rows back, before the block's first row what `prev` holds. -/
def backB (prev : FVec Ideal S8x2048 .f32) (h : FVec Ideal S1024x1024 .bf16) (w : FVec Ideal S1x1024x2048 .bf16) (d : ℕ) (hd : 1 ≤ d ∧ d ≤ 3) (r : Fin 1024)
    (e : Fin 2048) : EReal :=
  if hr : d ≤ r.val then prod h w ⟨r.val - d, by omega⟩ e else prev (ix2 ⟨8 + r.val - d, by omega⟩ e)

theorem backT_eq (prev : FVec Ideal S8x2048 .f32) (h : FVec Ideal S1024x1024 .bf16) (w : FVec Ideal S1x1024x2048 .bf16) (d : ℕ) (hd : 1 ≤ d ∧ d ≤ 3)
    (n : ℕ) (p q : Fin 256) (r : Fin 1024) (e : Fin 2048) (hr : r.val = 256 * (n % 4) + p.val) (he : e.val = 256 * (n / 4 % 8) + q.val) :
    backT (above (F := Ideal) prev h w n) (tile (F := Ideal) h w n) d hd p q = backB prev h w d hd r e := by
  unfold backT backB
  by_cases hp : d ≤ p.val
  · rw [dif_pos hp, dif_pos (by omega)]
    exact tile_at h w n _ _ _ _ (by show r.val - d = 256 * (n % 4) + (p.val - d); omega) he
  · rw [dif_neg hp]
    unfold above
    by_cases hn : n % 4 = 0
    · rw [if_pos hn, dif_neg (by omega)]
      exact congrArg prev (congrArg₂ ix2 (Fin.ext (by show 8 + p.val - d = 8 + r.val - d; omega)) (Fin.ext he.symm))
    · rw [if_neg hn, dif_pos (by omega), pay13_apply]
      exact tile_at h w _ _ _ _ _ (by show r.val - d = 256 * ((n - 1) % 4) + (248 + (8 + p.val - d)); omega)
        (by have : (n - 1) / 4 = n / 4 := by omega
            rw [this]; exact he)

/-- The convolved block. -/
theorem qOf_apply (prev : FVec Ideal S8x2048 .f32) (h : FVec Ideal S1024x1024 .bf16) (w : FVec Ideal S1x1024x2048 .bf16) (x7 : FVec Ideal S4x2048 .f32)
    (x8 : FVec Ideal S1x2048 .f32) (r : Fin 1024) (e : Fin 2048) :
    (qOf (F := Ideal) prev h w x7 x8 : FVec Ideal S1024x2048 .bf16) (ix2 r e)
      = silu (prod h w r e * x7 (ix2 3 e) + x8 (ix2 0 e) + backB prev h w 3 (by decide) r e * x7 (ix2 0 e) + backB prev h w 2 (by decide) r e * x7 (ix2 1 e)
          + backB prev h w 1 (by decide) r e * x7 (ix2 2 e)) := by
  have hr : r.val = 256 * ((4 * (e.val / 256) + r.val / 256) % 4) + r.val % 256 := by omega
  have he : e.val = 256 * ((4 * (e.val / 256) + r.val / 256) / 4 % 8) + e.val % 256 := by omega
  show (qTile (F := Ideal) prev h w x7 x8 (4 * (e.val / 256) + r.val / 256) : FVec Ideal S256x256 .bf16) (ix2 ⟨r.val % 256, Nat.mod_lt _ (by decide)⟩ ⟨e.val % 256, Nat.mod_lt _ (by decide)⟩) = _
  generalize 4 * (e.val / 256) + r.val / 256 = n at hr he ⊢
  have hcol : (⟨256 * (n / 4 % 8) + e.val % 256, by omega⟩ : Fin 2048) = e := Fin.ext he.symm
  unfold qTile
  rw [pay12_apply]
  unfold convT
  rw [tile_at h w n _ _ r e hr he, backT_eq prev h w 3 _ n _ _ r e hr he, backT_eq prev h w 2 _ n _ _ r e hr he, backT_eq prev h w 1 _ n _ _ r e hr he]
  show silu (_ * x7 (ix2 3 ⟨256 * (n / 4 % 8) + e.val % 256, _⟩) + x8 (ix2 0 ⟨256 * (n / 4 % 8) + e.val % 256, _⟩) + _ * x7 (ix2 0 ⟨256 * (n / 4 % 8) + e.val % 256, _⟩)
    + _ * x7 (ix2 1 ⟨256 * (n / 4 % 8) + e.val % 256, _⟩) + _ * x7 (ix2 2 ⟨256 * (n / 4 % 8) + e.val % 256, _⟩)) = _
  rw [hcol]

/-- What projection `j` does to an entry of its block. -/
def act (j : Fin 6) (e : ℕ) (z : EReal) : EReal :=
  if j = 0 ∨ j = 3 then z else if j = 1 ∨ j = 5 then Ideal.logistic z else if j = 4 ∧ e < 1024 then z else silu z

theorem actT_apply (j : Fin 6) (k : ℕ) (y : FVec Ideal S256x256 .f32) (i : S256x256.Idx) (e : ℕ) (he : e / 256 = k) :
    (actT j k y : FVec Ideal S256x256 .bf16) i = act j e (y i) := by
  have hk : k < 4 ↔ e < 1024 := by omega
  fin_cases j
  · exact plainT_apply y i
  · exact sigT_apply y i
  · exact siluT_apply y i
  · exact plainT_apply y i
  · show ((if k < 4 then plainT else siluT : FVec Ideal S256x256 .f32 → FVec Ideal S256x256 .bf16) y) i = act 4 e (y i)
    unfold act
    by_cases h : k < 4
    · rw [if_pos h, if_neg (by decide), if_neg (by decide), if_pos ⟨rfl, hk.mp h⟩]
      exact plainT_apply y i
    · rw [if_neg h, if_neg (by decide), if_neg (by decide), if_neg (fun hh => h (hk.mpr hh.2))]
      exact siluT_apply y i
  · exact sigT_apply y i

/-- The block of projection `j`. -/
theorem oOf_apply (j : Fin 6) (h : FVec Ideal S1024x1024 .bf16) (w : FVec Ideal S1x1024x2048 .bf16) (r : Fin 1024) (e : Fin 2048) :
    (oOf (F := Ideal) j h w : FVec Ideal S1024x2048 .bf16) (ix2 r e) = act j e.val (prod h w r e) := by
  show (actT j ((4 * (e.val / 256) + r.val / 256) / 4) (tile (F := Ideal) h w (4 * (e.val / 256) + r.val / 256)) : FVec Ideal S256x256 .bf16)
    (ix2 ⟨r.val % 256, Nat.mod_lt _ (by decide)⟩ ⟨e.val % 256, Nat.mod_lt _ (by decide)⟩) = _
  rw [actT_apply j _ _ _ e.val (by omega), tile_at h w _ _ _ r e
    (by show r.val = 256 * ((4 * (e.val / 256) + r.val / 256) % 4) + r.val % 256; omega)
    (by show e.val = 256 * ((4 * (e.val / 256) + r.val / 256) / 4 % 8) + e.val % 256; omega)]

end Cert.Kernel3Ideal.In

end
-- ==== Proof.InGrid.lean ====
module

public import proofs.«01_k».proof.Proof.InValue
public import Idealize.ShloMosaic.Lib.Pipeline.Value
public import Idealize.ShloMosaic.Lib.StableHlo.RunRead

/-! The input projections' three results over the extended reals, element by element. -/

@[expose] public section

set_option backward.proofsInPublic true
set_option maxRecDepth 16384

noncomputable section

namespace Cert.Kernel3Ideal.In

open Idealize.ShloMosaic Idealize.ShloMosaic.TcCoe Idealize.SL.Sem Idealize.ShloMosaic.StableHlo
open Cert.Kernel3Ideal Cert.Kernel3Ideal.Gen Cert.Inproj

variable (m : (ℓ : Loc nD τ sig) → Buf (Elt Ideal) ℓ) (ρ : Dev nD → PrngReg) (c : Dev nD)

/-- The arguments' contents. -/
def args : Args where
  x := m ((c.tc : Thread nD τ).loc main_arg0)
  g := m ((c.tc : Thread nD τ).loc main_arg1)
  mod := m ((c.tc : Thread nD τ).loc main_arg2)
  wl := m ((c.tc : Thread nD τ).loc main_arg3)
  wh := m ((c.tc : Thread nD τ).loc main_arg4)
  wg := m ((c.tc : Thread nD τ).loc main_arg5)
  cw := m ((c.tc : Thread nD τ).loc main_arg6)
  cb := m ((c.tc : Thread nD τ).loc main_arg7)

/-- The input blocks' places, decided over the grid. -/
theorem index_in : ∀ t : Fin cfg0.N,
    (win0_0.index t (0 : Fin 2) = t.val / 7 ∧ win0_0.index t (1 : Fin 2) = 0)
    ∧ (win0_1.index t (0 : Fin 2) = 0 ∧ win0_1.index t (1 : Fin 2) = 0)
    ∧ (win0_2.index t (0 : Fin 3) = t.val / 28 ∧ win0_2.index t (1 : Fin 3) = 0 ∧ win0_2.index t (2 : Fin 3) = 1)
    ∧ (win0_3.index t (0 : Fin 3) = t.val / 28 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = min (t.val % 7) 3)
    ∧ (win0_5.index t (0 : Fin 3) = 0 ∧ win0_5.index t (1 : Fin 3) = 0 ∧ win0_5.index t (2 : Fin 3) = t.val % 7 - 4)
    ∧ (win0_6.index t (0 : Fin 3) = 0 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The output blocks' places. -/
theorem index_out : ∀ t : Fin cfg0.N,
    (win0_9.index t (0 : Fin 2) = t.val / 7 ∧ win0_9.index t (1 : Fin 2) = t.val % 7 - 1)
    ∧ (win0_10.index t (0 : Fin 2) = t.val / 7 ∧ win0_10.index t (1 : Fin 2) = 0)
    ∧ (win0_11.index t (0 : Fin 2) = t.val / 7 ∧ win0_11.index t (1 : Fin 2) = 0) :=
  (by decide +kernel : ∀ t : Fin grid0.N, _)
/-- A point's projections are written back unless it is the first of its block. -/
theorem written9 (t : Fin cfg0.N) : (cfg0.win 9).flush t = true ↔ 1 ≤ t.val % 7 := by
  rw [flush9 t, decide_eq_true_iff]
  omega

theorem tlt (t : Fin cfg0.N) : t.val < 224 := lt_of_lt_of_eq t.isLt N_0

/-- Token `p` of the rows of point `t`. -/
abbrev tok (t : Fin cfg0.N) (p : Fin 1024) : Fin 32768 := ⟨1024 * (t.val / 7) + p.val, by have := tlt t; omega⟩

/-- The residual stream's block. -/
theorem iblk0 (t : Fin cfg0.N) (p k : Fin 1024) : (iblk m c 0 t : Vec Ideal S1024x1024 .f32) (ix2 p k) = (args m c).x (ix2 (tok t p) k) := by
  obtain ⟨⟨e0, e1⟩, -⟩ := index_in t
  exact (congrFun (V_kept m c main_arg0 (by decide) (by decide)) _).trans (congrArg (args m c).x (ix2_of _
    (by show win0_0.index t (0 : Fin 2) * 1024 + 1 * p.val = 1024 * (t.val / 7) + p.val; omega)
    (by show win0_0.index t (1 : Fin 2) * 1024 + 1 * k.val = k.val; omega)))

/-- The norm's weights as the host lays them out, and their block. -/
theorem host1 (k : Fin 1024) : (V m c main_v0 : Vec Ideal S1x1024 .f32) (ix2 0 k) = (args m c).g (ix1 k) := by
  have h : (V m c main_v0 : FVec Ideal S1x1024 .f32) = shapeCast _ (args m c).g shapeCasts_S1024_S1x1024 := by
    after_reads_simp
    rfl
  rw [h]
  pointwise
theorem iblk1 (t : Fin cfg0.N) (k : Fin 1024) : (iblk m c 1 t : Vec Ideal S1x1024 .f32) (ix2 0 k) = (args m c).g (ix1 k) := by
  obtain ⟨-, ⟨e0, e1⟩, -⟩ := index_in t
  exact (congrArg (V m c main_v0 : Vec Ideal S1x1024 .f32) (ix2_of _
    (by show win0_1.index t (0 : Fin 2) * 1 + 1 * 0 = 0; omega)
    (by show win0_1.index t (1 : Fin 2) * 1024 + 1 * k.val = k.val; omega))).trans (host1 m c k)

/-- The modulation's scale, and its shift. -/
theorem iblk2 (t : Fin cfg0.N) (k : Fin 1024) : (iblk m c 2 t : Vec Ideal S1x1x1024 .f32) (ix3 0 0 k)
    = (args m c).mod (ix3 ⟨t.val / 28, by have := tlt t; omega⟩ 0 ⟨1024 + k.val, by omega⟩) := by
  obtain ⟨-, -, ⟨e0, e1, e2⟩, -⟩ := index_in t
  exact (congrFun (V_kept m c main_arg2 (by decide) (by decide)) _).trans (congrArg (args m c).mod (ix3_of _
    (by show win0_2.index t (0 : Fin 3) * 1 + 1 * 0 = t.val / 28; omega)
    (by show win0_2.index t (1 : Fin 3) * 1 + 1 * 0 = 0; omega)
    (by show win0_2.index t (2 : Fin 3) * 1024 + 1 * k.val = 1024 + k.val; omega)))
theorem iblk3 (t : Fin cfg0.N) (k : Fin 1024) : (iblk m c 3 t : Vec Ideal S1x1x1024 .f32) (ix3 0 0 k)
    = (args m c).mod (ix3 ⟨t.val / 28, by have := tlt t; omega⟩ 0 ⟨k.val, by omega⟩) := by
  obtain ⟨-, -, -, ⟨e0, e1, e2⟩, -⟩ := index_in t
  exact (congrFun (V_kept m c main_arg2 (by decide) (by decide)) _).trans (congrArg (args m c).mod (ix3_of _
    (by show win0_3.index t (0 : Fin 3) * 1 + 1 * 0 = t.val / 28; omega)
    (by show win0_3.index t (1 : Fin 3) * 1 + 1 * 0 = 0; omega)
    (by show win0_3.index t (2 : Fin 3) * 1024 + 1 * k.val = k.val; omega)))

/-- The weights' blocks: those of the first group, of the second, and the gates'. -/
theorem iblk4 (t : Fin cfg0.N) (ht : t.val % 7 ≤ 3) (k : Fin 1024) (e : Fin 2048) : (iblk m c 4 t : Vec Ideal S1x1024x2048 .bf16) (ix3 0 k e)
    = (args m c).wl (ix3 0 k ⟨2048 * (t.val % 7) + e.val, by omega⟩) := by
  obtain ⟨-, -, -, -, ⟨e0, e1, e2⟩, -⟩ := index_in t
  exact (congrFun (V_kept m c main_arg3 (by decide) (by decide)) _).trans (congrArg (args m c).wl (ix3_of _
    (by show win0_4.index t (0 : Fin 3) * 1 + 1 * 0 = 0; omega)
    (by show win0_4.index t (1 : Fin 3) * 1024 + 1 * k.val = k.val; omega)
    (by show win0_4.index t (2 : Fin 3) * 2048 + 1 * e.val = 2048 * (t.val % 7) + e.val; omega)))
theorem iblk5 (t : Fin cfg0.N) (ht : 4 ≤ t.val % 7) (k : Fin 1024) (e : Fin 2048) : (iblk m c 5 t : Vec Ideal S1x1024x2048 .bf16) (ix3 0 k e)
    = (args m c).wh (ix3 0 k ⟨2048 * (t.val % 7 - 4) + e.val, by omega⟩) := by
  obtain ⟨-, -, -, -, -, ⟨e0, e1, e2⟩, -⟩ := index_in t
  exact (congrFun (V_kept m c main_arg4 (by decide) (by decide)) _).trans (congrArg (args m c).wh (ix3_of _
    (by show win0_5.index t (0 : Fin 3) * 1 + 1 * 0 = 0; omega)
    (by show win0_5.index t (1 : Fin 3) * 1024 + 1 * k.val = k.val; omega)
    (by show win0_5.index t (2 : Fin 3) * 2048 + 1 * e.val = 2048 * (t.val % 7 - 4) + e.val; omega)))
theorem iblk6 (t : Fin cfg0.N) (k : Fin 1024) (e : Fin 128) : (iblk m c 6 t : Vec Ideal S1x1024x128 .bf16) (ix3 0 k e) = (args m c).wg (ix3 0 k e) := by
  obtain ⟨-, -, -, -, -, -, ⟨e0, e1, e2⟩, -⟩ := index_in t
  exact (congrFun (V_kept m c main_arg5 (by decide) (by decide)) _).trans (congrArg (args m c).wg (ix3_of _
    (by show win0_6.index t (0 : Fin 3) * 1 + 1 * 0 = 0; omega)
    (by show win0_6.index t (1 : Fin 3) * 1024 + 1 * k.val = k.val; omega)
    (by show win0_6.index t (2 : Fin 3) * 128 + 1 * e.val = e.val; omega)))

/-- The convolution's taps, and its bias as the host lays it out. -/
theorem iblk7 (t : Fin cfg0.N) (a : Fin 4) (e : Fin 2048) : (iblk m c 7 t : Vec Ideal S4x2048 .f32) (ix2 a e) = (args m c).cw (ix2 a e) := by
  obtain ⟨-, -, -, -, -, -, -, ⟨e0, e1⟩, -⟩ := index_in t
  exact (congrFun (V_kept m c main_arg6 (by decide) (by decide)) _).trans (congrArg (args m c).cw (ix2_of _
    (by show win0_7.index t (0 : Fin 2) * 4 + 1 * a.val = a.val; omega)
    (by show win0_7.index t (1 : Fin 2) * 2048 + 1 * e.val = e.val; omega)))
theorem host8 (e : Fin 2048) : (V m c main_v1 : Vec Ideal S1x2048 .f32) (ix2 0 e) = (args m c).cb (ix1 e) := by
  have h : (V m c main_v1 : FVec Ideal S1x2048 .f32) = shapeCast _ (args m c).cb shapeCasts_S2048_S1x2048 := by
    after_reads_simp
    rfl
  rw [h]
  pointwise
theorem iblk8 (t : Fin cfg0.N) (e : Fin 2048) : (iblk m c 8 t : Vec Ideal S1x2048 .f32) (ix2 0 e) = (args m c).cb (ix1 e) := by
  obtain ⟨-, -, -, -, -, -, -, -, ⟨e0, e1⟩⟩ := index_in t
  exact (congrArg (V m c main_v1 : Vec Ideal S1x2048 .f32) (ix2_of _
    (by show win0_8.index t (0 : Fin 2) * 1 + 1 * 0 = 0; omega)
    (by show win0_8.index t (1 : Fin 2) * 2048 + 1 * e.val = e.val; omega))).trans (host8 m c e)

theorem base_div (t : Fin cfg0.N) : (base t).val / 7 = t.val / 7 := by show (t.val - t.val % 7) / 7 = t.val / 7; omega
theorem tok_base (t : Fin cfg0.N) (p : Fin 1024) : tok (base t) p = tok t p :=
  Fin.ext (by show 1024 * ((t.val - t.val % 7) / 7) + p.val = 1024 * (t.val / 7) + p.val; omega)

/-- The rows of a point are the modulated norm of its tokens. -/
theorem rows_apply (t : Fin cfg0.N) (p k : Fin 1024) : (rowsAt m c t : FVec Ideal S1024x1024 .bf16) (ix2 p k) = (args m c).h (tok t p) k := by
  unfold rowsAt
  refine (hOf_apply _ _ _ _ p k).trans ((norm_apply _ _ _ _ p k).trans ?_)
  have hb : (⟨(base t).val / 28, by have := tlt (base t); omega⟩ : Fin 8) = ⟨(tok t p).val / 4096, by omega⟩ :=
    Fin.ext (by show (t.val - t.val % 7) / 28 = (1024 * (t.val / 7) + p.val) / 4096; omega)
  unfold Args.h
  simp only [iblk0 m c, iblk1 m c, iblk2 m c, iblk3 m c, tok_base, hb]

/-- The product of a point's rows with the first block of weights. -/
theorem first_apply (t : Fin cfg0.N) (p : Fin 1024) (e : Fin 2048) :
    prod (rowsAt m c t) (iblk m c 4 (base t)) p e = (args m c).lo (tok t p) ⟨e.val, by omega⟩ := by
  unfold prod Args.lo
  refine Finset.sum_congr rfl fun k _ => congrArg₂ (fun x y : EReal => x * y) (rows_apply m c t p k) ((iblk4 m c (base t) ?_ k e).trans ?_)
  · show (t.val - t.val % 7) % 7 ≤ 3; omega
  · exact congrArg (fun y => (args m c).wl (ix3 0 k y)) (Fin.ext (by show 2048 * ((t.val - t.val % 7) % 7) + e.val = e.val; omega))

/-- What the block before left. -/
theorem last_apply (t : Fin cfg0.N) (p : Fin 8) (e : Fin 2048) : (lastAt m c t : FVec Ideal S8x2048 .f32) (ix2 p e)
    = (args m c).lo (tok t ⟨1016 + p.val, by omega⟩) ⟨e.val, by omega⟩ := by
  unfold lastAt
  exact (cOf_apply _ _ p e).trans (first_apply m c t _ e)

/-- Zeros. -/
theorem pay346_apply (p : Fin 8) (e : Fin 2048) : (k0_pay346 : FVec Ideal S8x2048 .f32) (ix2 p e) = 0 := by
  unfold k0_pay346
  pointwise

/-- What the convolution reads `d` tokens back. -/
theorem back_apply (t : Fin cfg0.N) (d : ℕ) (hd : 1 ≤ d ∧ d ≤ 3) (p : Fin 1024) (e : Fin 2048) :
    backB (prevAt m c (base t)) (rowsAt m c t) (iblk m c 4 (base t)) d hd p e = (args m c).back d (tok t p) e := by
  have ht := tlt t
  unfold backB Args.back
  by_cases hp : d ≤ p.val
  · rw [dif_pos hp, if_pos (by show d ≤ (1024 * (t.val / 7) + p.val) % 4096; omega)]
    refine (first_apply m c t _ e).trans (congrArg (fun r => (args m c).lo r ⟨e.val, by omega⟩) (Fin.ext ?_))
    show 1024 * (t.val / 7) + (p.val - d) = 1024 * (t.val / 7) + p.val - d; omega
  · rw [dif_neg hp]
    unfold prevAt
    by_cases hs : (base t).val % 28 < 7
    · have hs' : (t.val - t.val % 7) % 28 < 7 := hs
      rw [if_pos hs, if_neg (by show ¬d ≤ (1024 * (t.val / 7) + p.val) % 4096; omega)]
      exact pay346_apply _ e
    · have hs' : ¬(t.val - t.val % 7) % 28 < 7 := hs
      rw [if_neg hs, if_pos (by show d ≤ (1024 * (t.val / 7) + p.val) % 4096; omega)]
      refine (last_apply m c _ _ e).trans (congrArg (fun r => (args m c).lo r ⟨e.val, by omega⟩) (Fin.ext ?_))
      show 1024 * ((t.val - t.val % 7 - 7) / 7) + (1016 + (8 + p.val - d)) = 1024 * (t.val / 7) + p.val - d; omega

/-- The convolved block of a point. -/
theorem conv_apply (t : Fin cfg0.N) (p : Fin 1024) (e : Fin 2048) :
    (convAt m c t : FVec Ideal S1024x2048 .bf16) (ix2 p e) = silu ((args m c).conv (tok t p) e) := by
  unfold convAt
  refine (qOf_apply _ _ _ _ _ p e).trans ?_
  rw [first_apply, back_apply, back_apply, back_apply]
  unfold Args.conv
  simp only [iblk7 m c, iblk8 m c]

/-- The gates' block of a point. -/
theorem gate_apply (t : Fin cfg0.N) (p : Fin 1024) (e : Fin 128) :
    (gateAt m c t : FVec Ideal S1024x128 .f32) (ix2 p e) = (args m c).gates (tok t p) e := by
  unfold gateAt
  refine (gOf_apply _ _ _ _ _ p e).trans ?_
  unfold Args.gates
  exact Finset.sum_congr rfl fun k _ => congrArg₂ (fun x y : EReal => x * y) (rows_apply m c t p k) (iblk6 m c (base t) k e)

/-- The product of a point's rows with its own block of weights, in the first group and in the second. -/
theorem lo_apply (t : Fin cfg0.N) (ht : t.val % 7 ≤ 3) (p : Fin 1024) (e : Fin 2048) :
    prod (rowsAt m c t) (iblk m c 4 t) p e = (args m c).lo (tok t p) ⟨2048 * (t.val % 7) + e.val, by omega⟩ := by
  unfold prod Args.lo
  exact Finset.sum_congr rfl fun k _ => congrArg₂ (fun x y : EReal => x * y) (rows_apply m c t p k) (iblk4 m c t ht k e)
theorem hi_apply (t : Fin cfg0.N) (ht : 4 ≤ t.val % 7) (p : Fin 1024) (e : Fin 2048) :
    prod (rowsAt m c t) (iblk m c 5 t) p e = (args m c).hi (tok t p) ⟨2048 * (t.val % 7 - 4) + e.val, by omega⟩ := by
  unfold prod Args.hi
  exact Finset.sum_congr rfl fun k _ => congrArg₂ (fun x y : EReal => x * y) (rows_apply m c t p k) (iblk5 m c t ht k e)

theorem lo_of (A : Args) (r : Fin 32768) {a b : ℕ} {ha : a < 8192} {hb : b < 8192} (h : a = b) : A.lo r ⟨a, ha⟩ = A.lo r ⟨b, hb⟩ := congrArg (A.lo r) (Fin.ext h)
theorem hi_of (A : Args) (r : Fin 32768) {a b : ℕ} {ha : a < 6144} {hb : b < 6144} (h : a = b) : A.hi r ⟨a, ha⟩ = A.hi r ⟨b, hb⟩ := congrArg (A.hi r) (Fin.ext h)

theorem act0 (e : ℕ) (z : EReal) : act 0 e z = z := if_pos (by decide)
theorem act1 (e : ℕ) (z : EReal) : act 1 e z = Ideal.logistic z := (if_neg (by decide)).trans (if_pos (by decide))
theorem act2 (e : ℕ) (z : EReal) : act 2 e z = silu z := (if_neg (by decide)).trans ((if_neg (by decide)).trans (if_neg (fun h => absurd h.1 (by decide))))
theorem act3 (e : ℕ) (z : EReal) : act 3 e z = z := if_pos (by decide)
theorem act4_low (e : ℕ) (z : EReal) (h : e < 1024) : act 4 e z = z := (if_neg (by decide)).trans ((if_neg (by decide)).trans (if_pos ⟨rfl, h⟩))
theorem act4_high (e : ℕ) (z : EReal) (h : ¬e < 1024) : act 4 e z = silu z := (if_neg (by decide)).trans ((if_neg (by decide)).trans (if_neg (fun h' => h h'.2)))
theorem act5 (e : ℕ) (z : EReal) : act 5 e z = Ideal.logistic z := (if_neg (by decide)).trans (if_pos (by decide))

/-- A projection of the first group, through its activation. -/
theorem act_lo (A : Args) (r : Fin 32768) (j : ℕ) (hj : 1 ≤ j ∧ j ≤ 3) (e : Fin 2048) :
    act ⟨j - 1, by omega⟩ e.val (A.lo r ⟨2048 * j + e.val, by omega⟩) = A.out r ⟨2048 * (j - 1) + e.val, by omega⟩ := by
  unfold Args.out
  obtain rfl | rfl | rfl : j = 1 ∨ j = 2 ∨ j = 3 := by omega
  · rw [dif_pos (by show 2048 * (1 - 1) + e.val < 2048; omega)]
    exact (act0 _ _).trans (lo_of A r (by show 2048 * 1 + e.val = 2048 + (2048 * (1 - 1) + e.val); omega))
  · rw [dif_neg (by show ¬2048 * (2 - 1) + e.val < 2048; omega), dif_pos (by show 2048 * (2 - 1) + e.val < 4096; omega)]
    exact (act1 _ _).trans (congrArg Ideal.logistic (lo_of A r (by show 2048 * 2 + e.val = 2048 + (2048 * (2 - 1) + e.val); omega)))
  · rw [dif_neg (by show ¬2048 * (3 - 1) + e.val < 2048; omega), dif_neg (by show ¬2048 * (3 - 1) + e.val < 4096; omega), dif_pos (by show 2048 * (3 - 1) + e.val < 6144; omega)]
    exact (act2 _ _).trans
      (congrArg silu (lo_of A r (by show 2048 * 3 + e.val = 2048 + (2048 * (3 - 1) + e.val); omega)))

/-- A projection of the second group, through its activation. -/
theorem act_hi (A : Args) (r : Fin 32768) (j : ℕ) (hj : 4 ≤ j ∧ j ≤ 6) (e : Fin 2048) :
    act ⟨j - 1, by omega⟩ e.val (A.hi r ⟨2048 * (j - 4) + e.val, by omega⟩) = A.out r ⟨2048 * (j - 1) + e.val, by omega⟩ := by
  have hz : (2048 * (j - 4) + e.val) = 2048 * (j - 1) + e.val - 6144 := by omega
  unfold Args.out
  rw [dif_neg (by show ¬2048 * (j - 1) + e.val < 2048; omega), dif_neg (by show ¬2048 * (j - 1) + e.val < 4096; omega),
    dif_neg (by show ¬2048 * (j - 1) + e.val < 6144; omega), hi_of A r (hb := by omega) hz]
  obtain rfl | rfl | rfl : j = 4 ∨ j = 5 ∨ j = 6 := by omega
  · rw [if_pos (by show 2048 * (4 - 1) + e.val < 9216; omega)]
    exact act3 _ _
  · by_cases he : e.val < 1024
    · rw [if_pos (by show 2048 * (5 - 1) + e.val < 9216; omega)]
      exact act4_low _ _ he
    · rw [if_neg (by show ¬2048 * (5 - 1) + e.val < 9216; omega), if_pos (by show 2048 * (5 - 1) + e.val < 10240; omega)]
      exact act4_high _ _ he
  · rw [if_neg (by show ¬2048 * (6 - 1) + e.val < 9216; omega), if_neg (by show ¬2048 * (6 - 1) + e.val < 10240; omega)]
    exact act5 _ _

/-- The projection's block of a point. -/
theorem proj_apply (t : Fin cfg0.N) (ht : 1 ≤ t.val % 7) (p : Fin 1024) (e : Fin 2048) :
    (projAt m c t : FVec Ideal S1024x2048 .bf16) (ix2 p e) = (args m c).out (tok t p) ⟨2048 * (t.val % 7 - 1) + e.val, by omega⟩ := by
  unfold projAt
  refine (oOf_apply _ _ _ p e).trans ?_
  by_cases h : t.val % 7 - 1 < 3
  · rw [if_pos h, lo_apply m c t (by omega)]
    exact act_lo _ _ (t.val % 7) ⟨ht, by omega⟩ e
  · rw [if_neg h, hi_apply m c t (by omega)]
    exact act_hi _ _ (t.val % 7) ⟨by omega, by omega⟩ e

/-- Points that write back share nothing. -/
theorem disjoint9 : ∀ t t' : Fin cfg0.N, (cfg0.win 9).flush t = true → (cfg0.win 9).flush t' = true → t ≠ t' →
    Disjoint ((cfg0.win 9).blk t).view.set ((cfg0.win 9).blk t').view.set :=
  fun t t' hf hf' hne => (cfg0.win 9).disjoint_blk fun h => hne (Fin.ext (by
    obtain ⟨⟨a0, a1⟩, -⟩ := index_out t
    obtain ⟨⟨b0, b1⟩, -⟩ := index_out t'
    have h0 : win0_9.index t (0 : Fin 2) = win0_9.index t' (0 : Fin 2) := congrFun h (0 : Fin 2)
    have h1 : win0_9.index t (1 : Fin 2) = win0_9.index t' (1 : Fin 2) := congrFun h (1 : Fin 2)
    have := (written9 t).mp hf
    have := (written9 t').mp hf'
    omega))
theorem disjoint10 : ∀ t t' : Fin cfg0.N, (cfg0.win 10).flush t = true → (cfg0.win 10).flush t' = true → t ≠ t' →
    Disjoint ((cfg0.win 10).blk t).view.set ((cfg0.win 10).blk t').view.set :=
  fun t t' hf hf' hne => (cfg0.win 10).disjoint_blk fun h => hne (Fin.ext (by
    obtain ⟨-, ⟨a0, a1⟩, -⟩ := index_out t
    obtain ⟨-, ⟨b0, b1⟩, -⟩ := index_out t'
    have h0 : win0_10.index t (0 : Fin 2) = win0_10.index t' (0 : Fin 2) := congrFun h (0 : Fin 2)
    have := (flush0_10 t).mp hf
    have := (flush0_10 t').mp hf'
    omega))
theorem disjoint11 : ∀ t t' : Fin cfg0.N, (cfg0.win 11).flush t = true → (cfg0.win 11).flush t' = true → t ≠ t' →
    Disjoint ((cfg0.win 11).blk t).view.set ((cfg0.win 11).blk t').view.set :=
  fun t t' hf hf' hne => (cfg0.win 11).disjoint_blk fun h => hne (Fin.ext (by
    obtain ⟨-, -, ⟨a0, a1⟩⟩ := index_out t
    obtain ⟨-, -, ⟨b0, b1⟩⟩ := index_out t'
    have h0 : win0_11.index t (0 : Fin 2) = win0_11.index t' (0 : Fin 2) := congrFun h (0 : Fin 2)
    have := (flush0_11 t).mp hf
    have := (flush0_11 t').mp hf'
    omega))

/-- The projections, element by element. -/
theorem proj_result (r : Fin 32768) (e : Fin 12288) : ((dats m 0 c).arrAt 9 cfg0.N : FVec Ideal S32768x12288 .bf16) (ix2 r e) = (args m c).out r e := by
  have hN : 7 * (r.val / 1024) + e.val / 2048 + 1 < cfg0.N := lt_of_lt_of_eq (by omega : 7 * (r.val / 1024) + e.val / 2048 + 1 < 224) N_0.symm
  obtain ⟨t, ht⟩ : ∃ t : Fin cfg0.N, t.val = 7 * (r.val / 1024) + e.val / 2048 + 1 := ⟨⟨_, hN⟩, rfl⟩
  obtain ⟨⟨e0, e1⟩, -⟩ := index_out t
  have hi : (ix2 r e : S32768x12288.Idx) = ((cfg0.win 9).blk t).view.emb (ix2 ⟨r.val % 1024, by omega⟩ ⟨e.val % 2048, by omega⟩) := by
    funext x
    match x with
    | ⟨0, _⟩ => exact Fin.ext (by show r.val = win0_9.index t (0 : Fin 2) * 1024 + 1 * (r.val % 1024); omega)
    | ⟨1, _⟩ => exact Fin.ext (by show e.val = win0_9.index t (1 : Fin 2) * 2048 + 1 * (e.val % 2048); omega)
  rw [hi]
  refine (congrFun ((dats m 0 c).read_blk_arrAt_eq_flushed 9 disjoint9 cfg0.N t t.isLt ((written9 t).mpr (by omega))) (ix2 ⟨r.val % 1024, by omega⟩ ⟨e.val % 2048, by omega⟩)).trans ?_
  refine (proj_apply m c t (by omega) ⟨r.val % 1024, by omega⟩ ⟨e.val % 2048, by omega⟩).trans ?_
  exact congrArg₂ (args m c).out (Fin.ext (by show 1024 * (t.val / 7) + r.val % 1024 = r.val; omega))
    (Fin.ext (by show 2048 * (t.val % 7 - 1) + e.val % 2048 = e.val; omega))

/-- The convolved queries and keys, element by element. -/
theorem conv_result (r : Fin 32768) (e : Fin 2048) : ((dats m 0 c).arrAt 10 cfg0.N : FVec Ideal S32768x2048 .bf16) (ix2 r e) = silu ((args m c).conv r e) := by
  have hN : 7 * (r.val / 1024) + 6 < cfg0.N := lt_of_lt_of_eq (by omega : 7 * (r.val / 1024) + 6 < 224) N_0.symm
  obtain ⟨t, ht⟩ : ∃ t : Fin cfg0.N, t.val = 7 * (r.val / 1024) + 6 := ⟨⟨_, hN⟩, rfl⟩
  obtain ⟨-, ⟨e0, e1⟩, -⟩ := index_out t
  have hi : (ix2 r e : S32768x2048.Idx) = ((cfg0.win 10).blk t).view.emb (ix2 ⟨r.val % 1024, by omega⟩ e) := by
    funext x
    match x with
    | ⟨0, _⟩ => exact Fin.ext (by show r.val = win0_10.index t (0 : Fin 2) * 1024 + 1 * (r.val % 1024); omega)
    | ⟨1, _⟩ => exact Fin.ext (by show e.val = win0_10.index t (1 : Fin 2) * 2048 + 1 * e.val; omega)
  rw [hi]
  refine (congrFun ((dats m 0 c).read_blk_arrAt_eq_flushed 10 disjoint10 cfg0.N t t.isLt ((flush0_10 t).mpr (by omega))) (ix2 ⟨r.val % 1024, by omega⟩ e)).trans ?_
  refine (conv_apply m c t ⟨r.val % 1024, by omega⟩ e).trans ?_
  exact congrArg (fun r => silu ((args m c).conv r e)) (Fin.ext (by show 1024 * (t.val / 7) + r.val % 1024 = r.val; omega))

/-- The gates, element by element. -/
theorem gate_result (r : Fin 32768) (e : Fin 128) : ((dats m 0 c).arrAt 11 cfg0.N : FVec Ideal S32768x128 .f32) (ix2 r e) = (args m c).gates r e := by
  have hN : 7 * (r.val / 1024) + 6 < cfg0.N := lt_of_lt_of_eq (by omega : 7 * (r.val / 1024) + 6 < 224) N_0.symm
  obtain ⟨t, ht⟩ : ∃ t : Fin cfg0.N, t.val = 7 * (r.val / 1024) + 6 := ⟨⟨_, hN⟩, rfl⟩
  obtain ⟨-, -, ⟨e0, e1⟩⟩ := index_out t
  have hi : (ix2 r e : S32768x128.Idx) = ((cfg0.win 11).blk t).view.emb (ix2 ⟨r.val % 1024, by omega⟩ e) := by
    funext x
    match x with
    | ⟨0, _⟩ => exact Fin.ext (by show r.val = win0_11.index t (0 : Fin 2) * 1024 + 1 * (r.val % 1024); omega)
    | ⟨1, _⟩ => exact Fin.ext (by show e.val = win0_11.index t (1 : Fin 2) * 128 + 1 * e.val; omega)
  rw [hi]
  refine (congrFun ((dats m 0 c).read_blk_arrAt_eq_flushed 11 disjoint11 cfg0.N t t.isLt ((flush0_11 t).mpr (by omega))) (ix2 ⟨r.val % 1024, by omega⟩ e)).trans ?_
  refine (gate_apply m c t ⟨r.val % 1024, by omega⟩ e).trans ?_
  exact congrArg (fun r => (args m c).gates r e) (Fin.ext (by show 1024 * (t.val / 7) + r.val % 1024 = r.val; omega))

/-- Every run ends with the three results at what the points wrote back, and the arguments as they were. -/
theorem results : θ_run defs (onTc (τ := τ) (main (F := Ideal))) ⟨m, fun _ => 0, ρ⟩ (fun r => ∀ c : Dev nD,
      r.2.mem ((c.tc : Thread nD τ).loc main_v2_0) = (dats m 0 c).arrAt 9 cfg0.N
      ∧ r.2.mem ((c.tc : Thread nD τ).loc main_v2_1) = (dats m 0 c).arrAt 10 cfg0.N
      ∧ r.2.mem ((c.tc : Thread nD τ).loc main_v2_2) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h.2.1 c).1 9, (h.2.1 c).1 10, (h.2.1 c).1 11, h.1 c⟩) (θ_run_and (unchanged m ρ) (run_main_quiescent m ρ))

end Cert.Kernel3Ideal.In

end
-- ==== Proof.InRun.lean ====
module

public import proofs.«01_k».proof.Proof.Gen.Reference3Ideal
public import Idealize.ShloMosaic.Lib.StableHlo.Run

/-! The run of the input projections' reference: its operations in order, and what its three results hold. -/

@[expose] public section

noncomputable section

namespace Cert.Reference3Ideal.Ops

open Cert.Reference3Ideal Cert.Reference3Ideal.Gen Idealize.ShloMosaic Idealize.ShloMosaic.TcCoe Idealize.SL.Sem Idealize.ShloMosaic.StableHlo

variable {F : FTy → Type} [FloatOps F]

/-- The nine projections side by side. -/
def fn_main_v100 : (main_v39 : Ref sig .tc).ty.Contents (Elt F) → (main_v85 : Ref sig .tc).ty.Contents (Elt F) → (main_v86 : Ref sig .tc).ty.Contents (Elt F) → (main_v42 : Ref sig .tc).ty.Contents (Elt F) → (main_v43 : Ref sig .tc).ty.Contents (Elt F) → (main_v44 : Ref sig .tc).ty.Contents (Elt F) → (main_v87 : Ref sig .tc).ty.Contents (Elt F) → (main_v93 : Ref sig .tc).ty.Contents (Elt F) → (main_v99 : Ref sig .tc).ty.Contents (Elt F) → (main_v100 : Ref sig .tc).ty.Contents (Elt F) :=
  (fun u0 u1 u2 u3 u4 u5 u6 u7 u8 => (concatenate S8x4096x12288 2 [⟨S8x4096x2048, (u0 : (⟨S8x4096x2048, .f32⟩ : BufTy).Contents (Elt F))⟩, ⟨S8x4096x2048, (u1 : (⟨S8x4096x2048, .f32⟩ : BufTy).Contents (Elt F))⟩, ⟨S8x4096x2048, (u2 : (⟨S8x4096x2048, .f32⟩ : BufTy).Contents (Elt F))⟩, ⟨S8x4096x1024, (u3 : (⟨S8x4096x1024, .f32⟩ : BufTy).Contents (Elt F))⟩, ⟨S8x4096x1024, (u4 : (⟨S8x4096x1024, .f32⟩ : BufTy).Contents (Elt F))⟩, ⟨S8x4096x1024, (u5 : (⟨S8x4096x1024, .f32⟩ : BufTy).Contents (Elt F))⟩, ⟨S8x4096x1024, (u6 : (⟨S8x4096x1024, .f32⟩ : BufTy).Contents (Elt F))⟩, ⟨S8x4096x1024, (u7 : (⟨S8x4096x1024, .f32⟩ : BufTy).Contents (Elt F))⟩, ⟨S8x4096x1024, (u8 : (⟨S8x4096x1024, .f32⟩ : BufTy).Contents (Elt F))⟩] concatenates_S8x4096x2048_S8x4096x2048_S8x4096x2048_S8x4096x1024_S8x4096x1024_S8x4096x1024_S8x4096x1024_S8x4096x1024_S8x4096x1024_S8x4096x12288_d2 : (⟨S8x4096x12288, .f32⟩ : BufTy).Contents (Elt F)))

set_option maxRecDepth 8192 in
set_option maxHeartbeats 8000000 in
/-- The 142 operations of the reference, in order. -/
abbrev ops : List (HloOp τ sig (Elt F)) :=
  [ reshape main_arg2 main_v0 (rfl : (.f32 : EltTy) = .f32) shapeCasts_S8x1x3072_S8x3072,
    unary main_v0 main_v1 ((extractStridedSlice S8x1024 ![0, 0] · slices_S8x3072_S8x1024_0_0) : (⟨S8x3072, .f32⟩ : BufTy).Contents (Elt F) → (⟨S8x1024, .f32⟩ : BufTy).Contents (Elt F)),
    unary main_v0 main_v2 ((extractStridedSlice S8x1024 ![0, 1024] · slices_S8x3072_S8x1024_0_1024) : (⟨S8x3072, .f32⟩ : BufTy).Contents (Elt F) → (⟨S8x1024, .f32⟩ : BufTy).Contents (Elt F)),
    unary main_v0 main_v3 ((extractStridedSlice S8x1024 ![0, 2048] · slices_S8x3072_S8x1024_0_2048) : (⟨S8x3072, .f32⟩ : BufTy).Contents (Elt F) → (⟨S8x1024, .f32⟩ : BufTy).Contents (Elt F)),
    reshape main_arg0 main_v4 (rfl : (.f32 : EltTy) = .f32) shapeCasts_S32768x1024_S8x4096x1024,
    binary main_v4 main_v4 main_v5 (mulf : (⟨S8x4096x1024, .f32⟩ : BufTy).Contents (Elt F) → (⟨S8x4096x1024, .f32⟩ : BufTy).Contents (Elt F) → (⟨S8x4096x1024, .f32⟩ : BufTy).Contents (Elt F)),
    nullary main_cst (constant S_ .f32 0x00000000#32),
    binary main_v5 main_cst main_v6 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v6 main_v7 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_0 (constant S_ .f32 0x44800000#32),
    unary main_cst_0 main_v8 (broadcastInDim S8x4096x1 ![] bcast_S_S8x4096x1 : (⟨S_, .f32⟩ : BufTy).Contents (Elt F) → (⟨S8x4096x1, .f32⟩ : BufTy).Contents (Elt F)),
    binary main_v7 main_v8 main_v9 (Host.divf : (⟨S8x4096x1, .f32⟩ : BufTy).Contents (Elt F) → (⟨S8x4096x1, .f32⟩ : BufTy).Contents (Elt F) → (⟨S8x4096x1, .f32⟩ : BufTy).Contents (Elt F)),
    nullary main_cst_1 (constant S_ .f32 0x358637BD#32),
    unary main_cst_1 main_v10 (broadcastInDim S8x4096x1 ![] bcast_S_S8x4096x1 : (⟨S_, .f32⟩ : BufTy).Contents (Elt F) → (⟨S8x4096x1, .f32⟩ : BufTy).Contents (Elt F)),
    binary main_v9 main_v10 main_v11 (addf : (⟨S8x4096x1, .f32⟩ : BufTy).Contents (Elt F) → (⟨S8x4096x1, .f32⟩ : BufTy).Contents (Elt F) → (⟨S8x4096x1, .f32⟩ : BufTy).Contents (Elt F)),
    unary main_v11 main_v12 (Host.rsqrt : (⟨S8x4096x1, .f32⟩ : BufTy).Contents (Elt F) → (⟨S8x4096x1, .f32⟩ : BufTy).Contents (Elt F)),
    unary main_v12 main_v13 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_v4 main_v13 main_v14 (mulf : (⟨S8x4096x1024, .f32⟩ : BufTy).Contents (Elt F) → (⟨S8x4096x1024, .f32⟩ : BufTy).Contents (Elt F) → (⟨S8x4096x1024, .f32⟩ : BufTy).Contents (Elt F)),
    unary main_arg1 main_v15 (broadcastInDim S1x1x1024 ![2] bcast_S1024_S1x1x1024_2 : (⟨S1024, .f32⟩ : BufTy).Contents (Elt F) → (⟨S1x1x1024, .f32⟩ : BufTy).Contents (Elt F)),
    unary main_v15 main_v16 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v14 main_v16 main_v17 (mulf : (⟨S8x4096x1024, .f32⟩ : BufTy).Contents (Elt F) → (⟨S8x4096x1024, .f32⟩ : BufTy).Contents (Elt F) → (⟨S8x4096x1024, .f32⟩ : BufTy).Contents (Elt F)),
    unary main_v2 main_v18 (broadcastInDim S8x1x1024 ![0, 2] bcast_S8x1024_S8x1x1024_0_2 : (⟨S8x1024, .f32⟩ : BufTy).Contents (Elt F) → (⟨S8x1x1024, .f32⟩ : BufTy).Contents (Elt F)),
    nullary main_cst_2 (constant S_ .f32 0x3F800000#32),
    unary main_cst_2 main_v19 (broadcastInDim S8x1x1024 ![] bcast_S_S8x1x1024 : (⟨S_, .f32⟩ : BufTy).Contents (Elt F) → (⟨S8x1x1024, .f32⟩ : BufTy).Contents (Elt F)),
    binary main_v19 main_v18 main_v20 (addf : (⟨S8x1x1024, .f32⟩ : BufTy).Contents (Elt F) → (⟨S8x1x1024, .f32⟩ : BufTy).Contents (Elt F) → (⟨S8x1x1024, .f32⟩ : BufTy).Contents (Elt F)),
    unary main_v20 main_v21 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
    binary main_v17 main_v21 main_v22 (mulf : (⟨S8x4096x1024, .f32⟩ : BufTy).Contents (Elt F) → (⟨S8x4096x1024, .f32⟩ : BufTy).Contents (Elt F) → (⟨S8x4096x1024, .f32⟩ : BufTy).Contents (Elt F)),
    unary main_v1 main_v23 (broadcastInDim S8x1x1024 ![0, 2] bcast_S8x1024_S8x1x1024_0_2 : (⟨S8x1024, .f32⟩ : BufTy).Contents (Elt F) → (⟨S8x1x1024, .f32⟩ : BufTy).Contents (Elt F)),
    unary main_v23 main_v24 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
    binary main_v22 main_v24 main_v25 (addf : (⟨S8x4096x1024, .f32⟩ : BufTy).Contents (Elt F) → (⟨S8x4096x1024, .f32⟩ : BufTy).Contents (Elt F) → (⟨S8x4096x1024, .f32⟩ : BufTy).Contents (Elt F)),
    unary main_arg3 main_v26 ((extractStridedSlice S1x1024x8192 ![0, 0, 0] · slices_S2x1024x8192_S1x1024x8192_0_0_0) : (⟨S2x1024x8192, .bf16⟩ : BufTy).Contents (Elt F) → (⟨S1x1024x8192, .bf16⟩ : BufTy).Contents (Elt F)),
    reshape main_v26 main_v27 (rfl : (.bf16 : EltTy) = .bf16) shapeCasts_S1x1024x8192_S1024x8192,
    unary main_v27 main_v28 ((extf .f32 · bitsLt_bf16_f32) : (⟨S1024x8192, .bf16⟩ : BufTy).Contents (Elt F) → (⟨S1024x8192, .f32⟩ : BufTy).Contents (Elt F)),
    binary main_v25 main_v28 main_v29 ((fun l r => Host.dotGeneral dot_S8x4096x1024_S1024x8192_S8x4096x8192_2_0_01_1_n_n none l r) : (⟨S8x4096x1024, .f32⟩ : BufTy).Contents (Elt F) → (⟨S1024x8192, .f32⟩ : BufTy).Contents (Elt F) → (⟨S8x4096x8192, .f32⟩ : BufTy).Contents (Elt F)),
    unary main_arg4 main_v30 ((extractStridedSlice S1x1024x6144 ![0, 0, 0] · slices_S2x1024x6144_S1x1024x6144_0_0_0) : (⟨S2x1024x6144, .bf16⟩ : BufTy).Contents (Elt F) → (⟨S1x1024x6144, .bf16⟩ : BufTy).Contents (Elt F)),
    reshape main_v30 main_v31 (rfl : (.bf16 : EltTy) = .bf16) shapeCasts_S1x1024x6144_S1024x6144,
    unary main_v31 main_v32 ((extf .f32 · bitsLt_bf16_f32) : (⟨S1024x6144, .bf16⟩ : BufTy).Contents (Elt F) → (⟨S1024x6144, .f32⟩ : BufTy).Contents (Elt F)),
    binary main_v25 main_v32 main_v33 ((fun l r => Host.dotGeneral dot_S8x4096x1024_S1024x6144_S8x4096x6144_2_0_01_1_n_n none l r) : (⟨S8x4096x1024, .f32⟩ : BufTy).Contents (Elt F) → (⟨S1024x6144, .f32⟩ : BufTy).Contents (Elt F) → (⟨S8x4096x6144, .f32⟩ : BufTy).Contents (Elt F)),
    unary main_arg5 main_v34 ((extractStridedSlice S1x1024x128 ![0, 0, 0] · slices_S2x1024x128_S1x1024x128_0_0_0) : (⟨S2x1024x128, .bf16⟩ : BufTy).Contents (Elt F) → (⟨S1x1024x128, .bf16⟩ : BufTy).Contents (Elt F)),
    reshape main_v34 main_v35 (rfl : (.bf16 : EltTy) = .bf16) shapeCasts_S1x1024x128_S1024x128,
    unary main_v35 main_v36 ((extf .f32 · bitsLt_bf16_f32) : (⟨S1024x128, .bf16⟩ : BufTy).Contents (Elt F) → (⟨S1024x128, .f32⟩ : BufTy).Contents (Elt F)),
    binary main_v25 main_v36 main_v37 ((fun l r => Host.dotGeneral dot_S8x4096x1024_S1024x128_S8x4096x128_2_0_01_1_n_n none l r) : (⟨S8x4096x1024, .f32⟩ : BufTy).Contents (Elt F) → (⟨S1024x128, .f32⟩ : BufTy).Contents (Elt F) → (⟨S8x4096x128, .f32⟩ : BufTy).Contents (Elt F)),
    unary main_v29 main_v38 ((extractStridedSlice S8x4096x2048 ![0, 0, 0] · slices_S8x4096x8192_S8x4096x2048_0_0_0) : (⟨S8x4096x8192, .f32⟩ : BufTy).Contents (Elt F) → (⟨S8x4096x2048, .f32⟩ : BufTy).Contents (Elt F)),
    unary main_v29 main_v39 ((extractStridedSlice S8x4096x2048 ![0, 0, 2048] · slices_S8x4096x8192_S8x4096x2048_0_0_2048) : (⟨S8x4096x8192, .f32⟩ : BufTy).Contents (Elt F) → (⟨S8x4096x2048, .f32⟩ : BufTy).Contents (Elt F)),
    unary main_v29 main_v40 ((extractStridedSlice S8x4096x2048 ![0, 0, 4096] · slices_S8x4096x8192_S8x4096x2048_0_0_4096) : (⟨S8x4096x8192, .f32⟩ : BufTy).Contents (Elt F) → (⟨S8x4096x2048, .f32⟩ : BufTy).Contents (Elt F)),
    unary main_v29 main_v41 ((extractStridedSlice S8x4096x2048 ![0, 0, 6144] · slices_S8x4096x8192_S8x4096x2048_0_0_6144) : (⟨S8x4096x8192, .f32⟩ : BufTy).Contents (Elt F) → (⟨S8x4096x2048, .f32⟩ : BufTy).Contents (Elt F)),
    unary main_v33 main_v42 ((extractStridedSlice S8x4096x1024 ![0, 0, 0] · slices_S8x4096x6144_S8x4096x1024_0_0_0) : (⟨S8x4096x6144, .f32⟩ : BufTy).Contents (Elt F) → (⟨S8x4096x1024, .f32⟩ : BufTy).Contents (Elt F)),
    unary main_v33 main_v43 ((extractStridedSlice S8x4096x1024 ![0, 0, 1024] · slices_S8x4096x6144_S8x4096x1024_0_0_1024) : (⟨S8x4096x6144, .f32⟩ : BufTy).Contents (Elt F) → (⟨S8x4096x1024, .f32⟩ : BufTy).Contents (Elt F)),
    unary main_v33 main_v44 ((extractStridedSlice S8x4096x1024 ![0, 0, 2048] · slices_S8x4096x6144_S8x4096x1024_0_0_2048) : (⟨S8x4096x6144, .f32⟩ : BufTy).Contents (Elt F) → (⟨S8x4096x1024, .f32⟩ : BufTy).Contents (Elt F)),
    unary main_v33 main_v45 ((extractStridedSlice S8x4096x1024 ![0, 0, 3072] · slices_S8x4096x6144_S8x4096x1024_0_0_3072) : (⟨S8x4096x6144, .f32⟩ : BufTy).Contents (Elt F) → (⟨S8x4096x1024, .f32⟩ : BufTy).Contents (Elt F)),
    unary main_v33 main_v46 ((extractStridedSlice S8x4096x1024 ![0, 0, 4096] · slices_S8x4096x6144_S8x4096x1024_0_0_4096) : (⟨S8x4096x6144, .f32⟩ : BufTy).Contents (Elt F) → (⟨S8x4096x1024, .f32⟩ : BufTy).Contents (Elt F)),
    unary main_v33 main_v47 ((extractStridedSlice S8x4096x1024 ![0, 0, 5120] · slices_S8x4096x6144_S8x4096x1024_0_0_5120) : (⟨S8x4096x6144, .f32⟩ : BufTy).Contents (Elt F) → (⟨S8x4096x1024, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S8x4096x2048, .f32⟩) main_v38) (TRef.of (T := ⟨S_, .f32⟩) main_call0_v0) (TRef.of (T := ⟨S8x4099x2048, .f32⟩) main_v48) (fun x v => pad S8x4099x2048 ![0, 3, 0] ![0, 0, 0] ![0, 0, 0] x v pads_S8x4096x2048_S8x4099x2048_000_300_000 h_S_),
    unary main_v48 main_v49 ((extractStridedSlice S8x4096x2048 ![0, 3, 0] · slices_S8x4099x2048_S8x4096x2048_0_3_0) : (⟨S8x4099x2048, .f32⟩ : BufTy).Contents (Elt F) → (⟨S8x4096x2048, .f32⟩ : BufTy).Contents (Elt F)),
    unary main_arg6 main_v50 ((extractStridedSlice S1x2048 ![3, 0] · slices_S4x2048_S1x2048_3_0) : (⟨S4x2048, .f32⟩ : BufTy).Contents (Elt F) → (⟨S1x2048, .f32⟩ : BufTy).Contents (Elt F)),
    reshape main_v50 main_v51 (rfl : (.f32 : EltTy) = .f32) shapeCasts_S1x2048_S2048,
    unary main_v51 main_v52 (broadcastInDim S1x1x2048 ![2] bcast_S2048_S1x1x2048_2 : (⟨S2048, .f32⟩ : BufTy).Contents (Elt F) → (⟨S1x1x2048, .f32⟩ : BufTy).Contents (Elt F)),
    unary main_v52 main_v53 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    binary main_v49 main_v53 main_v54 (mulf : (⟨S8x4096x2048, .f32⟩ : BufTy).Contents (Elt F) → (⟨S8x4096x2048, .f32⟩ : BufTy).Contents (Elt F) → (⟨S8x4096x2048, .f32⟩ : BufTy).Contents (Elt F)),
    unary main_arg7 main_v55 (broadcastInDim S1x1x2048 ![2] bcast_S2048_S1x1x2048_2 : (⟨S2048, .f32⟩ : BufTy).Contents (Elt F) → (⟨S1x1x2048, .f32⟩ : BufTy).Contents (Elt F)),
    unary main_v55 main_v56 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    binary main_v54 main_v56 main_v57 (addf : (⟨S8x4096x2048, .f32⟩ : BufTy).Contents (Elt F) → (⟨S8x4096x2048, .f32⟩ : BufTy).Contents (Elt F) → (⟨S8x4096x2048, .f32⟩ : BufTy).Contents (Elt F)),
    unary main_v48 main_v58 ((extractStridedSlice S8x4096x2048 ![0, 0, 0] · slices_S8x4099x2048_S8x4096x2048_0_0_0) : (⟨S8x4099x2048, .f32⟩ : BufTy).Contents (Elt F) → (⟨S8x4096x2048, .f32⟩ : BufTy).Contents (Elt F)),
    unary main_arg6 main_v59 ((extractStridedSlice S1x2048 ![0, 0] · slices_S4x2048_S1x2048_0_0) : (⟨S4x2048, .f32⟩ : BufTy).Contents (Elt F) → (⟨S1x2048, .f32⟩ : BufTy).Contents (Elt F)),
    reshape main_v59 main_v60 (rfl : (.f32 : EltTy) = .f32) shapeCasts_S1x2048_S2048,
    unary main_v60 main_v61 (broadcastInDim S1x1x2048 ![2] bcast_S2048_S1x1x2048_2 : (⟨S2048, .f32⟩ : BufTy).Contents (Elt F) → (⟨S1x1x2048, .f32⟩ : BufTy).Contents (Elt F)),
    unary main_v61 main_v62 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    binary main_v58 main_v62 main_v63 (mulf : (⟨S8x4096x2048, .f32⟩ : BufTy).Contents (Elt F) → (⟨S8x4096x2048, .f32⟩ : BufTy).Contents (Elt F) → (⟨S8x4096x2048, .f32⟩ : BufTy).Contents (Elt F)),
    binary main_v57 main_v63 main_v64 (addf : (⟨S8x4096x2048, .f32⟩ : BufTy).Contents (Elt F) → (⟨S8x4096x2048, .f32⟩ : BufTy).Contents (Elt F) → (⟨S8x4096x2048, .f32⟩ : BufTy).Contents (Elt F)),
    unary main_v48 main_v65 ((extractStridedSlice S8x4096x2048 ![0, 1, 0] · slices_S8x4099x2048_S8x4096x2048_0_1_0) : (⟨S8x4099x2048, .f32⟩ : BufTy).Contents (Elt F) → (⟨S8x4096x2048, .f32⟩ : BufTy).Contents (Elt F)),
    unary main_arg6 main_v66 ((extractStridedSlice S1x2048 ![1, 0] · slices_S4x2048_S1x2048_1_0) : (⟨S4x2048, .f32⟩ : BufTy).Contents (Elt F) → (⟨S1x2048, .f32⟩ : BufTy).Contents (Elt F)),
    reshape main_v66 main_v67 (rfl : (.f32 : EltTy) = .f32) shapeCasts_S1x2048_S2048,
    unary main_v67 main_v68 (broadcastInDim S1x1x2048 ![2] bcast_S2048_S1x1x2048_2 : (⟨S2048, .f32⟩ : BufTy).Contents (Elt F) → (⟨S1x1x2048, .f32⟩ : BufTy).Contents (Elt F)),
    unary main_v68 main_v69 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    binary main_v65 main_v69 main_v70 (mulf : (⟨S8x4096x2048, .f32⟩ : BufTy).Contents (Elt F) → (⟨S8x4096x2048, .f32⟩ : BufTy).Contents (Elt F) → (⟨S8x4096x2048, .f32⟩ : BufTy).Contents (Elt F)),
    binary main_v64 main_v70 main_v71 (addf : (⟨S8x4096x2048, .f32⟩ : BufTy).Contents (Elt F) → (⟨S8x4096x2048, .f32⟩ : BufTy).Contents (Elt F) → (⟨S8x4096x2048, .f32⟩ : BufTy).Contents (Elt F)),
    unary main_v48 main_v72 ((extractStridedSlice S8x4096x2048 ![0, 2, 0] · slices_S8x4099x2048_S8x4096x2048_0_2_0) : (⟨S8x4099x2048, .f32⟩ : BufTy).Contents (Elt F) → (⟨S8x4096x2048, .f32⟩ : BufTy).Contents (Elt F)),
    unary main_arg6 main_v73 ((extractStridedSlice S1x2048 ![2, 0] · slices_S4x2048_S1x2048_2_0) : (⟨S4x2048, .f32⟩ : BufTy).Contents (Elt F) → (⟨S1x2048, .f32⟩ : BufTy).Contents (Elt F)),
    reshape main_v73 main_v74 (rfl : (.f32 : EltTy) = .f32) shapeCasts_S1x2048_S2048,
    unary main_v74 main_v75 (broadcastInDim S1x1x2048 ![2] bcast_S2048_S1x1x2048_2 : (⟨S2048, .f32⟩ : BufTy).Contents (Elt F) → (⟨S1x1x2048, .f32⟩ : BufTy).Contents (Elt F)),
    unary main_v75 main_v76 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    binary main_v72 main_v76 main_v77 (mulf : (⟨S8x4096x2048, .f32⟩ : BufTy).Contents (Elt F) → (⟨S8x4096x2048, .f32⟩ : BufTy).Contents (Elt F) → (⟨S8x4096x2048, .f32⟩ : BufTy).Contents (Elt F)),
    binary main_v71 main_v77 main_v78 (addf : (⟨S8x4096x2048, .f32⟩ : BufTy).Contents (Elt F) → (⟨S8x4096x2048, .f32⟩ : BufTy).Contents (Elt F) → (⟨S8x4096x2048, .f32⟩ : BufTy).Contents (Elt F)),
    TRef.unary (TRef.of (T := ⟨S8x4096x2048, .f32⟩) main_v78) (TRef.of (T := ⟨S8x4096x2048, .f32⟩) main_call1_v0) Host.negf,
    TRef.unary (TRef.of (T := ⟨S8x4096x2048, .f32⟩) main_call1_v0) (TRef.of (T := ⟨S8x4096x2048, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S8x4096x2048, .f32⟩) main_call1_v2) (broadcastInDim S8x4096x2048 ![] bcast_S_S8x4096x2048),
    TRef.binary (TRef.of (T := ⟨S8x4096x2048, .f32⟩) main_call1_v2) (TRef.of (T := ⟨S8x4096x2048, .f32⟩) main_call1_v1) (TRef.of (T := ⟨S8x4096x2048, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S8x4096x2048, .f32⟩) main_call1_v4) (broadcastInDim S8x4096x2048 ![] bcast_S_S8x4096x2048),
    TRef.binary (TRef.of (T := ⟨S8x4096x2048, .f32⟩) main_call1_v4) (TRef.of (T := ⟨S8x4096x2048, .f32⟩) main_call1_v3) (TRef.of (T := ⟨S8x4096x2048, .f32⟩) main_call1_v5) Host.divf,
    TRef.binary (TRef.of (T := ⟨S8x4096x2048, .f32⟩) main_v78) (TRef.of (T := ⟨S8x4096x2048, .f32⟩) main_call1_v5) (TRef.of (T := ⟨S8x4096x2048, .f32⟩) main_v79) mulf,
    unary main_v40 main_v80 (Host.negf : (⟨S8x4096x2048, .f32⟩ : BufTy).Contents (Elt F) → (⟨S8x4096x2048, .f32⟩ : BufTy).Contents (Elt F)),
    unary main_v80 main_v81 (Host.exp : (⟨S8x4096x2048, .f32⟩ : BufTy).Contents (Elt F) → (⟨S8x4096x2048, .f32⟩ : BufTy).Contents (Elt F)),
    nullary main_cst_3 (constant S_ .f32 0x3F800000#32),
    unary main_cst_3 main_v82 (broadcastInDim S8x4096x2048 ![] bcast_S_S8x4096x2048 : (⟨S_, .f32⟩ : BufTy).Contents (Elt F) → (⟨S8x4096x2048, .f32⟩ : BufTy).Contents (Elt F)),
    binary main_v82 main_v81 main_v83 (addf : (⟨S8x4096x2048, .f32⟩ : BufTy).Contents (Elt F) → (⟨S8x4096x2048, .f32⟩ : BufTy).Contents (Elt F) → (⟨S8x4096x2048, .f32⟩ : BufTy).Contents (Elt F)),
    nullary main_cst_4 (constant S_ .f32 0x3F800000#32),
    unary main_cst_4 main_v84 (broadcastInDim S8x4096x2048 ![] bcast_S_S8x4096x2048 : (⟨S_, .f32⟩ : BufTy).Contents (Elt F) → (⟨S8x4096x2048, .f32⟩ : BufTy).Contents (Elt F)),
    binary main_v84 main_v83 main_v85 (Host.divf : (⟨S8x4096x2048, .f32⟩ : BufTy).Contents (Elt F) → (⟨S8x4096x2048, .f32⟩ : BufTy).Contents (Elt F) → (⟨S8x4096x2048, .f32⟩ : BufTy).Contents (Elt F)),
    TRef.unary (TRef.of (T := ⟨S8x4096x2048, .f32⟩) main_v41) (TRef.of (T := ⟨S8x4096x2048, .f32⟩) main_call2_v0) Host.negf,
    TRef.unary (TRef.of (T := ⟨S8x4096x2048, .f32⟩) main_call2_v0) (TRef.of (T := ⟨S8x4096x2048, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S8x4096x2048, .f32⟩) main_call2_v2) (broadcastInDim S8x4096x2048 ![] bcast_S_S8x4096x2048),
    TRef.binary (TRef.of (T := ⟨S8x4096x2048, .f32⟩) main_call2_v2) (TRef.of (T := ⟨S8x4096x2048, .f32⟩) main_call2_v1) (TRef.of (T := ⟨S8x4096x2048, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S8x4096x2048, .f32⟩) main_call2_v4) (broadcastInDim S8x4096x2048 ![] bcast_S_S8x4096x2048),
    TRef.binary (TRef.of (T := ⟨S8x4096x2048, .f32⟩) main_call2_v4) (TRef.of (T := ⟨S8x4096x2048, .f32⟩) main_call2_v3) (TRef.of (T := ⟨S8x4096x2048, .f32⟩) main_call2_v5) Host.divf,
    TRef.binary (TRef.of (T := ⟨S8x4096x2048, .f32⟩) main_v41) (TRef.of (T := ⟨S8x4096x2048, .f32⟩) main_call2_v5) (TRef.of (T := ⟨S8x4096x2048, .f32⟩) main_v86) mulf,
    TRef.unary (TRef.of (T := ⟨S8x4096x1024, .f32⟩) main_v45) (TRef.of (T := ⟨S8x4096x1024, .f32⟩) main_call3_v0) Host.negf,
    TRef.unary (TRef.of (T := ⟨S8x4096x1024, .f32⟩) main_call3_v0) (TRef.of (T := ⟨S8x4096x1024, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S8x4096x1024, .f32⟩) main_call3_v2) (broadcastInDim S8x4096x1024 ![] bcast_S_S8x4096x1024),
    TRef.binary (TRef.of (T := ⟨S8x4096x1024, .f32⟩) main_call3_v2) (TRef.of (T := ⟨S8x4096x1024, .f32⟩) main_call3_v1) (TRef.of (T := ⟨S8x4096x1024, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S8x4096x1024, .f32⟩) main_call3_v4) (broadcastInDim S8x4096x1024 ![] bcast_S_S8x4096x1024),
    TRef.binary (TRef.of (T := ⟨S8x4096x1024, .f32⟩) main_call3_v4) (TRef.of (T := ⟨S8x4096x1024, .f32⟩) main_call3_v3) (TRef.of (T := ⟨S8x4096x1024, .f32⟩) main_call3_v5) Host.divf,
    TRef.binary (TRef.of (T := ⟨S8x4096x1024, .f32⟩) main_v45) (TRef.of (T := ⟨S8x4096x1024, .f32⟩) main_call3_v5) (TRef.of (T := ⟨S8x4096x1024, .f32⟩) main_v87) mulf,
    unary main_v46 main_v88 (Host.negf : (⟨S8x4096x1024, .f32⟩ : BufTy).Contents (Elt F) → (⟨S8x4096x1024, .f32⟩ : BufTy).Contents (Elt F)),
    unary main_v88 main_v89 (Host.exp : (⟨S8x4096x1024, .f32⟩ : BufTy).Contents (Elt F) → (⟨S8x4096x1024, .f32⟩ : BufTy).Contents (Elt F)),
    nullary main_cst_5 (constant S_ .f32 0x3F800000#32),
    unary main_cst_5 main_v90 (broadcastInDim S8x4096x1024 ![] bcast_S_S8x4096x1024 : (⟨S_, .f32⟩ : BufTy).Contents (Elt F) → (⟨S8x4096x1024, .f32⟩ : BufTy).Contents (Elt F)),
    binary main_v90 main_v89 main_v91 (addf : (⟨S8x4096x1024, .f32⟩ : BufTy).Contents (Elt F) → (⟨S8x4096x1024, .f32⟩ : BufTy).Contents (Elt F) → (⟨S8x4096x1024, .f32⟩ : BufTy).Contents (Elt F)),
    nullary main_cst_6 (constant S_ .f32 0x3F800000#32),
    unary main_cst_6 main_v92 (broadcastInDim S8x4096x1024 ![] bcast_S_S8x4096x1024 : (⟨S_, .f32⟩ : BufTy).Contents (Elt F) → (⟨S8x4096x1024, .f32⟩ : BufTy).Contents (Elt F)),
    binary main_v92 main_v91 main_v93 (Host.divf : (⟨S8x4096x1024, .f32⟩ : BufTy).Contents (Elt F) → (⟨S8x4096x1024, .f32⟩ : BufTy).Contents (Elt F) → (⟨S8x4096x1024, .f32⟩ : BufTy).Contents (Elt F)),
    unary main_v47 main_v94 (Host.negf : (⟨S8x4096x1024, .f32⟩ : BufTy).Contents (Elt F) → (⟨S8x4096x1024, .f32⟩ : BufTy).Contents (Elt F)),
    unary main_v94 main_v95 (Host.exp : (⟨S8x4096x1024, .f32⟩ : BufTy).Contents (Elt F) → (⟨S8x4096x1024, .f32⟩ : BufTy).Contents (Elt F)),
    nullary main_cst_7 (constant S_ .f32 0x3F800000#32),
    unary main_cst_7 main_v96 (broadcastInDim S8x4096x1024 ![] bcast_S_S8x4096x1024 : (⟨S_, .f32⟩ : BufTy).Contents (Elt F) → (⟨S8x4096x1024, .f32⟩ : BufTy).Contents (Elt F)),
    binary main_v96 main_v95 main_v97 (addf : (⟨S8x4096x1024, .f32⟩ : BufTy).Contents (Elt F) → (⟨S8x4096x1024, .f32⟩ : BufTy).Contents (Elt F) → (⟨S8x4096x1024, .f32⟩ : BufTy).Contents (Elt F)),
    nullary main_cst_8 (constant S_ .f32 0x3F800000#32),
    unary main_cst_8 main_v98 (broadcastInDim S8x4096x1024 ![] bcast_S_S8x4096x1024 : (⟨S_, .f32⟩ : BufTy).Contents (Elt F) → (⟨S8x4096x1024, .f32⟩ : BufTy).Contents (Elt F)),
    binary main_v98 main_v97 main_v99 (Host.divf : (⟨S8x4096x1024, .f32⟩ : BufTy).Contents (Elt F) → (⟨S8x4096x1024, .f32⟩ : BufTy).Contents (Elt F) → (⟨S8x4096x1024, .f32⟩ : BufTy).Contents (Elt F)),
    nary ![main_v39, main_v85, main_v86, main_v42, main_v43, main_v44, main_v87, main_v93, main_v99] main_v100 (fun u => fn_main_v100 (F := F) (u 0) (u 1) (u 2) (u 3) (u 4) (u 5) (u 6) (u 7) (u 8)),
    unary main_v100 main_v101 ((truncf .bf16 · bitsLt_bf16_f32) : (⟨S8x4096x12288, .f32⟩ : BufTy).Contents (Elt F) → (⟨S8x4096x12288, .bf16⟩ : BufTy).Contents (Elt F)),
    reshape main_v101 main_v102 (rfl : (.bf16 : EltTy) = .bf16) shapeCasts_S8x4096x12288_S32768x12288,
    unary main_v79 main_v103 ((truncf .bf16 · bitsLt_bf16_f32) : (⟨S8x4096x2048, .f32⟩ : BufTy).Contents (Elt F) → (⟨S8x4096x2048, .bf16⟩ : BufTy).Contents (Elt F)),
    reshape main_v103 main_v104 (rfl : (.bf16 : EltTy) = .bf16) shapeCasts_S8x4096x2048_S32768x2048,
    reshape main_v37 main_v105 (rfl : (.f32 : EltTy) = .f32) shapeCasts_S8x4096x128_S32768x128 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., unary_bufs_sub .., unary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., nullary_bufs_sub .., unary_bufs_sub .., binary_bufs_sub .., unary_bufs_sub .., unary_bufs_sub .., reshape_bufs_sub .., unary_bufs_sub .., unary_bufs_sub .., binary_bufs_sub .., unary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nary_bufs_sub .., unary_bufs_sub .., reshape_bufs_sub .., unary_bufs_sub .., reshape_bufs_sub .., reshape_bufs_sub ..⟩

set_option maxRecDepth 8192 in
/-- What `main_v104` holds after the run, from the arguments. -/
def res_main_v104 (m : (ℓ : Loc nD τ sig) → Buf (Elt F) ℓ) (c : Dev nD) : Buf (Elt F) ((c.tc : Thread nD τ).loc main_v104) :=
  shapeCast _ (truncf .bf16 (mulf (addf (addf (addf (addf (mulf (extractStridedSlice S8x4096x2048 ![0, 3, 0] (pad S8x4099x2048 ![0, 3, 0] ![0, 0, 0] ![0, 0, 0] (extractStridedSlice S8x4096x2048 ![0, 0, 0] (Host.dotGeneral dot_S8x4096x1024_S1024x8192_S8x4096x8192_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x8192 ![0, 0, 0] (m ((c.tc : Thread nD τ).loc main_arg3)) slices_S2x1024x8192_S1x1024x8192_0_0_0) shapeCasts_S1x1024x8192_S1024x8192) bitsLt_bf16_f32)) slices_S8x4096x8192_S8x4096x2048_0_0_0) (sitofp .f32 (constantI S_ 32 0#32)) pads_S8x4096x2048_S8x4099x2048_000_300_000 h_S_) slices_S8x4099x2048_S8x4096x2048_0_3_0) (broadcastInDim S8x4096x2048 ![0, 1, 2] bcast_S1x1x2048_S8x4096x2048_0_1_2 (broadcastInDim S1x1x2048 ![2] bcast_S2048_S1x1x2048_2 (shapeCast _ (extractStridedSlice S1x2048 ![3, 0] (m ((c.tc : Thread nD τ).loc main_arg6)) slices_S4x2048_S1x2048_3_0) shapeCasts_S1x2048_S2048)))) (broadcastInDim S8x4096x2048 ![0, 1, 2] bcast_S1x1x2048_S8x4096x2048_0_1_2 (broadcastInDim S1x1x2048 ![2] bcast_S2048_S1x1x2048_2 (m ((c.tc : Thread nD τ).loc main_arg7))))) (mulf (extractStridedSlice S8x4096x2048 ![0, 0, 0] (pad S8x4099x2048 ![0, 3, 0] ![0, 0, 0] ![0, 0, 0] (extractStridedSlice S8x4096x2048 ![0, 0, 0] (Host.dotGeneral dot_S8x4096x1024_S1024x8192_S8x4096x8192_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x8192 ![0, 0, 0] (m ((c.tc : Thread nD τ).loc main_arg3)) slices_S2x1024x8192_S1x1024x8192_0_0_0) shapeCasts_S1x1024x8192_S1024x8192) bitsLt_bf16_f32)) slices_S8x4096x8192_S8x4096x2048_0_0_0) (sitofp .f32 (constantI S_ 32 0#32)) pads_S8x4096x2048_S8x4099x2048_000_300_000 h_S_) slices_S8x4099x2048_S8x4096x2048_0_0_0) (broadcastInDim S8x4096x2048 ![0, 1, 2] bcast_S1x1x2048_S8x4096x2048_0_1_2 (broadcastInDim S1x1x2048 ![2] bcast_S2048_S1x1x2048_2 (shapeCast _ (extractStridedSlice S1x2048 ![0, 0] (m ((c.tc : Thread nD τ).loc main_arg6)) slices_S4x2048_S1x2048_0_0) shapeCasts_S1x2048_S2048))))) (mulf (extractStridedSlice S8x4096x2048 ![0, 1, 0] (pad S8x4099x2048 ![0, 3, 0] ![0, 0, 0] ![0, 0, 0] (extractStridedSlice S8x4096x2048 ![0, 0, 0] (Host.dotGeneral dot_S8x4096x1024_S1024x8192_S8x4096x8192_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x8192 ![0, 0, 0] (m ((c.tc : Thread nD τ).loc main_arg3)) slices_S2x1024x8192_S1x1024x8192_0_0_0) shapeCasts_S1x1024x8192_S1024x8192) bitsLt_bf16_f32)) slices_S8x4096x8192_S8x4096x2048_0_0_0) (sitofp .f32 (constantI S_ 32 0#32)) pads_S8x4096x2048_S8x4099x2048_000_300_000 h_S_) slices_S8x4099x2048_S8x4096x2048_0_1_0) (broadcastInDim S8x4096x2048 ![0, 1, 2] bcast_S1x1x2048_S8x4096x2048_0_1_2 (broadcastInDim S1x1x2048 ![2] bcast_S2048_S1x1x2048_2 (shapeCast _ (extractStridedSlice S1x2048 ![1, 0] (m ((c.tc : Thread nD τ).loc main_arg6)) slices_S4x2048_S1x2048_1_0) shapeCasts_S1x2048_S2048))))) (mulf (extractStridedSlice S8x4096x2048 ![0, 2, 0] (pad S8x4099x2048 ![0, 3, 0] ![0, 0, 0] ![0, 0, 0] (extractStridedSlice S8x4096x2048 ![0, 0, 0] (Host.dotGeneral dot_S8x4096x1024_S1024x8192_S8x4096x8192_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x8192 ![0, 0, 0] (m ((c.tc : Thread nD τ).loc main_arg3)) slices_S2x1024x8192_S1x1024x8192_0_0_0) shapeCasts_S1x1024x8192_S1024x8192) bitsLt_bf16_f32)) slices_S8x4096x8192_S8x4096x2048_0_0_0) (sitofp .f32 (constantI S_ 32 0#32)) pads_S8x4096x2048_S8x4099x2048_000_300_000 h_S_) slices_S8x4099x2048_S8x4096x2048_0_2_0) (broadcastInDim S8x4096x2048 ![0, 1, 2] bcast_S1x1x2048_S8x4096x2048_0_1_2 (broadcastInDim S1x1x2048 ![2] bcast_S2048_S1x1x2048_2 (shapeCast _ (extractStridedSlice S1x2048 ![2, 0] (m ((c.tc : Thread nD τ).loc main_arg6)) slices_S4x2048_S1x2048_2_0) shapeCasts_S1x2048_S2048))))) (Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf (addf (addf (addf (addf (mulf (extractStridedSlice S8x4096x2048 ![0, 3, 0] (pad S8x4099x2048 ![0, 3, 0] ![0, 0, 0] ![0, 0, 0] (extractStridedSlice S8x4096x2048 ![0, 0, 0] (Host.dotGeneral dot_S8x4096x1024_S1024x8192_S8x4096x8192_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x8192 ![0, 0, 0] (m ((c.tc : Thread nD τ).loc main_arg3)) slices_S2x1024x8192_S1x1024x8192_0_0_0) shapeCasts_S1x1024x8192_S1024x8192) bitsLt_bf16_f32)) slices_S8x4096x8192_S8x4096x2048_0_0_0) (sitofp .f32 (constantI S_ 32 0#32)) pads_S8x4096x2048_S8x4099x2048_000_300_000 h_S_) slices_S8x4099x2048_S8x4096x2048_0_3_0) (broadcastInDim S8x4096x2048 ![0, 1, 2] bcast_S1x1x2048_S8x4096x2048_0_1_2 (broadcastInDim S1x1x2048 ![2] bcast_S2048_S1x1x2048_2 (shapeCast _ (extractStridedSlice S1x2048 ![3, 0] (m ((c.tc : Thread nD τ).loc main_arg6)) slices_S4x2048_S1x2048_3_0) shapeCasts_S1x2048_S2048)))) (broadcastInDim S8x4096x2048 ![0, 1, 2] bcast_S1x1x2048_S8x4096x2048_0_1_2 (broadcastInDim S1x1x2048 ![2] bcast_S2048_S1x1x2048_2 (m ((c.tc : Thread nD τ).loc main_arg7))))) (mulf (extractStridedSlice S8x4096x2048 ![0, 0, 0] (pad S8x4099x2048 ![0, 3, 0] ![0, 0, 0] ![0, 0, 0] (extractStridedSlice S8x4096x2048 ![0, 0, 0] (Host.dotGeneral dot_S8x4096x1024_S1024x8192_S8x4096x8192_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x8192 ![0, 0, 0] (m ((c.tc : Thread nD τ).loc main_arg3)) slices_S2x1024x8192_S1x1024x8192_0_0_0) shapeCasts_S1x1024x8192_S1024x8192) bitsLt_bf16_f32)) slices_S8x4096x8192_S8x4096x2048_0_0_0) (sitofp .f32 (constantI S_ 32 0#32)) pads_S8x4096x2048_S8x4099x2048_000_300_000 h_S_) slices_S8x4099x2048_S8x4096x2048_0_0_0) (broadcastInDim S8x4096x2048 ![0, 1, 2] bcast_S1x1x2048_S8x4096x2048_0_1_2 (broadcastInDim S1x1x2048 ![2] bcast_S2048_S1x1x2048_2 (shapeCast _ (extractStridedSlice S1x2048 ![0, 0] (m ((c.tc : Thread nD τ).loc main_arg6)) slices_S4x2048_S1x2048_0_0) shapeCasts_S1x2048_S2048))))) (mulf (extractStridedSlice S8x4096x2048 ![0, 1, 0] (pad S8x4099x2048 ![0, 3, 0] ![0, 0, 0] ![0, 0, 0] (extractStridedSlice S8x4096x2048 ![0, 0, 0] (Host.dotGeneral dot_S8x4096x1024_S1024x8192_S8x4096x8192_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x8192 ![0, 0, 0] (m ((c.tc : Thread nD τ).loc main_arg3)) slices_S2x1024x8192_S1x1024x8192_0_0_0) shapeCasts_S1x1024x8192_S1024x8192) bitsLt_bf16_f32)) slices_S8x4096x8192_S8x4096x2048_0_0_0) (sitofp .f32 (constantI S_ 32 0#32)) pads_S8x4096x2048_S8x4099x2048_000_300_000 h_S_) slices_S8x4099x2048_S8x4096x2048_0_1_0) (broadcastInDim S8x4096x2048 ![0, 1, 2] bcast_S1x1x2048_S8x4096x2048_0_1_2 (broadcastInDim S1x1x2048 ![2] bcast_S2048_S1x1x2048_2 (shapeCast _ (extractStridedSlice S1x2048 ![1, 0] (m ((c.tc : Thread nD τ).loc main_arg6)) slices_S4x2048_S1x2048_1_0) shapeCasts_S1x2048_S2048))))) (mulf (extractStridedSlice S8x4096x2048 ![0, 2, 0] (pad S8x4099x2048 ![0, 3, 0] ![0, 0, 0] ![0, 0, 0] (extractStridedSlice S8x4096x2048 ![0, 0, 0] (Host.dotGeneral dot_S8x4096x1024_S1024x8192_S8x4096x8192_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x8192 ![0, 0, 0] (m ((c.tc : Thread nD τ).loc main_arg3)) slices_S2x1024x8192_S1x1024x8192_0_0_0) shapeCasts_S1x1024x8192_S1024x8192) bitsLt_bf16_f32)) slices_S8x4096x8192_S8x4096x2048_0_0_0) (sitofp .f32 (constantI S_ 32 0#32)) pads_S8x4096x2048_S8x4099x2048_000_300_000 h_S_) slices_S8x4099x2048_S8x4096x2048_0_2_0) (broadcastInDim S8x4096x2048 ![0, 1, 2] bcast_S1x1x2048_S8x4096x2048_0_1_2 (broadcastInDim S1x1x2048 ![2] bcast_S2048_S1x1x2048_2 (shapeCast _ (extractStridedSlice S1x2048 ![2, 0] (m ((c.tc : Thread nD τ).loc main_arg6)) slices_S4x2048_S1x2048_2_0) shapeCasts_S1x2048_S2048)))))))))) bitsLt_bf16_f32) shapeCasts_S8x4096x2048_S32768x2048

set_option maxRecDepth 8192 in
/-- What `main_v102` holds after the run, from the arguments. -/
def res_main_v102 (m : (ℓ : Loc nD τ sig) → Buf (Elt F) ℓ) (c : Dev nD) : Buf (Elt F) ((c.tc : Thread nD τ).loc main_v102) :=
  shapeCast _ (truncf .bf16 ((concatenate S8x4096x12288 2 [⟨S8x4096x2048, ((extractStridedSlice S8x4096x2048 ![0, 0, 2048] (Host.dotGeneral dot_S8x4096x1024_S1024x8192_S8x4096x8192_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x8192 ![0, 0, 0] (m ((c.tc : Thread nD τ).loc main_arg3)) slices_S2x1024x8192_S1x1024x8192_0_0_0) shapeCasts_S1x1024x8192_S1024x8192) bitsLt_bf16_f32)) slices_S8x4096x8192_S8x4096x2048_0_0_2048) : (⟨S8x4096x2048, .f32⟩ : BufTy).Contents (Elt F))⟩, ⟨S8x4096x2048, ((Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf (extractStridedSlice S8x4096x2048 ![0, 0, 4096] (Host.dotGeneral dot_S8x4096x1024_S1024x8192_S8x4096x8192_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x8192 ![0, 0, 0] (m ((c.tc : Thread nD τ).loc main_arg3)) slices_S2x1024x8192_S1x1024x8192_0_0_0) shapeCasts_S1x1024x8192_S1024x8192) bitsLt_bf16_f32)) slices_S8x4096x8192_S8x4096x2048_0_0_4096))))) : (⟨S8x4096x2048, .f32⟩ : BufTy).Contents (Elt F))⟩, ⟨S8x4096x2048, ((mulf (extractStridedSlice S8x4096x2048 ![0, 0, 6144] (Host.dotGeneral dot_S8x4096x1024_S1024x8192_S8x4096x8192_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x8192 ![0, 0, 0] (m ((c.tc : Thread nD τ).loc main_arg3)) slices_S2x1024x8192_S1x1024x8192_0_0_0) shapeCasts_S1x1024x8192_S1024x8192) bitsLt_bf16_f32)) slices_S8x4096x8192_S8x4096x2048_0_0_6144) (Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf (extractStridedSlice S8x4096x2048 ![0, 0, 6144] (Host.dotGeneral dot_S8x4096x1024_S1024x8192_S8x4096x8192_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x8192 ![0, 0, 0] (m ((c.tc : Thread nD τ).loc main_arg3)) slices_S2x1024x8192_S1x1024x8192_0_0_0) shapeCasts_S1x1024x8192_S1024x8192) bitsLt_bf16_f32)) slices_S8x4096x8192_S8x4096x2048_0_0_6144)))))) : (⟨S8x4096x2048, .f32⟩ : BufTy).Contents (Elt F))⟩, ⟨S8x4096x1024, ((extractStridedSlice S8x4096x1024 ![0, 0, 0] (Host.dotGeneral dot_S8x4096x1024_S1024x6144_S8x4096x6144_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x6144 ![0, 0, 0] (m ((c.tc : Thread nD τ).loc main_arg4)) slices_S2x1024x6144_S1x1024x6144_0_0_0) shapeCasts_S1x1024x6144_S1024x6144) bitsLt_bf16_f32)) slices_S8x4096x6144_S8x4096x1024_0_0_0) : (⟨S8x4096x1024, .f32⟩ : BufTy).Contents (Elt F))⟩, ⟨S8x4096x1024, ((extractStridedSlice S8x4096x1024 ![0, 0, 1024] (Host.dotGeneral dot_S8x4096x1024_S1024x6144_S8x4096x6144_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x6144 ![0, 0, 0] (m ((c.tc : Thread nD τ).loc main_arg4)) slices_S2x1024x6144_S1x1024x6144_0_0_0) shapeCasts_S1x1024x6144_S1024x6144) bitsLt_bf16_f32)) slices_S8x4096x6144_S8x4096x1024_0_0_1024) : (⟨S8x4096x1024, .f32⟩ : BufTy).Contents (Elt F))⟩, ⟨S8x4096x1024, ((extractStridedSlice S8x4096x1024 ![0, 0, 2048] (Host.dotGeneral dot_S8x4096x1024_S1024x6144_S8x4096x6144_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x6144 ![0, 0, 0] (m ((c.tc : Thread nD τ).loc main_arg4)) slices_S2x1024x6144_S1x1024x6144_0_0_0) shapeCasts_S1x1024x6144_S1024x6144) bitsLt_bf16_f32)) slices_S8x4096x6144_S8x4096x1024_0_0_2048) : (⟨S8x4096x1024, .f32⟩ : BufTy).Contents (Elt F))⟩, ⟨S8x4096x1024, ((mulf (extractStridedSlice S8x4096x1024 ![0, 0, 3072] (Host.dotGeneral dot_S8x4096x1024_S1024x6144_S8x4096x6144_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x6144 ![0, 0, 0] (m ((c.tc : Thread nD τ).loc main_arg4)) slices_S2x1024x6144_S1x1024x6144_0_0_0) shapeCasts_S1x1024x6144_S1024x6144) bitsLt_bf16_f32)) slices_S8x4096x6144_S8x4096x1024_0_0_3072) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 3072] (Host.dotGeneral dot_S8x4096x1024_S1024x6144_S8x4096x6144_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x6144 ![0, 0, 0] (m ((c.tc : Thread nD τ).loc main_arg4)) slices_S2x1024x6144_S1x1024x6144_0_0_0) shapeCasts_S1x1024x6144_S1024x6144) bitsLt_bf16_f32)) slices_S8x4096x6144_S8x4096x1024_0_0_3072)))))) : (⟨S8x4096x1024, .f32⟩ : BufTy).Contents (Elt F))⟩, ⟨S8x4096x1024, ((Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 4096] (Host.dotGeneral dot_S8x4096x1024_S1024x6144_S8x4096x6144_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x6144 ![0, 0, 0] (m ((c.tc : Thread nD τ).loc main_arg4)) slices_S2x1024x6144_S1x1024x6144_0_0_0) shapeCasts_S1x1024x6144_S1024x6144) bitsLt_bf16_f32)) slices_S8x4096x6144_S8x4096x1024_0_0_4096))))) : (⟨S8x4096x1024, .f32⟩ : BufTy).Contents (Elt F))⟩, ⟨S8x4096x1024, ((Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 5120] (Host.dotGeneral dot_S8x4096x1024_S1024x6144_S8x4096x6144_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x6144 ![0, 0, 0] (m ((c.tc : Thread nD τ).loc main_arg4)) slices_S2x1024x6144_S1x1024x6144_0_0_0) shapeCasts_S1x1024x6144_S1024x6144) bitsLt_bf16_f32)) slices_S8x4096x6144_S8x4096x1024_0_0_5120))))) : (⟨S8x4096x1024, .f32⟩ : BufTy).Contents (Elt F))⟩] concatenates_S8x4096x2048_S8x4096x2048_S8x4096x2048_S8x4096x1024_S8x4096x1024_S8x4096x1024_S8x4096x1024_S8x4096x1024_S8x4096x1024_S8x4096x12288_d2 : (⟨S8x4096x12288, .f32⟩ : BufTy).Contents (Elt F))) bitsLt_bf16_f32) shapeCasts_S8x4096x12288_S32768x12288

set_option maxRecDepth 8192 in
set_option maxHeartbeats 56800000 in
/-- Every fair execution of the reference ends, with each result the term of its operations and the arguments as
    they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v102) = res_main_v102 m c
      ∧ r.2.mem ((c.tc : Thread nD τ).loc main_v104) = res_main_v104 m c
      ∧ r.2.mem ((c.tc : Thread nD τ).loc main_v105) = shapeCast _ (Host.dotGeneral dot_S8x4096x1024_S1024x128_S8x4096x128_2_0_01_1_n_n none (addf (mulf (mulf (mulf (shapeCast _ (m ((c.tc : Thread nD τ).loc main_arg0)) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (m ((c.tc : Thread nD τ).loc main_arg0)) shapeCasts_S32768x1024_S8x4096x1024) (shapeCast _ (m ((c.tc : Thread nD τ).loc main_arg0)) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (m ((c.tc : Thread nD τ).loc main_arg1))))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (m ((c.tc : Thread nD τ).loc main_arg2)) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (m ((c.tc : Thread nD τ).loc main_arg2)) shapeCasts_S8x1x3072_S8x3072) slices_S8x3072_S8x1024_0_0)))) (extf .f32 (shapeCast _ (extractStridedSlice S1x1024x128 ![0, 0, 0] (m ((c.tc : Thread nD τ).loc main_arg5)) slices_S2x1024x128_S1x1024x128_0_0_0) shapeCasts_S1x1024x128_S1024x128) bitsLt_bf16_f32)) shapeCasts_S8x4096x128_S32768x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v102).trans (by simp only [ops, TRef.binary, TRef.nullary, TRef.unary, TRef.toBuf, TRef.ofBuf, cast_eq]; after_results_simp <;> (try dsimp only [Matrix.cons_val]) <;> (try after_results_simp) <;> rfl <;> (unfold res_main_v102; rfl)),
      (h c main_v104).trans (by simp only [ops, TRef.binary, TRef.nullary, TRef.unary, TRef.toBuf, TRef.ofBuf, cast_eq]; after_results_simp <;> (try dsimp only [Matrix.cons_val]) <;> (try after_results_simp) <;> rfl <;> (unfold res_main_v104; rfl)),
      (h c main_v105).trans (by simp only [ops, TRef.binary, TRef.nullary, TRef.unary, TRef.toBuf, TRef.ofBuf, cast_eq]; after_results_simp <;> (try dsimp only [Matrix.cons_val]) <;> (try after_results_simp) <;> rfl),
      (h c main_arg0).trans (by simp only [ops, TRef.binary, TRef.nullary, TRef.unary, TRef.toBuf, TRef.ofBuf, cast_eq]; after_results_simp <;> (try dsimp only [Matrix.cons_val]) <;> (try after_results_simp) <;> rfl),
      (h c main_arg1).trans (by simp only [ops, TRef.binary, TRef.nullary, TRef.unary, TRef.toBuf, TRef.ofBuf, cast_eq]; after_results_simp <;> (try dsimp only [Matrix.cons_val]) <;> (try after_results_simp) <;> rfl),
      (h c main_arg2).trans (by simp only [ops, TRef.binary, TRef.nullary, TRef.unary, TRef.toBuf, TRef.ofBuf, cast_eq]; after_results_simp <;> (try dsimp only [Matrix.cons_val]) <;> (try after_results_simp) <;> rfl),
      (h c main_arg3).trans (by simp only [ops, TRef.binary, TRef.nullary, TRef.unary, TRef.toBuf, TRef.ofBuf, cast_eq]; after_results_simp <;> (try dsimp only [Matrix.cons_val]) <;> (try after_results_simp) <;> rfl),
      (h c main_arg4).trans (by simp only [ops, TRef.binary, TRef.nullary, TRef.unary, TRef.toBuf, TRef.ofBuf, cast_eq]; after_results_simp <;> (try dsimp only [Matrix.cons_val]) <;> (try after_results_simp) <;> rfl),
      (h c main_arg5).trans (by simp only [ops, TRef.binary, TRef.nullary, TRef.unary, TRef.toBuf, TRef.ofBuf, cast_eq]; after_results_simp <;> (try dsimp only [Matrix.cons_val]) <;> (try after_results_simp) <;> rfl),
      (h c main_arg6).trans (by simp only [ops, TRef.binary, TRef.nullary, TRef.unary, TRef.toBuf, TRef.ofBuf, cast_eq]; after_results_simp <;> (try dsimp only [Matrix.cons_val]) <;> (try after_results_simp) <;> rfl),
      (h c main_arg7).trans (by simp only [ops, TRef.binary, TRef.nullary, TRef.unary, TRef.toBuf, TRef.ofBuf, cast_eq]; after_results_simp <;> (try dsimp only [Matrix.cons_val]) <;> (try after_results_simp) <;> rfl)⟩)
    (run_seq scopedRefs_eq scopedSems_eq defs main (fun _ => ops) main_eq (fun _ => ops_sub) m ρ)

end Cert.Reference3Ideal.Ops

end
-- ==== Proof.InRef.lean ====
module

public import proofs.«01_k».proof.Proof.InRun
public import proofs.«01_k».proof.Proof.InSpec

/-! The input projections' reference over the extended reals, element by element. -/

@[expose] public section

set_option maxRecDepth 16384

noncomputable section

namespace Cert.Reference3Ideal.Body

open Idealize.ShloMosaic Idealize.ShloMosaic.TcCoe Idealize.SL.Sem Idealize.ShloMosaic.StableHlo
open Cert.Reference3Ideal Cert.Reference3Ideal.Gen Cert.Inproj

/-- The modulated norm. -/
def hA (a0 : FVec Ideal S32768x1024 .f32) (a1 : FVec Ideal S1024 .f32) (a2 : FVec Ideal S8x1x3072 .f32) : FVec Ideal S8x4096x1024 .f32 :=
  addf (mulf (mulf (mulf (shapeCast _ (a0) shapeCasts_S32768x1024_S8x4096x1024) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (shapeCast _ (a0) shapeCasts_S32768x1024_S8x4096x1024) (shapeCast _ (a0) shapeCasts_S32768x1024_S8x4096x1024)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (a1)))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (shapeCast _ (a2) shapeCasts_S8x1x3072_S8x3072) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (shapeCast _ (a2) shapeCasts_S8x1x3072_S8x3072) slices_S8x3072_S8x1024_0_0)))

/-- The first group of projections, the second, and the gates. -/
def loA (h : FVec Ideal S8x4096x1024 .f32) (a3 : FVec Ideal S2x1024x8192 .bf16) : FVec Ideal S8x4096x8192 .f32 :=
  Host.dotGeneral dot_S8x4096x1024_S1024x8192_S8x4096x8192_2_0_01_1_n_n none h (extf .f32 (shapeCast _ (extractStridedSlice S1x1024x8192 ![0, 0, 0] a3 slices_S2x1024x8192_S1x1024x8192_0_0_0) shapeCasts_S1x1024x8192_S1024x8192) bitsLt_bf16_f32)
@[inherit_doc loA] def hiA (h : FVec Ideal S8x4096x1024 .f32) (a4 : FVec Ideal S2x1024x6144 .bf16) : FVec Ideal S8x4096x6144 .f32 :=
  Host.dotGeneral dot_S8x4096x1024_S1024x6144_S8x4096x6144_2_0_01_1_n_n none h (extf .f32 (shapeCast _ (extractStridedSlice S1x1024x6144 ![0, 0, 0] a4 slices_S2x1024x6144_S1x1024x6144_0_0_0) shapeCasts_S1x1024x6144_S1024x6144) bitsLt_bf16_f32)
@[inherit_doc loA] def gateA (h : FVec Ideal S8x4096x1024 .f32) (a5 : FVec Ideal S2x1024x128 .bf16) : FVec Ideal S8x4096x128 .f32 :=
  Host.dotGeneral dot_S8x4096x1024_S1024x128_S8x4096x128_2_0_01_1_n_n none h (extf .f32 (shapeCast _ (extractStridedSlice S1x1024x128 ![0, 0, 0] a5 slices_S2x1024x128_S1x1024x128_0_0_0) shapeCasts_S1x1024x128_S1024x128) bitsLt_bf16_f32)

/-- The first 2048 columns, after three tokens of zeros. -/
def padA (lo : FVec Ideal S8x4096x8192 .f32) : FVec Ideal S8x4099x2048 .f32 :=
  pad S8x4099x2048 ![0, 3, 0] ![0, 0, 0] ![0, 0, 0] (extractStridedSlice S8x4096x2048 ![0, 0, 0] lo slices_S8x4096x8192_S8x4096x2048_0_0_0) (sitofp .f32 (constantI S_ 32 0#32)) pads_S8x4096x2048_S8x4099x2048_000_300_000 h_S_

/-- One tap of the convolution, over every token. -/
def tap3 (a6 : FVec Ideal S4x2048 .f32) : FVec Ideal S8x4096x2048 .f32 :=
  broadcastInDim S8x4096x2048 ![0, 1, 2] bcast_S1x1x2048_S8x4096x2048_0_1_2 (broadcastInDim S1x1x2048 ![2] bcast_S2048_S1x1x2048_2 (shapeCast _ (extractStridedSlice S1x2048 ![3, 0] a6 slices_S4x2048_S1x2048_3_0) shapeCasts_S1x2048_S2048))
@[inherit_doc tap3] def tap0 (a6 : FVec Ideal S4x2048 .f32) : FVec Ideal S8x4096x2048 .f32 :=
  broadcastInDim S8x4096x2048 ![0, 1, 2] bcast_S1x1x2048_S8x4096x2048_0_1_2 (broadcastInDim S1x1x2048 ![2] bcast_S2048_S1x1x2048_2 (shapeCast _ (extractStridedSlice S1x2048 ![0, 0] a6 slices_S4x2048_S1x2048_0_0) shapeCasts_S1x2048_S2048))
@[inherit_doc tap3] def tap1 (a6 : FVec Ideal S4x2048 .f32) : FVec Ideal S8x4096x2048 .f32 :=
  broadcastInDim S8x4096x2048 ![0, 1, 2] bcast_S1x1x2048_S8x4096x2048_0_1_2 (broadcastInDim S1x1x2048 ![2] bcast_S2048_S1x1x2048_2 (shapeCast _ (extractStridedSlice S1x2048 ![1, 0] a6 slices_S4x2048_S1x2048_1_0) shapeCasts_S1x2048_S2048))
@[inherit_doc tap3] def tap2 (a6 : FVec Ideal S4x2048 .f32) : FVec Ideal S8x4096x2048 .f32 :=
  broadcastInDim S8x4096x2048 ![0, 1, 2] bcast_S1x1x2048_S8x4096x2048_0_1_2 (broadcastInDim S1x1x2048 ![2] bcast_S2048_S1x1x2048_2 (shapeCast _ (extractStridedSlice S1x2048 ![2, 0] a6 slices_S4x2048_S1x2048_2_0) shapeCasts_S1x2048_S2048))

/-- The causal convolution. -/
def convA (p : FVec Ideal S8x4099x2048 .f32) (a6 : FVec Ideal S4x2048 .f32) (a7 : FVec Ideal S2048 .f32) : FVec Ideal S8x4096x2048 .f32 :=
  addf (addf (addf (addf (mulf (extractStridedSlice S8x4096x2048 ![0, 3, 0] p slices_S8x4099x2048_S8x4096x2048_0_3_0) (tap3 a6))
    (broadcastInDim S8x4096x2048 ![0, 1, 2] bcast_S1x1x2048_S8x4096x2048_0_1_2 (broadcastInDim S1x1x2048 ![2] bcast_S2048_S1x1x2048_2 a7)))
    (mulf (extractStridedSlice S8x4096x2048 ![0, 0, 0] p slices_S8x4099x2048_S8x4096x2048_0_0_0) (tap0 a6)))
    (mulf (extractStridedSlice S8x4096x2048 ![0, 1, 0] p slices_S8x4099x2048_S8x4096x2048_0_1_0) (tap1 a6)))
    (mulf (extractStridedSlice S8x4096x2048 ![0, 2, 0] p slices_S8x4099x2048_S8x4096x2048_0_2_0) (tap2 a6))

/-- The logistic of 2048 columns, and of 1024. -/
def sigA (v : FVec Ideal S8x4096x2048 .f32) : FVec Ideal S8x4096x2048 .f32 :=
  Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf v)))
@[inherit_doc sigA] def sigB (v : FVec Ideal S8x4096x1024 .f32) : FVec Ideal S8x4096x1024 .f32 :=
  Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf v)))

/-- The projections side by side. -/
def catA (lo : FVec Ideal S8x4096x8192 .f32) (hi : FVec Ideal S8x4096x6144 .f32) : FVec Ideal S8x4096x12288 .f32 :=
  concatenate S8x4096x12288 2 [⟨S8x4096x2048, extractStridedSlice S8x4096x2048 ![0, 0, 2048] lo slices_S8x4096x8192_S8x4096x2048_0_0_2048⟩,
    ⟨S8x4096x2048, sigA (extractStridedSlice S8x4096x2048 ![0, 0, 4096] lo slices_S8x4096x8192_S8x4096x2048_0_0_4096)⟩,
    ⟨S8x4096x2048, mulf (extractStridedSlice S8x4096x2048 ![0, 0, 6144] lo slices_S8x4096x8192_S8x4096x2048_0_0_6144) (sigA (extractStridedSlice S8x4096x2048 ![0, 0, 6144] lo slices_S8x4096x8192_S8x4096x2048_0_0_6144))⟩,
    ⟨S8x4096x1024, extractStridedSlice S8x4096x1024 ![0, 0, 0] hi slices_S8x4096x6144_S8x4096x1024_0_0_0⟩,
    ⟨S8x4096x1024, extractStridedSlice S8x4096x1024 ![0, 0, 1024] hi slices_S8x4096x6144_S8x4096x1024_0_0_1024⟩,
    ⟨S8x4096x1024, extractStridedSlice S8x4096x1024 ![0, 0, 2048] hi slices_S8x4096x6144_S8x4096x1024_0_0_2048⟩,
    ⟨S8x4096x1024, mulf (extractStridedSlice S8x4096x1024 ![0, 0, 3072] hi slices_S8x4096x6144_S8x4096x1024_0_0_3072) (sigB (extractStridedSlice S8x4096x1024 ![0, 0, 3072] hi slices_S8x4096x6144_S8x4096x1024_0_0_3072))⟩,
    ⟨S8x4096x1024, sigB (extractStridedSlice S8x4096x1024 ![0, 0, 4096] hi slices_S8x4096x6144_S8x4096x1024_0_0_4096)⟩,
    ⟨S8x4096x1024, sigB (extractStridedSlice S8x4096x1024 ![0, 0, 5120] hi slices_S8x4096x6144_S8x4096x1024_0_0_5120)⟩]
    concatenates_S8x4096x2048_S8x4096x2048_S8x4096x2048_S8x4096x1024_S8x4096x1024_S8x4096x1024_S8x4096x1024_S8x4096x1024_S8x4096x1024_S8x4096x12288_d2

section Arrays

variable (A : Args)

theorem lo_of (r : Fin 32768) {a b : ℕ} {ha : a < 8192} {hb : b < 8192} (h : a = b) : A.lo r ⟨a, ha⟩ = A.lo r ⟨b, hb⟩ := congrArg (A.lo r) (Fin.ext h)
theorem hi_of (r : Fin 32768) {a b : ℕ} {ha : a < 6144} {hb : b < 6144} (h : a = b) : A.hi r ⟨a, ha⟩ = A.hi r ⟨b, hb⟩ := congrArg (A.hi r) (Fin.ext h)

theorem hA_apply (b : Fin 8) (t : Fin 4096) (k : Fin 1024) :
    hA A.x A.g A.mod (ix3 b t k) = A.h ⟨b.val * 4096 + t.val, by omega⟩ k := by
  unfold hA
  pointwise
  have hb : (⟨(b.val * 4096 + t.val) / 4096, by omega⟩ : Fin 8) = b := Fin.ext (by show (b.val * 4096 + t.val) / 4096 = b.val; omega)
  unfold Args.h
  rw [hb]

theorem loA_apply (b : Fin 8) (t : Fin 4096) (e : Fin 8192) :
    loA (hA A.x A.g A.mod) A.wl (ix3 b t e) = A.lo ⟨b.val * 4096 + t.val, by omega⟩ e := by
  unfold loA
  pointwise
  simp only [hA_apply]
  rfl

theorem hiA_apply (b : Fin 8) (t : Fin 4096) (e : Fin 6144) :
    hiA (hA A.x A.g A.mod) A.wh (ix3 b t e) = A.hi ⟨b.val * 4096 + t.val, by omega⟩ e := by
  unfold hiA
  pointwise
  simp only [hA_apply]
  rfl

theorem gateA_apply (b : Fin 8) (t : Fin 4096) (e : Fin 128) :
    gateA (hA A.x A.g A.mod) A.wg (ix3 b t e) = A.gates ⟨b.val * 4096 + t.val, by omega⟩ e := by
  unfold gateA
  pointwise
  simp only [hA_apply]
  rfl

theorem sigA_apply (v : FVec Ideal S8x4096x2048 .f32) (b : Fin 8) (t : Fin 4096) (e : Fin 2048) : sigA v (ix3 b t e) = Ideal.logistic (v (ix3 b t e)) := by
  unfold sigA
  pointwise
  rfl

theorem sigB_apply (v : FVec Ideal S8x4096x1024 .f32) (b : Fin 8) (t : Fin 4096) (e : Fin 1024) : sigB v (ix3 b t e) = Ideal.logistic (v (ix3 b t e)) := by
  unfold sigB
  pointwise
  rfl

theorem padA_apply (lo : FVec Ideal S8x4096x8192 .f32) (b : Fin 8) (t : Fin 4099) (e : Fin 2048) :
    padA lo (ix3 b t e) = if h : 3 ≤ t.val then lo (ix3 b ⟨t.val - 3, by omega⟩ ⟨e.val, by omega⟩) else 0 := by
  unfold padA
  pointwise
  have h0 : (FloatOps.sitofp FTy.f32 0#32 : Ideal .f32) = (0 : EReal) := by
    show (((0#32 : BitVec 32).toInt : ℝ) : EReal) = 0
    simp
  by_cases h : 3 ≤ t.val
  · rw [dif_pos h, dif_pos ⟨h, by omega⟩]
  · rw [dif_neg h, dif_neg (fun hh => h hh.1)]
    exact h0

theorem convA_apply (p : FVec Ideal S8x4099x2048 .f32) (a6 : FVec Ideal S4x2048 .f32) (a7 : FVec Ideal S2048 .f32) (b : Fin 8) (t : Fin 4096) (e : Fin 2048) :
    convA p a6 a7 (ix3 b t e) = p (ix3 b ⟨3 + t.val, by omega⟩ e) * a6 (ix2 3 e) + a7 (ix1 e) + p (ix3 b ⟨0 + t.val, by omega⟩ e) * a6 (ix2 0 e)
      + p (ix3 b ⟨1 + t.val, by omega⟩ e) * a6 (ix2 1 e) + p (ix3 b ⟨2 + t.val, by omega⟩ e) * a6 (ix2 2 e) := by
  unfold convA tap0 tap1 tap2 tap3
  pointwise

theorem catA_apply (b : Fin 8) (t : Fin 4096) (e : Fin 12288) :
    catA (loA (hA A.x A.g A.mod) A.wl) (hiA (hA A.x A.g A.mod) A.wh) (ix3 b t e) = A.out ⟨b.val * 4096 + t.val, by omega⟩ e := by
  unfold catA
  pointwise
  simp only [sigA_apply, sigB_apply]
  pointwise
  simp only [loA_apply, hiA_apply]
  unfold Args.out
  by_cases h1 : e.val < 2048
  · rw [dif_pos h1, dif_pos h1]
  rw [dif_neg h1, dif_neg h1]
  by_cases h2 : e.val - 2048 < 2048
  · rw [dif_pos h2, dif_pos (show e.val < 4096 by omega)]
    exact congrArg Ideal.logistic (lo_of A _ (by omega))
  rw [dif_neg h2, dif_neg (show ¬e.val < 4096 by omega)]
  by_cases h3 : e.val - 2048 - 2048 < 2048
  · rw [dif_pos h3, dif_pos (show e.val < 6144 by omega)]
    exact congrArg silu (lo_of A _ (by omega))
  rw [dif_neg h3, dif_neg (show ¬e.val < 6144 by omega)]
  by_cases h4 : e.val - 2048 - 2048 - 2048 < 1024
  · rw [dif_pos h4, if_pos (show e.val < 9216 by omega)]
    exact hi_of A _ (by omega)
  rw [dif_neg h4]
  by_cases h5 : e.val - 2048 - 2048 - 2048 - 1024 < 1024
  · rw [dif_pos h5, if_pos (show e.val < 9216 by omega)]
    exact hi_of A _ (by omega)
  rw [dif_neg h5]
  by_cases h6 : e.val - 2048 - 2048 - 2048 - 1024 - 1024 < 1024
  · rw [dif_pos h6, if_pos (show e.val < 9216 by omega)]
    exact hi_of A _ (by omega)
  rw [dif_neg h6]
  by_cases h7 : e.val - 2048 - 2048 - 2048 - 1024 - 1024 - 1024 < 1024
  · rw [dif_pos h7, if_neg (show ¬e.val < 9216 by omega), if_pos (show e.val < 10240 by omega)]
    exact congrArg silu (hi_of A _ (by omega))
  rw [dif_neg h7]
  by_cases h8 : e.val - 2048 - 2048 - 2048 - 1024 - 1024 - 1024 - 1024 < 1024
  · rw [dif_pos h8, if_neg (show ¬e.val < 9216 by omega), if_neg (show ¬e.val < 10240 by omega)]
    exact congrArg Ideal.logistic (hi_of A _ (by omega))
  rw [dif_neg h8]
  rw [if_neg (show ¬e.val < 9216 by omega), if_neg (show ¬e.val < 10240 by omega)]
  exact congrArg Ideal.logistic (hi_of A _ (by omega))

/-- What the convolution reads `d` tokens back. -/
theorem pad_back (d : ℕ) (a : ℕ) (had : a + d = 3) (b : Fin 8) (t : Fin 4096) (e : Fin 2048) :
    padA (loA (hA A.x A.g A.mod) A.wl) (ix3 b ⟨a + t.val, by omega⟩ e) = A.back d ⟨b.val * 4096 + t.val, by omega⟩ e := by
  rw [padA_apply]
  unfold Args.back
  by_cases h : d ≤ t.val
  · rw [dif_pos (by show 3 ≤ a + t.val; omega), if_pos (by show d ≤ (b.val * 4096 + t.val) % 4096; omega), loA_apply]
    exact congrArg (fun r => A.lo r ⟨e.val, by omega⟩) (Fin.ext (by show b.val * 4096 + (a + t.val - 3) = b.val * 4096 + t.val - d; omega))
  · rw [dif_neg (by show ¬3 ≤ a + t.val; omega), if_neg (by show ¬d ≤ (b.val * 4096 + t.val) % 4096; omega)]

theorem back_zero (r : Fin 32768) (e : Fin 2048) : A.back 0 r e = A.lo r ⟨e.val, by omega⟩ := by
  unfold Args.back
  rw [if_pos (Nat.zero_le _)]
  rfl

theorem conv_apply (b : Fin 8) (t : Fin 4096) (e : Fin 2048) :
    convA (padA (loA (hA A.x A.g A.mod) A.wl)) A.cw A.cb (ix3 b t e) = A.conv ⟨b.val * 4096 + t.val, by omega⟩ e := by
  rw [convA_apply, pad_back A 0 3 rfl, pad_back A 3 0 rfl, pad_back A 2 1 rfl, pad_back A 1 2 rfl, back_zero]
  rfl

/-- The three results, from the arguments. -/
def projR : FVec Ideal S32768x12288 .bf16 :=
  shapeCast _ (truncf .bf16 (catA (loA (hA A.x A.g A.mod) A.wl) (hiA (hA A.x A.g A.mod) A.wh)) bitsLt_bf16_f32) shapeCasts_S8x4096x12288_S32768x12288
@[inherit_doc projR] def convR : FVec Ideal S32768x2048 .bf16 :=
  shapeCast _ (truncf .bf16 (mulf (convA (padA (loA (hA A.x A.g A.mod) A.wl)) A.cw A.cb) (sigA (convA (padA (loA (hA A.x A.g A.mod) A.wl)) A.cw A.cb))) bitsLt_bf16_f32)
    shapeCasts_S8x4096x2048_S32768x2048
@[inherit_doc projR] def gateR : FVec Ideal S32768x128 .f32 :=
  shapeCast _ (gateA (hA A.x A.g A.mod) A.wg) shapeCasts_S8x4096x128_S32768x128

theorem token (r : Fin 32768) : (⟨r.val / 4096 * 4096 + r.val % 4096, by omega⟩ : Fin 32768) = r :=
  Fin.ext (by show r.val / 4096 * 4096 + r.val % 4096 = r.val; omega)

theorem projR_apply (r : Fin 32768) (e : Fin 12288) : projR A (ix2 r e) = A.out r e := by
  unfold projR
  pointwise
  rw [catA_apply]
  exact congrArg (fun r => A.out r e) (token r)

theorem convR_apply (r : Fin 32768) (e : Fin 2048) : convR A (ix2 r e) = silu (A.conv r e) := by
  unfold convR
  pointwise
  simp only [sigA_apply, conv_apply]
  exact congrArg (fun r => silu (A.conv r e)) (token r)

theorem gateR_apply (r : Fin 32768) (e : Fin 128) : gateR A (ix2 r e) = A.gates r e := by
  unfold gateR
  pointwise
  rw [gateA_apply]
  exact congrArg (fun r => A.gates r e) (token r)

end Arrays

variable (m : (ℓ : Loc nD τ sig) → Buf (Elt Ideal) ℓ) (c : Dev nD)

/-- The arguments' contents. -/
def args : Args where
  x := m ((c.tc : Thread nD τ).loc main_arg0)
  g := m ((c.tc : Thread nD τ).loc main_arg1)
  mod := m ((c.tc : Thread nD τ).loc main_arg2)
  wl := m ((c.tc : Thread nD τ).loc main_arg3)
  wh := m ((c.tc : Thread nD τ).loc main_arg4)
  wg := m ((c.tc : Thread nD τ).loc main_arg5)
  cw := m ((c.tc : Thread nD τ).loc main_arg6)
  cb := m ((c.tc : Thread nD τ).loc main_arg7)

/-- The reference's terms are its stages, one after the other. -/
theorem staged_proj : Ops.res_main_v102 m c = projR (args m c) := by
  unfold Ops.res_main_v102 projR catA loA hiA sigA sigB hA args
  rfl
theorem staged_conv : Ops.res_main_v104 m c = convR (args m c) := by
  unfold Ops.res_main_v104 convR convA padA loA sigA hA tap0 tap1 tap2 tap3 args
  rfl

/-- Every fair execution of the reference ends with the three results and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v102) = projR (args m c)
      ∧ r.2.mem ((c.tc : Thread nD τ).loc main_v104) = convR (args m c)
      ∧ r.2.mem ((c.tc : Thread nD τ).loc main_v105) = gateR (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (staged_proj m c), (h c).2.1.trans (staged_conv m c),
    (h c).2.2.1.trans (by unfold gateR gateA hA args; rfl), (h c).2.2.2⟩) (Ops.run (F := Ideal) m ρ)

end Cert.Reference3Ideal.Body

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gates
public import proofs.«01_k».proof.Proof.Grid
public import proofs.«01_k».proof.Proof.RefRun
public import proofs.«01_k».proof.Proof.MergeGrid
public import proofs.«01_k».proof.Proof.MergeRef
public import proofs.«01_k».proof.Proof.InBits
public import proofs.«01_k».proof.Proof.InGrid
public import proofs.«01_k».proof.Proof.InRef
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were and holds no semaphore. -/
theorem frame_r : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Two tables that agree in every row and column are equal. -/
theorem ext2 {a b : FVec Ideal (⟨2, ![32768, 2048]⟩ : Shape) .bf16} (h : ∀ (r : Fin 32768) (e : Fin 2048), a (ix2 r e) = b (ix2 r e)) : a = b :=
  funext fun x => by
    have hx : ix2 (x 0) (x 1) = x := funext fun k => by fin_cases k <;> rfl
    exact (congrArg a hx).symm.trans ((h (x 0) (x 1)).trans (congrArg b hx))

/-- The kernel and the reference end with the same result over the extended reals. -/
theorem algebraic : Cert.algebraic_KernelIdeal_ReferenceIdeal_pre_input_gates_below_inf := by
  intro m g m' g' hpre hin
  have hX : ∀ (c : Dev Cert.KernelIdeal.nD) b h k, (Cert.Mlstm.data (Cert.KernelIdeal.Grid.arg0 m c) (Cert.KernelIdeal.Grid.arg1 m c)
      (Cert.KernelIdeal.Grid.arg2 m c) (Cert.KernelIdeal.Grid.arg3 m c) b h k).Tame := fun c =>
    Cert.Mlstm.data_tame _ _ _ _ (fun r h => Cert.Pre_input_gates_below_inf.gate_lt_top _ _ _ _ (hpre c) r h)
  refine ⟨fun c => Cert.KernelIdeal.Value.G4 m c, Cert.KernelIdeal.Value.run m g,
    (θ_run Cert.ReferenceIdeal.defs _ _).mono (fun r h c => ⟨(h c).1.trans ?_, (h c).2⟩)
      (Cert.ReferenceIdeal.Value.run (F := Ideal) m' g')⟩
  have e0 : Cert.ReferenceIdeal.Trip.arg0 m' c = Cert.KernelIdeal.Grid.arg0 m c := (hin c).1
  have e1 : Cert.ReferenceIdeal.Trip.arg1 m' c = Cert.KernelIdeal.Grid.arg1 m c := (hin c).2.1
  have e2 : Cert.ReferenceIdeal.Trip.arg2 m' c = Cert.KernelIdeal.Grid.arg2 m c := (hin c).2.2.1
  have e3 : Cert.ReferenceIdeal.Trip.arg3 m' c = Cert.KernelIdeal.Grid.arg3 m c := (hin c).2.2.2
  have hX' : ∀ b h k, (Cert.Mlstm.data (Cert.ReferenceIdeal.Trip.arg0 m' c) (Cert.ReferenceIdeal.Trip.arg1 m' c)
      (Cert.ReferenceIdeal.Trip.arg2 m' c) (Cert.ReferenceIdeal.Trip.arg3 m' c) b h k).Tame := by
    rw [e0, e1, e2, e3]
    exact hX c
  refine ext2 fun i e => ?_
  have hr := Cert.ReferenceIdeal.Trip.reference_result m' c hX' i e
  rw [e0, e1, e2, e3] at hr
  exact hr.trans (Cert.KernelIdeal.Grid.kernel_result m c i e).symm

/-- The merge's reference runs, leaves its arguments as they were and holds no semaphore. -/
theorem frame_r2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- Two tables of 1024 columns that agree in every row and column are equal. -/
theorem ext2' {a b : FVec Ideal (⟨2, ![32768, 1024]⟩ : Shape) .f32} (h : ∀ (r : Fin 32768) (d : Fin 1024), a (ix2 r d) = b (ix2 r d)) : a = b :=
  funext fun x => by
    have hx : ix2 (x 0) (x 1) = x := funext fun k => by fin_cases k <;> rfl
    exact (congrArg a hx).symm.trans ((h (x 0) (x 1)).trans (congrArg b hx))

/-- The merge and its reference end with the same result over the extended reals. -/
theorem algebraic2 : Cert.algebraic_Kernel2Ideal_Reference2Ideal := by
  intro m g m' g' _ hin
  refine ⟨fun c => (Cert.Kernel2Ideal.Gen.dats m 0 c).arrAt 13 Cert.Kernel2Ideal.cfg0.N, Cert.Kernel2Ideal.Value.run_blocks m g,
    (θ_run Cert.Reference2Ideal.defs _ _).mono (fun r h c => ⟨(h c).1.trans ?_, (h c).2⟩)
      (Cert.Reference2Ideal.Value.run (F := Ideal) m' g')⟩
  obtain ⟨e0, e1, e2, e3, e4, e5, e6, e7, e8, e9⟩ := hin c
  have e0 : Cert.Reference2Ideal.Body.arg0 m' c = Cert.Kernel2Ideal.Grid.arg0 m c := e0
  have e1 : Cert.Reference2Ideal.Body.arg1 m' c = Cert.Kernel2Ideal.Grid.arg1 m c := e1
  have e2 : Cert.Reference2Ideal.Body.arg2 m' c = Cert.Kernel2Ideal.Grid.arg2 m c := e2
  have e3 : Cert.Reference2Ideal.Body.arg3 m' c = Cert.Kernel2Ideal.Grid.arg3 m c := e3
  have e4 : Cert.Reference2Ideal.Body.arg4 m' c = Cert.Kernel2Ideal.Grid.arg4 m c := e4
  have e5 : Cert.Reference2Ideal.Body.arg5 m' c = Cert.Kernel2Ideal.Grid.arg5 m c := e5
  have e6 : Cert.Reference2Ideal.Body.arg6 m' c = Cert.Kernel2Ideal.Grid.arg6 m c := e6
  have e7 : Cert.Reference2Ideal.Body.arg7 m' c = Cert.Kernel2Ideal.Grid.arg7 m c := e7
  have e8 : Cert.Reference2Ideal.Body.arg8 m' c = Cert.Kernel2Ideal.Grid.arg8 m c := e8
  have e9 : Cert.Reference2Ideal.Body.arg9 m' c = Cert.Kernel2Ideal.Grid.arg9 m c := e9
  refine ext2' fun i d => ?_
  have hr := Cert.Reference2Ideal.Body.reference_result m' c i d
  rw [e0, e1, e2, e3, e4, e5, e6, e7, e8, e9] at hr
  exact hr.trans (Cert.Kernel2Ideal.Grid.kernel_result m c i d).symm

/-- The input projections' reference runs, leaves its arguments as they were and holds no semaphore. -/
theorem frame_r3 : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Body.run m ρ)

/-- Two tables that agree in every row and column are equal, whatever their shape. -/
theorem ext_table {n k : ℕ} {f : FTy} {a b : FVec Ideal (⟨2, ![n, k]⟩ : Shape) f} (h : ∀ (r : Fin n) (e : Fin k), a (ix2 r e) = b (ix2 r e)) : a = b :=
  funext fun x => by
    have hx : ix2 (x 0) (x 1) = x := funext fun k => by fin_cases k <;> rfl
    exact (congrArg a hx).symm.trans ((h (x 0) (x 1)).trans (congrArg b hx))

/-- The input projections and their reference end with the same three results over the extended reals. -/
theorem algebraic3 : Cert.algebraic_Kernel3Ideal_Reference3Ideal := by
  intro m g m' g' _ hin
  have ha : ∀ c, Cert.Reference3Ideal.Body.args m' c = Cert.Kernel3Ideal.In.args m c := by
    intro c
    obtain ⟨e0, e1, e2, e3, e4, e5, e6, e7⟩ := hin c
    unfold Cert.Reference3Ideal.Body.args Cert.Kernel3Ideal.In.args
    congr 1
  refine ⟨fun c => (Cert.Kernel3Ideal.In.dats m 0 c).arrAt 9 Cert.Kernel3Ideal.cfg0.N,
    fun c => (Cert.Kernel3Ideal.In.dats m 0 c).arrAt 10 Cert.Kernel3Ideal.cfg0.N,
    fun c => (Cert.Kernel3Ideal.In.dats m 0 c).arrAt 11 Cert.Kernel3Ideal.cfg0.N, Cert.Kernel3Ideal.In.results m g,
    (θ_run Cert.Reference3Ideal.defs _ _).mono (fun r h c => ⟨(h c).1.trans ?_, (h c).2.1.trans ?_, (h c).2.2.1.trans ?_, (h c).2.2.2⟩)
      (Cert.Reference3Ideal.Body.run m' g')⟩
  · rw [ha c]
    exact ext_table fun i e => (Cert.Reference3Ideal.Body.projR_apply _ i e).trans (Cert.Kernel3Ideal.In.proj_result m c i e).symm
  · rw [ha c]
    exact ext_table fun i e => (Cert.Reference3Ideal.Body.convR_apply _ i e).trans (Cert.Kernel3Ideal.In.conv_result m c i e).symm
  · rw [ha c]
    exact ext_table fun i e => (Cert.Reference3Ideal.Body.gateR_apply _ i e).trans (Cert.Kernel3Ideal.In.gate_result m c i e).symm

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_input_gates_below_inf.facts,
    fun m ρ _ => Cert.Kernel.Gen.frame m ρ, fun m ρ _ => Cert.KernelIdeal.Gen.frame m ρ, fun m ρ _ => Cert.KernelIdeal.Gen.frame m ρ,
    frame_r, fun m ρ _ => frame_r m ρ trivial, fun m ρ _ => Cert.Kernel2.Gen.frame m ρ, fun m ρ _ => Cert.Kernel2Ideal.Gen.frame m ρ, frame_r2,
    Cert.Kernel3.In.frame, fun m ρ _ => Cert.Kernel3Ideal.In.frame m ρ, frame_r3,
    trivial, algebraic, trivial, algebraic2, trivial, algebraic3⟩

end Cert.Proof

end
